-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_queries_and_keys_KernelIdeal [hPre_finite_queries_and_keys_KernelIdeal : Cert.Pre_finite_queries_and_keys_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_queries_and_keys_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_queries_and_keys_ReferenceIdeal [hPre_finite_queries_and_keys_ReferenceIdeal : Cert.Pre_finite_queries_and_keys_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_queries_and_keys_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_queries_and_keys_KernelIdeal [hKernelIdeal : Cert.KernelIdeal.Facts] [hPre_finite_queries_and_keys_KernelIdeal : Cert.Pre_finite_queries_and_keys_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_queries_and_keys_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_queries_and_keys_ReferenceIdeal [hReferenceIdeal : Cert.ReferenceIdeal.Facts] [hPre_finite_queries_and_keys_ReferenceIdeal : Cert.Pre_finite_queries_and_keys_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_queries_and_keys_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite_queries_and_keys_KernelIdeal [hKernelIdeal : Cert.KernelIdeal.Facts] [hReferenceIdeal : Cert.ReferenceIdeal.Facts] [hPre_finite_queries_and_keys_KernelIdeal : Cert.Pre_finite_queries_and_keys_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_queries_and_keys_KernelIdeal m →
    (∀ c : Dev Cert.KernelIdeal.nD,
      m ((c.tc : Thread Cert.KernelIdeal.nD Cert.KernelIdeal.τ).loc Cert.KernelIdeal.main_arg0) = Layout.blockN ⟨4, ![4, 256, 16, 64]⟩ ⟨4, ![4, 512, 16, 64]⟩ (Layout.meshBlock [2, 2, 4] ![[], [0], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨4, ![4, 256, 16, 64]⟩ ⟨4, ![4, 512, 16, 64]⟩ (Layout.meshBlock [2, 2, 4] ![[], [0], [], []] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨4, ![4, 256, 16, 64]⟩ ⟨4, ![4, 512, 16, 64]⟩ (Layout.meshBlock [2, 2, 4] ![[], [0], [], []] c) (m' (((0 : Dev Cert.ReferenceIdeal.nD).tc : Thread Cert.ReferenceIdeal.nD Cert.ReferenceIdeal.τ).loc Cert.ReferenceIdeal.main_arg2))) →
    ∃ (v0 : Buf (Elt Ideal) (((0 : Dev Cert.ReferenceIdeal.nD).tc : Thread Cert.ReferenceIdeal.nD Cert.ReferenceIdeal.τ).loc Cert.ReferenceIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = Layout.blockN ⟨4, ![4, 256, 16, 64]⟩ ⟨4, ![4, 512, 16, 64]⟩ (Layout.meshBlock [2, 2, 4] ![[], [0], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v13) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_queries_and_keys_KernelIdeal : Cert.Pre_finite_queries_and_keys_KernelIdeal.Facts) (hPre_finite_queries_and_keys_ReferenceIdeal : Cert.Pre_finite_queries_and_keys_ReferenceIdeal.Facts),
    quiescent_Kernel (hKernel := hKernel)
    ∧ quiescent_KernelIdeal (hKernelIdeal := hKernelIdeal)
    ∧ quiescent_KernelIdeal_pre_finite_queries_and_keys_KernelIdeal (hKernelIdeal := hKernelIdeal) (hPre_finite_queries_and_keys_KernelIdeal := hPre_finite_queries_and_keys_KernelIdeal)
    ∧ quiescent_ReferenceIdeal (hReferenceIdeal := hReferenceIdeal)
    ∧ quiescent_ReferenceIdeal_pre_finite_queries_and_keys_ReferenceIdeal (hReferenceIdeal := hReferenceIdeal) (hPre_finite_queries_and_keys_ReferenceIdeal := hPre_finite_queries_and_keys_ReferenceIdeal)
    ∧ preserves_Kernel_KernelIdeal
    ∧ algebraic_KernelIdeal_ReferenceIdeal_pre_finite_queries_and_keys_KernelIdeal (hKernelIdeal := hKernelIdeal) (hReferenceIdeal := hReferenceIdeal) (hPre_finite_queries_and_keys_KernelIdeal := hPre_finite_queries_and_keys_KernelIdeal)
-- ==== Pre_finite_queries_and_keys_KernelIdeal.lean ====
abbrev S4x256x16x64 : Shape := ⟨4, ![4, 256, 16, 64]⟩
abbrev S_ : Shape := ⟨0, ![]⟩

class Facts : Prop where
  bcast_S_S4x256x16x64 : S_.BroadcastsInDim S4x256x16x64 (![] : Fin 0 → Fin S4x256x16x64.rank)

variable [Facts]

def fn {F : FTy → Type} [FloatOps F] (main_arg0 : FVec F S4x256x16x64 .f32) (main_arg1 : FVec F S4x256x16x64 .f32) (main_arg2 : FVec F S4x256x16x64 .f32) : IVec S4x256x16x64 1 :=
  let main_v0 : FVec F S4x256x16x64 .f32 := Host.absf main_arg0
  let main_cst : FVec F S_ .f32 := constant S_ .f32 0x7F800000#32
  let main_v1 : FVec F S4x256x16x64 .f32 := broadcastInDim S4x256x16x64 ![] bcast_S_S4x256x16x64 main_cst
  let main_v2 : IVec S4x256x16x64 1 := cmpf .olt main_v0 main_v1
  let main_v3 : FVec F S4x256x16x64 .f32 := Host.absf main_arg1
  let main_cst_0 : FVec F S_ .f32 := constant S_ .f32 0x7F800000#32
  let main_v4 : FVec F S4x256x16x64 .f32 := broadcastInDim S4x256x16x64 ![] bcast_S_S4x256x16x64 main_cst_0
  let main_v5 : IVec S4x256x16x64 1 := cmpf .olt main_v3 main_v4
  let main_v6 : IVec S4x256x16x64 1 := andi main_v2 main_v5
  main_v6
-- ==== Pre_finite_queries_and_keys_ReferenceIdeal.lean ====
abbrev S4x512x16x64 : Shape := ⟨4, ![4, 512, 16, 64]⟩
abbrev S_ : Shape := ⟨0, ![]⟩

class Facts : Prop where
  bcast_S_S4x512x16x64 : S_.BroadcastsInDim S4x512x16x64 (![] : Fin 0 → Fin S4x512x16x64.rank)

variable [Facts]

def fn {F : FTy → Type} [FloatOps F] (main_arg0 : FVec F S4x512x16x64 .f32) (main_arg1 : FVec F S4x512x16x64 .f32) (main_arg2 : FVec F S4x512x16x64 .f32) : IVec S4x512x16x64 1 :=
  let main_v0 : FVec F S4x512x16x64 .f32 := Host.absf main_arg0
  let main_cst : FVec F S_ .f32 := constant S_ .f32 0x7F800000#32
  let main_v1 : FVec F S4x512x16x64 .f32 := broadcastInDim S4x512x16x64 ![] bcast_S_S4x512x16x64 main_cst
  let main_v2 : IVec S4x512x16x64 1 := cmpf .olt main_v0 main_v1
  let main_v3 : FVec F S4x512x16x64 .f32 := Host.absf main_arg1
  let main_cst_0 : FVec F S_ .f32 := constant S_ .f32 0x7F800000#32
  let main_v4 : FVec F S4x512x16x64 .f32 := broadcastInDim S4x512x16x64 ![] bcast_S_S4x512x16x64 main_cst_0
  let main_v5 : IVec S4x512x16x64 1 := cmpf .olt main_v3 main_v4
  let main_v6 : IVec S4x512x16x64 1 := andi main_v2 main_v5
  main_v6
-- ==== Kernel.lean ====
abbrev S4x256x16x64 : Shape := ⟨4, ![4, 256, 16, 64]⟩
abbrev S_ : Shape := ⟨0, ![]⟩
abbrev S1x256x16x64 : Shape := ⟨4, ![1, 256, 16, 64]⟩
abbrev S1x16x256x64 : Shape := ⟨4, ![1, 16, 256, 64]⟩
abbrev S16x256x64 : Shape := ⟨3, ![16, 256, 64]⟩
abbrev S1x16x64x256 : Shape := ⟨4, ![1, 16, 64, 256]⟩
abbrev S16x64x256 : Shape := ⟨3, ![16, 64, 256]⟩
abbrev S64x64x256 : Shape := ⟨3, ![64, 64, 256]⟩
abbrev S2x4 : Shape := ⟨2, ![2, 4]⟩
abbrev S4 : Shape := ⟨1, ![4]⟩
abbrev S1x1 : Shape := ⟨2, ![1, 1]⟩
abbrev S4x64x256 : Shape := ⟨3, ![4, 64, 256]⟩
abbrev S1x256x64 : Shape := ⟨3, ![1, 256, 64]⟩
abbrev S256x64 : Shape := ⟨2, ![256, 64]⟩
abbrev S1x64x256 : Shape := ⟨3, ![1, 64, 256]⟩
abbrev S64x256 : Shape := ⟨2, ![64, 256]⟩
abbrev S256x256 : Shape := ⟨2, ![256, 256]⟩
abbrev S256 : Shape := ⟨1, ![256]⟩
abbrev S256x1 : Shape := ⟨2, ![256, 1]⟩
abbrev S1 : Shape := ⟨1, ![1]⟩
abbrev S4x16x64x256 : Shape := ⟨4, ![4, 16, 64, 256]⟩

abbrev nBuf : Space → Nat
  | .hbm => 78
  | .vmem => 6
  | .smem => 0
  | _ => 0

abbrev bufTy : (tb : Table) → Fin (tcTables nBuf tb) → BufTy
  | .hbm, ⟨0, _⟩ => ⟨S4x256x16x64, .f32⟩
  | .hbm, ⟨1, _⟩ => ⟨S4x256x16x64, .f32⟩
  | .hbm, ⟨2, _⟩ => ⟨S4x256x16x64, .f32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i1⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S_, .i1⟩
  | .hbm, ⟨18, _⟩ => ⟨S_, .i32⟩
  | .hbm, ⟨19, _⟩ => ⟨S_, .i1⟩
  | .hbm, ⟨20, _⟩ => ⟨S_, .i32⟩
  | .hbm, ⟨21, _⟩ => ⟨S_, .i1⟩
  | .hbm, ⟨22, _⟩ => ⟨S_, .i1⟩
  | .hbm, ⟨23, _⟩ => ⟨S_, .i1⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S_, .i32⟩
  | .hbm, ⟨33, _⟩ => ⟨S_, .i32⟩
  | .hbm, ⟨34, _⟩ => ⟨S_, .i32⟩
  | .hbm, ⟨35, _⟩ => ⟨S_, .i32⟩
  | .hbm, ⟨36, _⟩ => ⟨S_, .i1⟩
  | .hbm, ⟨37, _⟩ => ⟨S_, .i32⟩
  | .hbm, ⟨38, _⟩ => ⟨S_, .i32⟩
  | .hbm, ⟨39, _⟩ => ⟨S_, .i32⟩
  | .hbm, ⟨40, _⟩ => ⟨S_, .i32⟩
  | .hbm, ⟨41, _⟩ => ⟨S_, .i32⟩
  | .hbm, ⟨42, _⟩ => ⟨S_, .i32⟩
  | .hbm, ⟨43, _⟩ => ⟨S1x256x16x64, .f32⟩
  | .hbm, ⟨44, _⟩ => ⟨S_, .i32⟩
  | .hbm, ⟨45, _⟩ => ⟨S_, .i1⟩
  | .hbm, ⟨46, _⟩ => ⟨S_, .i32⟩
  | .hbm, ⟨47, _⟩ => ⟨S_, .i32⟩
  | .hbm, ⟨48, _⟩ => ⟨S_, .i32⟩
  | .hbm, ⟨49, _⟩ => ⟨S_, .i32⟩
  | .hbm, ⟨50, _⟩ => ⟨S_, .i32⟩
  | .hbm, ⟨51, _⟩ => ⟨S_, .i32⟩
  | .hbm, ⟨52, _⟩ => ⟨S1x256x16x64, .f32⟩
  | .hbm, ⟨53, _⟩ => ⟨S_, .i32⟩
  | .hbm, ⟨54, _⟩ => ⟨S_, .i1⟩
  | .hbm, ⟨55, _⟩ => ⟨S_, .i32⟩
  | .hbm, ⟨56, _⟩ => ⟨S_, .i32⟩
  | .hbm, ⟨57, _⟩ => ⟨S_, .i32⟩
  | .hbm, ⟨58, _⟩ => ⟨S_, .i32⟩
  | .hbm, ⟨59, _⟩ => ⟨S_, .i32⟩
  | .hbm, ⟨60, _⟩ => ⟨S_, .i32⟩
  | .hbm, ⟨61, _⟩ => ⟨S1x256x16x64, .f32⟩
  | .hbm, ⟨62, _⟩ => ⟨S_, .f32⟩
  | .hbm, ⟨63, _⟩ => ⟨S1x256x16x64, .f32⟩
  | .hbm, ⟨64, _⟩ => ⟨S1x256x16x64, .f32⟩
  | .hbm, ⟨65, _⟩ => ⟨S1x256x16x64, .bf16⟩
  | .hbm, ⟨66, _⟩ => ⟨S1x16x256x64, .bf16⟩
  | .hbm, ⟨67, _⟩ => ⟨S16x256x64, .bf16⟩
  | .hbm, ⟨68, _⟩ => ⟨S1x256x16x64, .bf16⟩
  | .hbm, ⟨69, _⟩ => ⟨S1x16x64x256, .bf16⟩
  | .hbm, ⟨70, _⟩ => ⟨S16x64x256, .bf16⟩
  | .hbm, ⟨71, _⟩ => ⟨S1x256x16x64, .bf16⟩
  | .hbm, ⟨72, _⟩ => ⟨S1x16x64x256, .bf16⟩
  | .hbm, ⟨73, _⟩ => ⟨S16x64x256, .bf16⟩
  | .hbm, ⟨74, _⟩ => ⟨S64x64x256, .bf16⟩
  | .hbm, ⟨75, _⟩ => ⟨S4x16x64x256, .bf16⟩
  | .hbm, ⟨76, _⟩ => ⟨S4x256x16x64, .bf16⟩
  | .hbm, ⟨77, _⟩ => ⟨S4x256x16x64, .f32⟩
  | .local _ .vmem, ⟨0, _⟩ => ⟨S16x256x64, .bf16⟩
  | .local _ .vmem, ⟨1, _⟩ => ⟨S16x64x256, .bf16⟩
  | .local _ .vmem, ⟨2, _⟩ => ⟨S16x64x256, .bf16⟩
  | .local _ .vmem, ⟨3, _⟩ => ⟨S64x64x256, .bf16⟩
  | .local _ .vmem, ⟨4, _⟩ => ⟨S16x64x256, .bf16⟩
  | .local _ .vmem, ⟨5, _⟩ => ⟨S16x64x256, .bf16⟩
  | _, _ => ⟨S4x256x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  (ofTc nBuf bufTy 1 44 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c_1 : Ref sig .tc := ⟨.hbm, 9, rfl⟩
abbrev main_call0_v0 : Ref sig .tc := ⟨.hbm, 10, rfl⟩
abbrev main_call0_c : Ref sig .tc := ⟨.hbm, 11, rfl⟩
abbrev main_call0_v1 : Ref sig .tc := ⟨.hbm, 12, rfl⟩
abbrev main_call0_c_0 : Ref sig .tc := ⟨.hbm, 13, rfl⟩
abbrev main_call0_v2 : Ref sig .tc := ⟨.hbm, 14, rfl⟩
abbrev main_call0_v3 : Ref sig .tc := ⟨.hbm, 15, rfl⟩
abbrev main_call0_c_1 : Ref sig .tc := ⟨.hbm, 16, rfl⟩
abbrev main_call0_v4 : Ref sig .tc := ⟨.hbm, 17, rfl⟩
abbrev main_call0_c_2 : Ref sig .tc := ⟨.hbm, 18, rfl⟩
abbrev main_call0_v5 : Ref sig .tc := ⟨.hbm, 19, rfl⟩
abbrev main_call0_c_3 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_v9 : Ref sig .tc := ⟨.hbm, 24, rfl⟩
abbrev main_v5 : Ref sig .tc := ⟨.hbm, 25, rfl⟩
abbrev main_c_2 : Ref sig .tc := ⟨.hbm, 26, rfl⟩
abbrev main_c_3 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_c_4 : Ref sig .tc := ⟨.hbm, 32, rfl⟩
abbrev main_v10 : Ref sig .tc := ⟨.hbm, 33, rfl⟩
abbrev main_v11 : Ref sig .tc := ⟨.hbm, 34, rfl⟩
abbrev main_c_5 : Ref sig .tc := ⟨.hbm, 35, rfl⟩
abbrev main_v12 : Ref sig .tc := ⟨.hbm, 36, rfl⟩
abbrev main_c_6 : Ref sig .tc := ⟨.hbm, 37, rfl⟩
abbrev main_v13 : Ref sig .tc := ⟨.hbm, 38, rfl⟩
abbrev main_v14 : Ref sig .tc := ⟨.hbm, 39, rfl⟩
abbrev main_c_7 : Ref sig .tc := ⟨.hbm, 40, rfl⟩
abbrev main_c_8 : Ref sig .tc := ⟨.hbm, 41, rfl⟩
abbrev main_c_9 : Ref sig .tc := ⟨.hbm, 42, rfl⟩
abbrev main_v15 : Ref sig .tc := ⟨.hbm, 43, rfl⟩
abbrev main_c_10 : Ref sig .tc := ⟨.hbm, 44, rfl⟩
abbrev main_v16 : Ref sig .tc := ⟨.hbm, 45, rfl⟩
abbrev main_c_11 : Ref sig .tc := ⟨.hbm, 46, rfl⟩
abbrev main_v17 : Ref sig .tc := ⟨.hbm, 47, rfl⟩
abbrev main_v18 : Ref sig .tc := ⟨.hbm, 48, rfl⟩
abbrev main_c_12 : Ref sig .tc := ⟨.hbm, 49, rfl⟩
abbrev main_c_13 : Ref sig .tc := ⟨.hbm, 50, rfl⟩
abbrev main_c_14 : Ref sig .tc := ⟨.hbm, 51, rfl⟩
abbrev main_v19 : Ref sig .tc := ⟨.hbm, 52, rfl⟩
abbrev main_c_15 : Ref sig .tc := ⟨.hbm, 53, rfl⟩
abbrev main_v20 : Ref sig .tc := ⟨.hbm, 54, rfl⟩
abbrev main_c_16 : Ref sig .tc := ⟨.hbm, 55, rfl⟩
abbrev main_v21 : Ref sig .tc := ⟨.hbm, 56, rfl⟩
abbrev main_v22 : Ref sig .tc := ⟨.hbm, 57, rfl⟩
abbrev main_c_17 : Ref sig .tc := ⟨.hbm, 58, rfl⟩
abbrev main_c_18 : Ref sig .tc := ⟨.hbm, 59, rfl⟩
abbrev main_c_19 : Ref sig .tc := ⟨.hbm, 60, rfl⟩
abbrev main_v23 : Ref sig .tc := ⟨.hbm, 61, rfl⟩
abbrev main_cst : Ref sig .tc := ⟨.hbm, 62, rfl⟩
abbrev main_v24 : Ref sig .tc := ⟨.hbm, 63, rfl⟩
abbrev main_v25 : Ref sig .tc := ⟨.hbm, 64, rfl⟩
abbrev main_v26 : Ref sig .tc := ⟨.hbm, 65, rfl⟩
abbrev main_v27 : Ref sig .tc := ⟨.hbm, 66, rfl⟩
abbrev main_v28 : Ref sig .tc := ⟨.hbm, 67, rfl⟩
abbrev main_v29 : Ref sig .tc := ⟨.hbm, 68, rfl⟩
abbrev main_v30 : Ref sig .tc := ⟨.hbm, 69, rfl⟩
abbrev main_v31 : Ref sig .tc := ⟨.hbm, 70, rfl⟩
abbrev main_v32 : Ref sig .tc := ⟨.hbm, 71, rfl⟩
abbrev main_v33 : Ref sig .tc := ⟨.hbm, 72, rfl⟩
abbrev main_v34 : Ref sig .tc := ⟨.hbm, 73, rfl⟩
abbrev main_v35 : Ref sig .tc := ⟨.hbm, 74, rfl⟩
abbrev main_v36 : Ref sig .tc := ⟨.hbm, 75, rfl⟩
abbrev main_v37 : Ref sig .tc := ⟨.hbm, 76, rfl⟩
abbrev main_v38 : Ref sig .tc := ⟨.hbm, 77, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_35 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v19 : BitVec 32 := Scalar.subi c1_i32_7 v2
  let c8_i32_34 : BitVec 32 := 8#32
  let v64 : BitVec 32 := Scalar.muli v19 c8_i32_34
  let v65 : BitVec 32 := Scalar.addi c0_i32_35 v64
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_36 : BitVec 32 := 4#32
  let v66 : BitVec 32 := Scalar.muli v5 c4_i32_36
  let v67 : BitVec 32 := Scalar.addi v65 v66
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_37 : BitVec 32 := 1#32
  let v68 : BitVec 32 := Scalar.muli v8 c1_i32_37
  let v69 : BitVec 32 := Scalar.addi v67 v68
  v69.toNat
def k0_dev2 (d0 : Dev nD) : Nat :=
  let c0_i32_40 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_39 : BitVec 32 := 8#32
  let v70 : BitVec 32 := Scalar.muli v2 c8_i32_39
  let v71 : BitVec 32 := Scalar.addi c0_i32_40 v70
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v20 : BitVec 32 := Scalar.addi v5 v18
  let c2_i32_8 : BitVec 32 := 2#32
  let c0_i32_9 : BitVec 32 := 0#32
  let v21 : BitVec 1 := Scalar.cmpi .eq c2_i32_8 c0_i32_9
  let c1_i32_10 : BitVec 32 := 1#32
  let v22 : BitVec 32 := Scalar.select v21 c1_i32_10 c2_i32_8
  let v23 : BitVec 32 := Scalar.remsi v20 v22
  let c0_i32_12 : BitVec 32 := 0#32
  let v25 : BitVec 1 := Scalar.cmpi .slt v23 c0_i32_12
  let c0_i32_13 : BitVec 32 := 0#32
  let v26 : BitVec 1 := Scalar.cmpi .slt v22 c0_i32_13
  let v27 : BitVec 1 := Scalar.xori v25 v26
  let c0_i32_11 : BitVec 32 := 0#32
  let v24 : BitVec 1 := Scalar.cmpi .ne v23 c0_i32_11
  let v28 : BitVec 1 := Scalar.andi v27 v24
  let v29 : BitVec 32 := Scalar.addi v23 v22
  let v30 : BitVec 32 := Scalar.select v28 v29 v23
  let c1_i32_19 : BitVec 32 := 1#32
  let v39 : BitVec 1 := Scalar.cmpi .eq v30 c1_i32_19
  let c1_i32_20 : BitVec 32 := 1#32
  let v40 : BitVec 32 := Scalar.subi c1_i32_20 v5
  let v41 : BitVec 32 := Scalar.select v39 v40 v5
  let c4_i32_41 : BitVec 32 := 4#32
  let v72 : BitVec 32 := Scalar.muli v41 c4_i32_41
  let v73 : BitVec 32 := Scalar.addi v71 v72
  let c1_i32_21 : BitVec 32 := 1#32
  let v42 : BitVec 1 := Scalar.cmpi .eq v30 c1_i32_21
  let c1_i32_14 : BitVec 32 := 1#32
  let v31 : BitVec 32 := Scalar.addi v8 c1_i32_14
  let c2_i32_15 : BitVec 32 := 2#32
  let v32 : BitVec 32 := Scalar.muli c2_i32_15 v18
  let v33 : BitVec 32 := Scalar.subi v31 v32
  let v43 : BitVec 32 := Scalar.select v42 v8 v33
  let c1_i32_42 : BitVec 32 := 1#32
  let v74 : BitVec 32 := Scalar.muli v43 c1_i32_42
  let v75 : BitVec 32 := Scalar.addi v73 v74
  v75.toNat
def k0_dev3 (d0 : Dev nD) : Nat :=
  let c0_i32_45 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_44 : BitVec 32 := 8#32
  let v76 : BitVec 32 := Scalar.muli v2 c8_i32_44
  let v77 : BitVec 32 := Scalar.addi c0_i32_45 v76
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v20 : BitVec 32 := Scalar.addi v5 v18
  let c2_i32_8 : BitVec 32 := 2#32
  let c0_i32_9 : BitVec 32 := 0#32
  let v21 : BitVec 1 := Scalar.cmpi .eq c2_i32_8 c0_i32_9
  let c1_i32_10 : BitVec 32 := 1#32
  let v22 : BitVec 32 := Scalar.select v21 c1_i32_10 c2_i32_8
  let v23 : BitVec 32 := Scalar.remsi v20 v22
  let c0_i32_12 : BitVec 32 := 0#32
  let v25 : BitVec 1 := Scalar.cmpi .slt v23 c0_i32_12
  let c0_i32_13 : BitVec 32 := 0#32
  let v26 : BitVec 1 := Scalar.cmpi .slt v22 c0_i32_13
  let v27 : BitVec 1 := Scalar.xori v25 v26
  let c0_i32_11 : BitVec 32 := 0#32
  let v24 : BitVec 1 := Scalar.cmpi .ne v23 c0_i32_11
  let v28 : BitVec 1 := Scalar.andi v27 v24
  let v29 : BitVec 32 := Scalar.addi v23 v22
  let v30 : BitVec 32 := Scalar.select v28 v29 v23
  let c0_i32_16 : BitVec 32 := 0#32
  let v34 : BitVec 1 := Scalar.cmpi .eq v30 c0_i32_16
  let c1_i32_17 : BitVec 32 := 1#32
  let v35 : BitVec 32 := Scalar.subi c1_i32_17 v5
  let v36 : BitVec 32 := Scalar.select v34 v35 v5
  let c4_i32_46 : BitVec 32 := 4#32
  let v78 : BitVec 32 := Scalar.muli v36 c4_i32_46
  let v79 : BitVec 32 := Scalar.addi v77 v78
  let c0_i32_18 : BitVec 32 := 0#32
  let v37 : BitVec 1 := Scalar.cmpi .eq v30 c0_i32_18
  let c1_i32_14 : BitVec 32 := 1#32
  let v31 : BitVec 32 := Scalar.addi v8 c1_i32_14
  let c2_i32_15 : BitVec 32 := 2#32
  let v32 : BitVec 32 := Scalar.muli c2_i32_15 v18
  let v33 : BitVec 32 := Scalar.subi v31 v32
  let v38 : BitVec 32 := Scalar.select v37 v8 v33
  let c1_i32_47 : BitVec 32 := 1#32
  let v80 : BitVec 32 := Scalar.muli v38 c1_i32_47
  let v81 : BitVec 32 := Scalar.addi v79 v80
  v81.toNat
def k0_dev4 (d0 : Dev nD) : Nat :=
  let c0_i32_53 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v19 : BitVec 32 := Scalar.subi c1_i32_7 v2
  let c8_i32_52 : BitVec 32 := 8#32
  let v82 : BitVec 32 := Scalar.muli v19 c8_i32_52
  let v83 : BitVec 32 := Scalar.addi c0_i32_53 v82
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_54 : BitVec 32 := 4#32
  let v84 : BitVec 32 := Scalar.muli v5 c4_i32_54
  let v85 : BitVec 32 := Scalar.addi v83 v84
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_55 : BitVec 32 := 1#32
  let v86 : BitVec 32 := Scalar.muli v8 c1_i32_55
  let v87 : BitVec 32 := Scalar.addi v85 v86
  v87.toNat
def k0_dev5 (d0 : Dev nD) : Nat :=
  let c0_i32_67 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v19 : BitVec 32 := Scalar.subi c1_i32_7 v2
  let c8_i32_66 : BitVec 32 := 8#32
  let v94 : BitVec 32 := Scalar.muli v19 c8_i32_66
  let v95 : BitVec 32 := Scalar.addi c0_i32_67 v94
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_68 : BitVec 32 := 4#32
  let v96 : BitVec 32 := Scalar.muli v5 c4_i32_68
  let v97 : BitVec 32 := Scalar.addi v95 v96
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_69 : BitVec 32 := 1#32
  let v98 : BitVec 32 := Scalar.muli v8 c1_i32_69
  let v99 : BitVec 32 := Scalar.addi v97 v98
  v99.toNat
def k0_dev6 (d0 : Dev nD) : Nat :=
  let c0_i32_81 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v19 : BitVec 32 := Scalar.subi c1_i32_7 v2
  let c8_i32_80 : BitVec 32 := 8#32
  let v106 : BitVec 32 := Scalar.muli v19 c8_i32_80
  let v107 : BitVec 32 := Scalar.addi c0_i32_81 v106
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_82 : BitVec 32 := 4#32
  let v108 : BitVec 32 := Scalar.muli v5 c4_i32_82
  let v109 : BitVec 32 := Scalar.addi v107 v108
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_83 : BitVec 32 := 1#32
  let v110 : BitVec 32 := Scalar.muli v8 c1_i32_83
  let v111 : BitVec 32 := Scalar.addi v109 v110
  v111.toNat
def k0_dev7 (d0 : Dev nD) : Nat :=
  let c0_i32_95 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v19 : BitVec 32 := Scalar.subi c1_i32_7 v2
  let c8_i32_94 : BitVec 32 := 8#32
  let v118 : BitVec 32 := Scalar.muli v19 c8_i32_94
  let v119 : BitVec 32 := Scalar.addi c0_i32_95 v118
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_96 : BitVec 32 := 4#32
  let v120 : BitVec 32 := Scalar.muli v5 c4_i32_96
  let v121 : BitVec 32 := Scalar.addi v119 v120
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_97 : BitVec 32 := 1#32
  let v122 : BitVec 32 := Scalar.muli v8 c1_i32_97
  let v123 : BitVec 32 := Scalar.addi v121 v122
  v123.toNat
def k0_dev8 (d0 : Dev nD) : Nat :=
  let c0_i32_109 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v19 : BitVec 32 := Scalar.subi c1_i32_7 v2
  let c8_i32_108 : BitVec 32 := 8#32
  let v130 : BitVec 32 := Scalar.muli v19 c8_i32_108
  let v131 : BitVec 32 := Scalar.addi c0_i32_109 v130
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_110 : BitVec 32 := 4#32
  let v132 : BitVec 32 := Scalar.muli v5 c4_i32_110
  let v133 : BitVec 32 := Scalar.addi v131 v132
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_111 : BitVec 32 := 1#32
  let v134 : BitVec 32 := Scalar.muli v8 c1_i32_111
  let v135 : BitVec 32 := Scalar.addi v133 v134
  v135.toNat
def k0_dev9 (d0 : Dev nD) : Nat :=
  let c0_i32_123 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v19 : BitVec 32 := Scalar.subi c1_i32_7 v2
  let c8_i32_122 : BitVec 32 := 8#32
  let v142 : BitVec 32 := Scalar.muli v19 c8_i32_122
  let v143 : BitVec 32 := Scalar.addi c0_i32_123 v142
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_124 : BitVec 32 := 4#32
  let v144 : BitVec 32 := Scalar.muli v5 c4_i32_124
  let v145 : BitVec 32 := Scalar.addi v143 v144
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_125 : BitVec 32 := 1#32
  let v146 : BitVec 32 := Scalar.muli v8 c1_i32_125
  let v147 : BitVec 32 := Scalar.addi v145 v146
  v147.toNat
def k0_dev10 (d0 : Dev nD) : Nat :=
  let c0_i32_137 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v19 : BitVec 32 := Scalar.subi c1_i32_7 v2
  let c8_i32_136 : BitVec 32 := 8#32
  let v154 : BitVec 32 := Scalar.muli v19 c8_i32_136
  let v155 : BitVec 32 := Scalar.addi c0_i32_137 v154
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_138 : BitVec 32 := 4#32
  let v156 : BitVec 32 := Scalar.muli v5 c4_i32_138
  let v157 : BitVec 32 := Scalar.addi v155 v156
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_139 : BitVec 32 := 1#32
  let v158 : BitVec 32 := Scalar.muli v8 c1_i32_139
  let v159 : BitVec 32 := Scalar.addi v157 v158
  v159.toNat
def k0_dev11 (d0 : Dev nD) : Nat :=
  let c0_i32_150 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v19 : BitVec 32 := Scalar.subi c1_i32_7 v2
  let c8_i32_149 : BitVec 32 := 8#32
  let v166 : BitVec 32 := Scalar.muli v19 c8_i32_149
  let v167 : BitVec 32 := Scalar.addi c0_i32_150 v166
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_151 : BitVec 32 := 4#32
  let v168 : BitVec 32 := Scalar.muli v5 c4_i32_151
  let v169 : BitVec 32 := Scalar.addi v167 v168
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_152 : BitVec 32 := 1#32
  let v170 : BitVec 32 := Scalar.muli v8 c1_i32_152
  let v171 : BitVec 32 := Scalar.addi v169 v170
  v171.toNat
@[reducible] def k0_t1_loop : Scf.Loop 32 :=
  let c0_i32_187 : BitVec 32 := 0#32
  let c4_i32_188 : BitVec 32 := 4#32
  let v198 : BitVec 32 := Scalar.addi c0_i32_187 c4_i32_188
  let c1_i32_189 : BitVec 32 := 1#32
  ⟨c0_i32_187, v198, c1_i32_189⟩
def k0_off1 (k0_t1 : Fin k0_t1_loop.trips) : Fin 3 → Nat :=
  let c0_i32_730 : BitVec 32 := 0#32
  let c0_i32_187 : BitVec 32 := 0#32
  let c1_i32_189 : BitVec 32 := 1#32
  let arg14 : BitVec 32 := Scf.iv c0_i32_187 c1_i32_189 k0_t1
  let v646 : BitVec 32 := Scalar.addi c0_i32_730 arg14
  let v648 : Index := Scalar.indexCast v646
  let c0 : Index := 0#32
  let c0_731 : Index := 0#32
  ![v648.toNat, 0, 0]
def k0_off2 (k0_t1 : Fin k0_t1_loop.trips) : Fin 3 → Nat :=
  let c0_i32_730 : BitVec 32 := 0#32
  let c0_i32_187 : BitVec 32 := 0#32
  let c1_i32_189 : BitVec 32 := 1#32
  let arg14 : BitVec 32 := Scf.iv c0_i32_187 c1_i32_189 k0_t1
  let v646 : BitVec 32 := Scalar.addi c0_i32_730 arg14
  let v651 : Index := Scalar.indexCast v646
  let c0_732 : Index := 0#32
  let c0_733 : Index := 0#32
  ![v651.toNat, 0, 0]
def k0_off3 (d0 : Dev nD) (k0_t1 : Fin k0_t1_loop.trips) : Fin 3 → Nat :=
  let c2_i32_22 : BitVec 32 := 2#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v44 : BitVec 32 := Scalar.muli c2_i32_22 v5
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v45 : BitVec 32 := Scalar.addi v44 v18
  let c16_i32 : BitVec 32 := 16#32
  let v62 : BitVec 32 := Scalar.muli v45 c16_i32
  let c0_i32_730 : BitVec 32 := 0#32
  let c0_i32_187 : BitVec 32 := 0#32
  let c1_i32_189 : BitVec 32 := 1#32
  let arg14 : BitVec 32 := Scf.iv c0_i32_187 c1_i32_189 k0_t1
  let v646 : BitVec 32 := Scalar.addi c0_i32_730 arg14
  let v647 : BitVec 32 := Scalar.addi v62 v646
  let v693 : Index := Scalar.indexCast v647
  let c0_748 : Index := 0#32
  let c0_749 : Index := 0#32
  ![v693.toNat, 0, 0]
def k0_off4 (d0 : Dev nD) (c0_i32_191 : BitVec 32) : Fin 3 → Nat :=
  let c2_i32_22 : BitVec 32 := 2#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v44 : BitVec 32 := Scalar.muli c2_i32_22 v5
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v45 : BitVec 32 := Scalar.addi v44 v18
  let c16_i32 : BitVec 32 := 16#32
  let v62 : BitVec 32 := Scalar.muli v45 c16_i32
  let v199 : BitVec 32 := Scalar.addi v62 c0_i32_191
  let c0_i32_198 : BitVec 32 := 0#32
  let c0_i32_199 : BitVec 32 := 0#32
  ![v199.toNat, 0, 0]
def k0_dev12 (d0 : Dev nD) : Nat :=
  let c0_i32_195 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_194 : BitVec 32 := 8#32
  let v200 : BitVec 32 := Scalar.muli v2 c8_i32_194
  let v201 : BitVec 32 := Scalar.addi c0_i32_195 v200
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v20 : BitVec 32 := Scalar.addi v5 v18
  let c2_i32_8 : BitVec 32 := 2#32
  let c0_i32_9 : BitVec 32 := 0#32
  let v21 : BitVec 1 := Scalar.cmpi .eq c2_i32_8 c0_i32_9
  let c1_i32_10 : BitVec 32 := 1#32
  let v22 : BitVec 32 := Scalar.select v21 c1_i32_10 c2_i32_8
  let v23 : BitVec 32 := Scalar.remsi v20 v22
  let c0_i32_12 : BitVec 32 := 0#32
  let v25 : BitVec 1 := Scalar.cmpi .slt v23 c0_i32_12
  let c0_i32_13 : BitVec 32 := 0#32
  let v26 : BitVec 1 := Scalar.cmpi .slt v22 c0_i32_13
  let v27 : BitVec 1 := Scalar.xori v25 v26
  let c0_i32_11 : BitVec 32 := 0#32
  let v24 : BitVec 1 := Scalar.cmpi .ne v23 c0_i32_11
  let v28 : BitVec 1 := Scalar.andi v27 v24
  let v29 : BitVec 32 := Scalar.addi v23 v22
  let v30 : BitVec 32 := Scalar.select v28 v29 v23
  let c0_i32_16 : BitVec 32 := 0#32
  let v34 : BitVec 1 := Scalar.cmpi .eq v30 c0_i32_16
  let c1_i32_17 : BitVec 32 := 1#32
  let v35 : BitVec 32 := Scalar.subi c1_i32_17 v5
  let v36 : BitVec 32 := Scalar.select v34 v35 v5
  let c4_i32_196 : BitVec 32 := 4#32
  let v202 : BitVec 32 := Scalar.muli v36 c4_i32_196
  let v203 : BitVec 32 := Scalar.addi v201 v202
  let c0_i32_18 : BitVec 32 := 0#32
  let v37 : BitVec 1 := Scalar.cmpi .eq v30 c0_i32_18
  let c1_i32_14 : BitVec 32 := 1#32
  let v31 : BitVec 32 := Scalar.addi v8 c1_i32_14
  let c2_i32_15 : BitVec 32 := 2#32
  let v32 : BitVec 32 := Scalar.muli c2_i32_15 v18
  let v33 : BitVec 32 := Scalar.subi v31 v32
  let v38 : BitVec 32 := Scalar.select v37 v8 v33
  let c1_i32_197 : BitVec 32 := 1#32
  let v204 : BitVec 32 := Scalar.muli v38 c1_i32_197
  let v205 : BitVec 32 := Scalar.addi v203 v204
  v205.toNat
def k0_dev13 (d0 : Dev nD) : Nat :=
  let c0_i32_205 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_204 : BitVec 32 := 8#32
  let v212 : BitVec 32 := Scalar.muli v2 c8_i32_204
  let v213 : BitVec 32 := Scalar.addi c0_i32_205 v212
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v20 : BitVec 32 := Scalar.addi v5 v18
  let c2_i32_8 : BitVec 32 := 2#32
  let c0_i32_9 : BitVec 32 := 0#32
  let v21 : BitVec 1 := Scalar.cmpi .eq c2_i32_8 c0_i32_9
  let c1_i32_10 : BitVec 32 := 1#32
  let v22 : BitVec 32 := Scalar.select v21 c1_i32_10 c2_i32_8
  let v23 : BitVec 32 := Scalar.remsi v20 v22
  let c0_i32_12 : BitVec 32 := 0#32
  let v25 : BitVec 1 := Scalar.cmpi .slt v23 c0_i32_12
  let c0_i32_13 : BitVec 32 := 0#32
  let v26 : BitVec 1 := Scalar.cmpi .slt v22 c0_i32_13
  let v27 : BitVec 1 := Scalar.xori v25 v26
  let c0_i32_11 : BitVec 32 := 0#32
  let v24 : BitVec 1 := Scalar.cmpi .ne v23 c0_i32_11
  let v28 : BitVec 1 := Scalar.andi v27 v24
  let v29 : BitVec 32 := Scalar.addi v23 v22
  let v30 : BitVec 32 := Scalar.select v28 v29 v23
  let c1_i32_19 : BitVec 32 := 1#32
  let v39 : BitVec 1 := Scalar.cmpi .eq v30 c1_i32_19
  let c1_i32_20 : BitVec 32 := 1#32
  let v40 : BitVec 32 := Scalar.subi c1_i32_20 v5
  let v41 : BitVec 32 := Scalar.select v39 v40 v5
  let c4_i32_206 : BitVec 32 := 4#32
  let v214 : BitVec 32 := Scalar.muli v41 c4_i32_206
  let v215 : BitVec 32 := Scalar.addi v213 v214
  let c1_i32_21 : BitVec 32 := 1#32
  let v42 : BitVec 1 := Scalar.cmpi .eq v30 c1_i32_21
  let c1_i32_14 : BitVec 32 := 1#32
  let v31 : BitVec 32 := Scalar.addi v8 c1_i32_14
  let c2_i32_15 : BitVec 32 := 2#32
  let v32 : BitVec 32 := Scalar.muli c2_i32_15 v18
  let v33 : BitVec 32 := Scalar.subi v31 v32
  let v43 : BitVec 32 := Scalar.select v42 v8 v33
  let c1_i32_207 : BitVec 32 := 1#32
  let v216 : BitVec 32 := Scalar.muli v43 c1_i32_207
  let v217 : BitVec 32 := Scalar.addi v215 v216
  v217.toNat
def k0_off5 (d0 : Dev nD) (c0_i32_213 : BitVec 32) : Fin 3 → Nat :=
  let c2_i32_23 : BitVec 32 := 2#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v20 : BitVec 32 := Scalar.addi v5 v18
  let c2_i32_8 : BitVec 32 := 2#32
  let c0_i32_9 : BitVec 32 := 0#32
  let v21 : BitVec 1 := Scalar.cmpi .eq c2_i32_8 c0_i32_9
  let c1_i32_10 : BitVec 32 := 1#32
  let v22 : BitVec 32 := Scalar.select v21 c1_i32_10 c2_i32_8
  let v23 : BitVec 32 := Scalar.remsi v20 v22
  let c0_i32_12 : BitVec 32 := 0#32
  let v25 : BitVec 1 := Scalar.cmpi .slt v23 c0_i32_12
  let c0_i32_13 : BitVec 32 := 0#32
  let v26 : BitVec 1 := Scalar.cmpi .slt v22 c0_i32_13
  let v27 : BitVec 1 := Scalar.xori v25 v26
  let c0_i32_11 : BitVec 32 := 0#32
  let v24 : BitVec 1 := Scalar.cmpi .ne v23 c0_i32_11
  let v28 : BitVec 1 := Scalar.andi v27 v24
  let v29 : BitVec 32 := Scalar.addi v23 v22
  let v30 : BitVec 32 := Scalar.select v28 v29 v23
  let c1_i32_19 : BitVec 32 := 1#32
  let v39 : BitVec 1 := Scalar.cmpi .eq v30 c1_i32_19
  let c1_i32_20 : BitVec 32 := 1#32
  let v40 : BitVec 32 := Scalar.subi c1_i32_20 v5
  let v41 : BitVec 32 := Scalar.select v39 v40 v5
  let v46 : BitVec 32 := Scalar.muli c2_i32_23 v41
  let c1_i32_21 : BitVec 32 := 1#32
  let v42 : BitVec 1 := Scalar.cmpi .eq v30 c1_i32_21
  let c1_i32_14 : BitVec 32 := 1#32
  let v31 : BitVec 32 := Scalar.addi v8 c1_i32_14
  let c2_i32_15 : BitVec 32 := 2#32
  let v32 : BitVec 32 := Scalar.muli c2_i32_15 v18
  let v33 : BitVec 32 := Scalar.subi v31 v32
  let v43 : BitVec 32 := Scalar.select v42 v8 v33
  let c2_i32_24 : BitVec 32 := 2#32
  let c0_i32_25 : BitVec 32 := 0#32
  let v47 : BitVec 1 := Scalar.cmpi .eq c2_i32_24 c0_i32_25
  let c1_i32_26 : BitVec 32 := 1#32
  let v48 : BitVec 32 := Scalar.select v47 c1_i32_26 c2_i32_24
  let v49 : BitVec 32 := Scalar.remsi v43 v48
  let c0_i32_28 : BitVec 32 := 0#32
  let v51 : BitVec 1 := Scalar.cmpi .slt v49 c0_i32_28
  let c0_i32_29 : BitVec 32 := 0#32
  let v52 : BitVec 1 := Scalar.cmpi .slt v48 c0_i32_29
  let v53 : BitVec 1 := Scalar.xori v51 v52
  let c0_i32_27 : BitVec 32 := 0#32
  let v50 : BitVec 1 := Scalar.cmpi .ne v49 c0_i32_27
  let v54 : BitVec 1 := Scalar.andi v53 v50
  let v55 : BitVec 32 := Scalar.addi v49 v48
  let v56 : BitVec 32 := Scalar.select v54 v55 v49
  let v57 : BitVec 32 := Scalar.addi v46 v56
  let c16_i32_212 : BitVec 32 := 16#32
  let v224 : BitVec 32 := Scalar.muli v57 c16_i32_212
  let v225 : BitVec 32 := Scalar.addi v224 c0_i32_213
  let c0_i32_220 : BitVec 32 := 0#32
  let c0_i32_221 : BitVec 32 := 0#32
  ![v225.toNat, 0, 0]
def k0_dev14 (d0 : Dev nD) : Nat :=
  let c0_i32_227 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_226 : BitVec 32 := 8#32
  let v236 : BitVec 32 := Scalar.muli v2 c8_i32_226
  let v237 : BitVec 32 := Scalar.addi c0_i32_227 v236
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v20 : BitVec 32 := Scalar.addi v5 v18
  let c2_i32_8 : BitVec 32 := 2#32
  let c0_i32_9 : BitVec 32 := 0#32
  let v21 : BitVec 1 := Scalar.cmpi .eq c2_i32_8 c0_i32_9
  let c1_i32_10 : BitVec 32 := 1#32
  let v22 : BitVec 32 := Scalar.select v21 c1_i32_10 c2_i32_8
  let v23 : BitVec 32 := Scalar.remsi v20 v22
  let c0_i32_12 : BitVec 32 := 0#32
  let v25 : BitVec 1 := Scalar.cmpi .slt v23 c0_i32_12
  let c0_i32_13 : BitVec 32 := 0#32
  let v26 : BitVec 1 := Scalar.cmpi .slt v22 c0_i32_13
  let v27 : BitVec 1 := Scalar.xori v25 v26
  let c0_i32_11 : BitVec 32 := 0#32
  let v24 : BitVec 1 := Scalar.cmpi .ne v23 c0_i32_11
  let v28 : BitVec 1 := Scalar.andi v27 v24
  let v29 : BitVec 32 := Scalar.addi v23 v22
  let v30 : BitVec 32 := Scalar.select v28 v29 v23
  let c0_i32_16 : BitVec 32 := 0#32
  let v34 : BitVec 1 := Scalar.cmpi .eq v30 c0_i32_16
  let c1_i32_17 : BitVec 32 := 1#32
  let v35 : BitVec 32 := Scalar.subi c1_i32_17 v5
  let v36 : BitVec 32 := Scalar.select v34 v35 v5
  let c4_i32_228 : BitVec 32 := 4#32
  let v238 : BitVec 32 := Scalar.muli v36 c4_i32_228
  let v239 : BitVec 32 := Scalar.addi v237 v238
  let c0_i32_18 : BitVec 32 := 0#32
  let v37 : BitVec 1 := Scalar.cmpi .eq v30 c0_i32_18
  let c1_i32_14 : BitVec 32 := 1#32
  let v31 : BitVec 32 := Scalar.addi v8 c1_i32_14
  let c2_i32_15 : BitVec 32 := 2#32
  let v32 : BitVec 32 := Scalar.muli c2_i32_15 v18
  let v33 : BitVec 32 := Scalar.subi v31 v32
  let v38 : BitVec 32 := Scalar.select v37 v8 v33
  let c1_i32_229 : BitVec 32 := 1#32
  let v240 : BitVec 32 := Scalar.muli v38 c1_i32_229
  let v241 : BitVec 32 := Scalar.addi v239 v240
  v241.toNat
@[reducible] def k0_t2_loop : Scf.Loop 32 :=
  let c0_i32_262 : BitVec 32 := 0#32
  let c4_i32_263 : BitVec 32 := 4#32
  let v268 : BitVec 32 := Scalar.addi c0_i32_262 c4_i32_263
  let c1_i32_264 : BitVec 32 := 1#32
  ⟨c0_i32_262, v268, c1_i32_264⟩
def k0_off6 (k0_t2 : Fin k0_t2_loop.trips) : Fin 3 → Nat :=
  let c4_i32_730 : BitVec 32 := 4#32
  let c0_i32_262 : BitVec 32 := 0#32
  let c1_i32_264 : BitVec 32 := 1#32
  let arg14 : BitVec 32 := Scf.iv c0_i32_262 c1_i32_264 k0_t2
  let v646 : BitVec 32 := Scalar.addi c4_i32_730 arg14
  let v648 : Index := Scalar.indexCast v646
  let c0 : Index := 0#32
  let c0_731 : Index := 0#32
  ![v648.toNat, 0, 0]
def k0_off7 (k0_t2 : Fin k0_t2_loop.trips) : Fin 3 → Nat :=
  let c4_i32_730 : BitVec 32 := 4#32
  let c0_i32_262 : BitVec 32 := 0#32
  let c1_i32_264 : BitVec 32 := 1#32
  let arg14 : BitVec 32 := Scf.iv c0_i32_262 c1_i32_264 k0_t2
  let v646 : BitVec 32 := Scalar.addi c4_i32_730 arg14
  let v651 : Index := Scalar.indexCast v646
  let c0_732 : Index := 0#32
  let c0_733 : Index := 0#32
  ![v651.toNat, 0, 0]
def k0_off8 (d0 : Dev nD) (k0_t2 : Fin k0_t2_loop.trips) : Fin 3 → Nat :=
  let c2_i32_22 : BitVec 32 := 2#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v44 : BitVec 32 := Scalar.muli c2_i32_22 v5
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v45 : BitVec 32 := Scalar.addi v44 v18
  let c16_i32 : BitVec 32 := 16#32
  let v62 : BitVec 32 := Scalar.muli v45 c16_i32
  let c4_i32_730 : BitVec 32 := 4#32
  let c0_i32_262 : BitVec 32 := 0#32
  let c1_i32_264 : BitVec 32 := 1#32
  let arg14 : BitVec 32 := Scf.iv c0_i32_262 c1_i32_264 k0_t2
  let v646 : BitVec 32 := Scalar.addi c4_i32_730 arg14
  let v647 : BitVec 32 := Scalar.addi v62 v646
  let v693 : Index := Scalar.indexCast v647
  let c0_748 : Index := 0#32
  let c0_749 : Index := 0#32
  ![v693.toNat, 0, 0]
def k0_dev15 (d0 : Dev nD) : Nat :=
  let c0_i32_270 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_269 : BitVec 32 := 8#32
  let v270 : BitVec 32 := Scalar.muli v2 c8_i32_269
  let v271 : BitVec 32 := Scalar.addi c0_i32_270 v270
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v20 : BitVec 32 := Scalar.addi v5 v18
  let c2_i32_8 : BitVec 32 := 2#32
  let c0_i32_9 : BitVec 32 := 0#32
  let v21 : BitVec 1 := Scalar.cmpi .eq c2_i32_8 c0_i32_9
  let c1_i32_10 : BitVec 32 := 1#32
  let v22 : BitVec 32 := Scalar.select v21 c1_i32_10 c2_i32_8
  let v23 : BitVec 32 := Scalar.remsi v20 v22
  let c0_i32_12 : BitVec 32 := 0#32
  let v25 : BitVec 1 := Scalar.cmpi .slt v23 c0_i32_12
  let c0_i32_13 : BitVec 32 := 0#32
  let v26 : BitVec 1 := Scalar.cmpi .slt v22 c0_i32_13
  let v27 : BitVec 1 := Scalar.xori v25 v26
  let c0_i32_11 : BitVec 32 := 0#32
  let v24 : BitVec 1 := Scalar.cmpi .ne v23 c0_i32_11
  let v28 : BitVec 1 := Scalar.andi v27 v24
  let v29 : BitVec 32 := Scalar.addi v23 v22
  let v30 : BitVec 32 := Scalar.select v28 v29 v23
  let c0_i32_16 : BitVec 32 := 0#32
  let v34 : BitVec 1 := Scalar.cmpi .eq v30 c0_i32_16
  let c1_i32_17 : BitVec 32 := 1#32
  let v35 : BitVec 32 := Scalar.subi c1_i32_17 v5
  let v36 : BitVec 32 := Scalar.select v34 v35 v5
  let c4_i32_271 : BitVec 32 := 4#32
  let v272 : BitVec 32 := Scalar.muli v36 c4_i32_271
  let v273 : BitVec 32 := Scalar.addi v271 v272
  let c0_i32_18 : BitVec 32 := 0#32
  let v37 : BitVec 1 := Scalar.cmpi .eq v30 c0_i32_18
  let c1_i32_14 : BitVec 32 := 1#32
  let v31 : BitVec 32 := Scalar.addi v8 c1_i32_14
  let c2_i32_15 : BitVec 32 := 2#32
  let v32 : BitVec 32 := Scalar.muli c2_i32_15 v18
  let v33 : BitVec 32 := Scalar.subi v31 v32
  let v38 : BitVec 32 := Scalar.select v37 v8 v33
  let c1_i32_272 : BitVec 32 := 1#32
  let v274 : BitVec 32 := Scalar.muli v38 c1_i32_272
  let v275 : BitVec 32 := Scalar.addi v273 v274
  v275.toNat
def k0_dev16 (d0 : Dev nD) : Nat :=
  let c0_i32_280 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_279 : BitVec 32 := 8#32
  let v282 : BitVec 32 := Scalar.muli v2 c8_i32_279
  let v283 : BitVec 32 := Scalar.addi c0_i32_280 v282
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v20 : BitVec 32 := Scalar.addi v5 v18
  let c2_i32_8 : BitVec 32 := 2#32
  let c0_i32_9 : BitVec 32 := 0#32
  let v21 : BitVec 1 := Scalar.cmpi .eq c2_i32_8 c0_i32_9
  let c1_i32_10 : BitVec 32 := 1#32
  let v22 : BitVec 32 := Scalar.select v21 c1_i32_10 c2_i32_8
  let v23 : BitVec 32 := Scalar.remsi v20 v22
  let c0_i32_12 : BitVec 32 := 0#32
  let v25 : BitVec 1 := Scalar.cmpi .slt v23 c0_i32_12
  let c0_i32_13 : BitVec 32 := 0#32
  let v26 : BitVec 1 := Scalar.cmpi .slt v22 c0_i32_13
  let v27 : BitVec 1 := Scalar.xori v25 v26
  let c0_i32_11 : BitVec 32 := 0#32
  let v24 : BitVec 1 := Scalar.cmpi .ne v23 c0_i32_11
  let v28 : BitVec 1 := Scalar.andi v27 v24
  let v29 : BitVec 32 := Scalar.addi v23 v22
  let v30 : BitVec 32 := Scalar.select v28 v29 v23
  let c1_i32_19 : BitVec 32 := 1#32
  let v39 : BitVec 1 := Scalar.cmpi .eq v30 c1_i32_19
  let c1_i32_20 : BitVec 32 := 1#32
  let v40 : BitVec 32 := Scalar.subi c1_i32_20 v5
  let v41 : BitVec 32 := Scalar.select v39 v40 v5
  let c4_i32_281 : BitVec 32 := 4#32
  let v284 : BitVec 32 := Scalar.muli v41 c4_i32_281
  let v285 : BitVec 32 := Scalar.addi v283 v284
  let c1_i32_21 : BitVec 32 := 1#32
  let v42 : BitVec 1 := Scalar.cmpi .eq v30 c1_i32_21
  let c1_i32_14 : BitVec 32 := 1#32
  let v31 : BitVec 32 := Scalar.addi v8 c1_i32_14
  let c2_i32_15 : BitVec 32 := 2#32
  let v32 : BitVec 32 := Scalar.muli c2_i32_15 v18
  let v33 : BitVec 32 := Scalar.subi v31 v32
  let v43 : BitVec 32 := Scalar.select v42 v8 v33
  let c1_i32_282 : BitVec 32 := 1#32
  let v286 : BitVec 32 := Scalar.muli v43 c1_i32_282
  let v287 : BitVec 32 := Scalar.addi v285 v286
  v287.toNat
def k0_dev17 (d0 : Dev nD) : Nat :=
  let c0_i32_302 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_301 : BitVec 32 := 8#32
  let v306 : BitVec 32 := Scalar.muli v2 c8_i32_301
  let v307 : BitVec 32 := Scalar.addi c0_i32_302 v306
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v20 : BitVec 32 := Scalar.addi v5 v18
  let c2_i32_8 : BitVec 32 := 2#32
  let c0_i32_9 : BitVec 32 := 0#32
  let v21 : BitVec 1 := Scalar.cmpi .eq c2_i32_8 c0_i32_9
  let c1_i32_10 : BitVec 32 := 1#32
  let v22 : BitVec 32 := Scalar.select v21 c1_i32_10 c2_i32_8
  let v23 : BitVec 32 := Scalar.remsi v20 v22
  let c0_i32_12 : BitVec 32 := 0#32
  let v25 : BitVec 1 := Scalar.cmpi .slt v23 c0_i32_12
  let c0_i32_13 : BitVec 32 := 0#32
  let v26 : BitVec 1 := Scalar.cmpi .slt v22 c0_i32_13
  let v27 : BitVec 1 := Scalar.xori v25 v26
  let c0_i32_11 : BitVec 32 := 0#32
  let v24 : BitVec 1 := Scalar.cmpi .ne v23 c0_i32_11
  let v28 : BitVec 1 := Scalar.andi v27 v24
  let v29 : BitVec 32 := Scalar.addi v23 v22
  let v30 : BitVec 32 := Scalar.select v28 v29 v23
  let c0_i32_16 : BitVec 32 := 0#32
  let v34 : BitVec 1 := Scalar.cmpi .eq v30 c0_i32_16
  let c1_i32_17 : BitVec 32 := 1#32
  let v35 : BitVec 32 := Scalar.subi c1_i32_17 v5
  let v36 : BitVec 32 := Scalar.select v34 v35 v5
  let c4_i32_303 : BitVec 32 := 4#32
  let v308 : BitVec 32 := Scalar.muli v36 c4_i32_303
  let v309 : BitVec 32 := Scalar.addi v307 v308
  let c0_i32_18 : BitVec 32 := 0#32
  let v37 : BitVec 1 := Scalar.cmpi .eq v30 c0_i32_18
  let c1_i32_14 : BitVec 32 := 1#32
  let v31 : BitVec 32 := Scalar.addi v8 c1_i32_14
  let c2_i32_15 : BitVec 32 := 2#32
  let v32 : BitVec 32 := Scalar.muli c2_i32_15 v18
  let v33 : BitVec 32 := Scalar.subi v31 v32
  let v38 : BitVec 32 := Scalar.select v37 v8 v33
  let c1_i32_304 : BitVec 32 := 1#32
  let v310 : BitVec 32 := Scalar.muli v38 c1_i32_304
  let v311 : BitVec 32 := Scalar.addi v309 v310
  v311.toNat
@[reducible] def k0_t3_loop : Scf.Loop 32 :=
  let c0_i32_337 : BitVec 32 := 0#32
  let c4_i32_338 : BitVec 32 := 4#32
  let v338 : BitVec 32 := Scalar.addi c0_i32_337 c4_i32_338
  let c1_i32_339 : BitVec 32 := 1#32
  ⟨c0_i32_337, v338, c1_i32_339⟩
def k0_off9 (k0_t3 : Fin k0_t3_loop.trips) : Fin 3 → Nat :=
  let c8_i32_730 : BitVec 32 := 8#32
  let c0_i32_337 : BitVec 32 := 0#32
  let c1_i32_339 : BitVec 32 := 1#32
  let arg14 : BitVec 32 := Scf.iv c0_i32_337 c1_i32_339 k0_t3
  let v646 : BitVec 32 := Scalar.addi c8_i32_730 arg14
  let v648 : Index := Scalar.indexCast v646
  let c0 : Index := 0#32
  let c0_731 : Index := 0#32
  ![v648.toNat, 0, 0]
def k0_off10 (k0_t3 : Fin k0_t3_loop.trips) : Fin 3 → Nat :=
  let c8_i32_730 : BitVec 32 := 8#32
  let c0_i32_337 : BitVec 32 := 0#32
  let c1_i32_339 : BitVec 32 := 1#32
  let arg14 : BitVec 32 := Scf.iv c0_i32_337 c1_i32_339 k0_t3
  let v646 : BitVec 32 := Scalar.addi c8_i32_730 arg14
  let v651 : Index := Scalar.indexCast v646
  let c0_732 : Index := 0#32
  let c0_733 : Index := 0#32
  ![v651.toNat, 0, 0]
def k0_off11 (d0 : Dev nD) (k0_t3 : Fin k0_t3_loop.trips) : Fin 3 → Nat :=
  let c2_i32_22 : BitVec 32 := 2#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v44 : BitVec 32 := Scalar.muli c2_i32_22 v5
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v45 : BitVec 32 := Scalar.addi v44 v18
  let c16_i32 : BitVec 32 := 16#32
  let v62 : BitVec 32 := Scalar.muli v45 c16_i32
  let c8_i32_730 : BitVec 32 := 8#32
  let c0_i32_337 : BitVec 32 := 0#32
  let c1_i32_339 : BitVec 32 := 1#32
  let arg14 : BitVec 32 := Scf.iv c0_i32_337 c1_i32_339 k0_t3
  let v646 : BitVec 32 := Scalar.addi c8_i32_730 arg14
  let v647 : BitVec 32 := Scalar.addi v62 v646
  let v693 : Index := Scalar.indexCast v647
  let c0_748 : Index := 0#32
  let c0_749 : Index := 0#32
  ![v693.toNat, 0, 0]
def k0_dev18 (d0 : Dev nD) : Nat :=
  let c0_i32_345 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_344 : BitVec 32 := 8#32
  let v340 : BitVec 32 := Scalar.muli v2 c8_i32_344
  let v341 : BitVec 32 := Scalar.addi c0_i32_345 v340
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v20 : BitVec 32 := Scalar.addi v5 v18
  let c2_i32_8 : BitVec 32 := 2#32
  let c0_i32_9 : BitVec 32 := 0#32
  let v21 : BitVec 1 := Scalar.cmpi .eq c2_i32_8 c0_i32_9
  let c1_i32_10 : BitVec 32 := 1#32
  let v22 : BitVec 32 := Scalar.select v21 c1_i32_10 c2_i32_8
  let v23 : BitVec 32 := Scalar.remsi v20 v22
  let c0_i32_12 : BitVec 32 := 0#32
  let v25 : BitVec 1 := Scalar.cmpi .slt v23 c0_i32_12
  let c0_i32_13 : BitVec 32 := 0#32
  let v26 : BitVec 1 := Scalar.cmpi .slt v22 c0_i32_13
  let v27 : BitVec 1 := Scalar.xori v25 v26
  let c0_i32_11 : BitVec 32 := 0#32
  let v24 : BitVec 1 := Scalar.cmpi .ne v23 c0_i32_11
  let v28 : BitVec 1 := Scalar.andi v27 v24
  let v29 : BitVec 32 := Scalar.addi v23 v22
  let v30 : BitVec 32 := Scalar.select v28 v29 v23
  let c0_i32_16 : BitVec 32 := 0#32
  let v34 : BitVec 1 := Scalar.cmpi .eq v30 c0_i32_16
  let c1_i32_17 : BitVec 32 := 1#32
  let v35 : BitVec 32 := Scalar.subi c1_i32_17 v5
  let v36 : BitVec 32 := Scalar.select v34 v35 v5
  let c4_i32_346 : BitVec 32 := 4#32
  let v342 : BitVec 32 := Scalar.muli v36 c4_i32_346
  let v343 : BitVec 32 := Scalar.addi v341 v342
  let c0_i32_18 : BitVec 32 := 0#32
  let v37 : BitVec 1 := Scalar.cmpi .eq v30 c0_i32_18
  let c1_i32_14 : BitVec 32 := 1#32
  let v31 : BitVec 32 := Scalar.addi v8 c1_i32_14
  let c2_i32_15 : BitVec 32 := 2#32
  let v32 : BitVec 32 := Scalar.muli c2_i32_15 v18
  let v33 : BitVec 32 := Scalar.subi v31 v32
  let v38 : BitVec 32 := Scalar.select v37 v8 v33
  let c1_i32_347 : BitVec 32 := 1#32
  let v344 : BitVec 32 := Scalar.muli v38 c1_i32_347
  let v345 : BitVec 32 := Scalar.addi v343 v344
  v345.toNat
def k0_dev19 (d0 : Dev nD) : Nat :=
  let c0_i32_355 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_354 : BitVec 32 := 8#32
  let v352 : BitVec 32 := Scalar.muli v2 c8_i32_354
  let v353 : BitVec 32 := Scalar.addi c0_i32_355 v352
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v20 : BitVec 32 := Scalar.addi v5 v18
  let c2_i32_8 : BitVec 32 := 2#32
  let c0_i32_9 : BitVec 32 := 0#32
  let v21 : BitVec 1 := Scalar.cmpi .eq c2_i32_8 c0_i32_9
  let c1_i32_10 : BitVec 32 := 1#32
  let v22 : BitVec 32 := Scalar.select v21 c1_i32_10 c2_i32_8
  let v23 : BitVec 32 := Scalar.remsi v20 v22
  let c0_i32_12 : BitVec 32 := 0#32
  let v25 : BitVec 1 := Scalar.cmpi .slt v23 c0_i32_12
  let c0_i32_13 : BitVec 32 := 0#32
  let v26 : BitVec 1 := Scalar.cmpi .slt v22 c0_i32_13
  let v27 : BitVec 1 := Scalar.xori v25 v26
  let c0_i32_11 : BitVec 32 := 0#32
  let v24 : BitVec 1 := Scalar.cmpi .ne v23 c0_i32_11
  let v28 : BitVec 1 := Scalar.andi v27 v24
  let v29 : BitVec 32 := Scalar.addi v23 v22
  let v30 : BitVec 32 := Scalar.select v28 v29 v23
  let c1_i32_19 : BitVec 32 := 1#32
  let v39 : BitVec 1 := Scalar.cmpi .eq v30 c1_i32_19
  let c1_i32_20 : BitVec 32 := 1#32
  let v40 : BitVec 32 := Scalar.subi c1_i32_20 v5
  let v41 : BitVec 32 := Scalar.select v39 v40 v5
  let c4_i32_356 : BitVec 32 := 4#32
  let v354 : BitVec 32 := Scalar.muli v41 c4_i32_356
  let v355 : BitVec 32 := Scalar.addi v353 v354
  let c1_i32_21 : BitVec 32 := 1#32
  let v42 : BitVec 1 := Scalar.cmpi .eq v30 c1_i32_21
  let c1_i32_14 : BitVec 32 := 1#32
  let v31 : BitVec 32 := Scalar.addi v8 c1_i32_14
  let c2_i32_15 : BitVec 32 := 2#32
  let v32 : BitVec 32 := Scalar.muli c2_i32_15 v18
  let v33 : BitVec 32 := Scalar.subi v31 v32
  let v43 : BitVec 32 := Scalar.select v42 v8 v33
  let c1_i32_357 : BitVec 32 := 1#32
  let v356 : BitVec 32 := Scalar.muli v43 c1_i32_357
  let v357 : BitVec 32 := Scalar.addi v355 v356
  v357.toNat
def k0_dev20 (d0 : Dev nD) : Nat :=
  let c0_i32_377 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_376 : BitVec 32 := 8#32
  let v376 : BitVec 32 := Scalar.muli v2 c8_i32_376
  let v377 : BitVec 32 := Scalar.addi c0_i32_377 v376
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v20 : BitVec 32 := Scalar.addi v5 v18
  let c2_i32_8 : BitVec 32 := 2#32
  let c0_i32_9 : BitVec 32 := 0#32
  let v21 : BitVec 1 := Scalar.cmpi .eq c2_i32_8 c0_i32_9
  let c1_i32_10 : BitVec 32 := 1#32
  let v22 : BitVec 32 := Scalar.select v21 c1_i32_10 c2_i32_8
  let v23 : BitVec 32 := Scalar.remsi v20 v22
  let c0_i32_12 : BitVec 32 := 0#32
  let v25 : BitVec 1 := Scalar.cmpi .slt v23 c0_i32_12
  let c0_i32_13 : BitVec 32 := 0#32
  let v26 : BitVec 1 := Scalar.cmpi .slt v22 c0_i32_13
  let v27 : BitVec 1 := Scalar.xori v25 v26
  let c0_i32_11 : BitVec 32 := 0#32
  let v24 : BitVec 1 := Scalar.cmpi .ne v23 c0_i32_11
  let v28 : BitVec 1 := Scalar.andi v27 v24
  let v29 : BitVec 32 := Scalar.addi v23 v22
  let v30 : BitVec 32 := Scalar.select v28 v29 v23
  let c0_i32_16 : BitVec 32 := 0#32
  let v34 : BitVec 1 := Scalar.cmpi .eq v30 c0_i32_16
  let c1_i32_17 : BitVec 32 := 1#32
  let v35 : BitVec 32 := Scalar.subi c1_i32_17 v5
  let v36 : BitVec 32 := Scalar.select v34 v35 v5
  let c4_i32_378 : BitVec 32 := 4#32
  let v378 : BitVec 32 := Scalar.muli v36 c4_i32_378
  let v379 : BitVec 32 := Scalar.addi v377 v378
  let c0_i32_18 : BitVec 32 := 0#32
  let v37 : BitVec 1 := Scalar.cmpi .eq v30 c0_i32_18
  let c1_i32_14 : BitVec 32 := 1#32
  let v31 : BitVec 32 := Scalar.addi v8 c1_i32_14
  let c2_i32_15 : BitVec 32 := 2#32
  let v32 : BitVec 32 := Scalar.muli c2_i32_15 v18
  let v33 : BitVec 32 := Scalar.subi v31 v32
  let v38 : BitVec 32 := Scalar.select v37 v8 v33
  let c1_i32_379 : BitVec 32 := 1#32
  let v380 : BitVec 32 := Scalar.muli v38 c1_i32_379
  let v381 : BitVec 32 := Scalar.addi v379 v380
  v381.toNat
@[reducible] def k0_t4_loop : Scf.Loop 32 :=
  let c0_i32_412 : BitVec 32 := 0#32
  let c4_i32_413 : BitVec 32 := 4#32
  let v408 : BitVec 32 := Scalar.addi c0_i32_412 c4_i32_413
  let c1_i32_414 : BitVec 32 := 1#32
  ⟨c0_i32_412, v408, c1_i32_414⟩
def k0_off12 (k0_t4 : Fin k0_t4_loop.trips) : Fin 3 → Nat :=
  let c12_i32_730 : BitVec 32 := 12#32
  let c0_i32_412 : BitVec 32 := 0#32
  let c1_i32_414 : BitVec 32 := 1#32
  let arg14 : BitVec 32 := Scf.iv c0_i32_412 c1_i32_414 k0_t4
  let v646 : BitVec 32 := Scalar.addi c12_i32_730 arg14
  let v648 : Index := Scalar.indexCast v646
  let c0 : Index := 0#32
  let c0_731 : Index := 0#32
  ![v648.toNat, 0, 0]
def k0_off13 (k0_t4 : Fin k0_t4_loop.trips) : Fin 3 → Nat :=
  let c12_i32_730 : BitVec 32 := 12#32
  let c0_i32_412 : BitVec 32 := 0#32
  let c1_i32_414 : BitVec 32 := 1#32
  let arg14 : BitVec 32 := Scf.iv c0_i32_412 c1_i32_414 k0_t4
  let v646 : BitVec 32 := Scalar.addi c12_i32_730 arg14
  let v651 : Index := Scalar.indexCast v646
  let c0_732 : Index := 0#32
  let c0_733 : Index := 0#32
  ![v651.toNat, 0, 0]
def k0_off14 (d0 : Dev nD) (k0_t4 : Fin k0_t4_loop.trips) : Fin 3 → Nat :=
  let c2_i32_22 : BitVec 32 := 2#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v44 : BitVec 32 := Scalar.muli c2_i32_22 v5
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v45 : BitVec 32 := Scalar.addi v44 v18
  let c16_i32 : BitVec 32 := 16#32
  let v62 : BitVec 32 := Scalar.muli v45 c16_i32
  let c12_i32_730 : BitVec 32 := 12#32
  let c0_i32_412 : BitVec 32 := 0#32
  let c1_i32_414 : BitVec 32 := 1#32
  let arg14 : BitVec 32 := Scf.iv c0_i32_412 c1_i32_414 k0_t4
  let v646 : BitVec 32 := Scalar.addi c12_i32_730 arg14
  let v647 : BitVec 32 := Scalar.addi v62 v646
  let v693 : Index := Scalar.indexCast v647
  let c0_748 : Index := 0#32
  let c0_749 : Index := 0#32
  ![v693.toNat, 0, 0]
def k0_dev21 (d0 : Dev nD) : Nat :=
  let c0_i32_420 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_419 : BitVec 32 := 8#32
  let v410 : BitVec 32 := Scalar.muli v2 c8_i32_419
  let v411 : BitVec 32 := Scalar.addi c0_i32_420 v410
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v20 : BitVec 32 := Scalar.addi v5 v18
  let c2_i32_8 : BitVec 32 := 2#32
  let c0_i32_9 : BitVec 32 := 0#32
  let v21 : BitVec 1 := Scalar.cmpi .eq c2_i32_8 c0_i32_9
  let c1_i32_10 : BitVec 32 := 1#32
  let v22 : BitVec 32 := Scalar.select v21 c1_i32_10 c2_i32_8
  let v23 : BitVec 32 := Scalar.remsi v20 v22
  let c0_i32_12 : BitVec 32 := 0#32
  let v25 : BitVec 1 := Scalar.cmpi .slt v23 c0_i32_12
  let c0_i32_13 : BitVec 32 := 0#32
  let v26 : BitVec 1 := Scalar.cmpi .slt v22 c0_i32_13
  let v27 : BitVec 1 := Scalar.xori v25 v26
  let c0_i32_11 : BitVec 32 := 0#32
  let v24 : BitVec 1 := Scalar.cmpi .ne v23 c0_i32_11
  let v28 : BitVec 1 := Scalar.andi v27 v24
  let v29 : BitVec 32 := Scalar.addi v23 v22
  let v30 : BitVec 32 := Scalar.select v28 v29 v23
  let c0_i32_16 : BitVec 32 := 0#32
  let v34 : BitVec 1 := Scalar.cmpi .eq v30 c0_i32_16
  let c1_i32_17 : BitVec 32 := 1#32
  let v35 : BitVec 32 := Scalar.subi c1_i32_17 v5
  let v36 : BitVec 32 := Scalar.select v34 v35 v5
  let c4_i32_421 : BitVec 32 := 4#32
  let v412 : BitVec 32 := Scalar.muli v36 c4_i32_421
  let v413 : BitVec 32 := Scalar.addi v411 v412
  let c0_i32_18 : BitVec 32 := 0#32
  let v37 : BitVec 1 := Scalar.cmpi .eq v30 c0_i32_18
  let c1_i32_14 : BitVec 32 := 1#32
  let v31 : BitVec 32 := Scalar.addi v8 c1_i32_14
  let c2_i32_15 : BitVec 32 := 2#32
  let v32 : BitVec 32 := Scalar.muli c2_i32_15 v18
  let v33 : BitVec 32 := Scalar.subi v31 v32
  let v38 : BitVec 32 := Scalar.select v37 v8 v33
  let c1_i32_422 : BitVec 32 := 1#32
  let v414 : BitVec 32 := Scalar.muli v38 c1_i32_422
  let v415 : BitVec 32 := Scalar.addi v413 v414
  v415.toNat
def k0_dev22 (d0 : Dev nD) : Nat :=
  let c0_i32_430 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_429 : BitVec 32 := 8#32
  let v422 : BitVec 32 := Scalar.muli v2 c8_i32_429
  let v423 : BitVec 32 := Scalar.addi c0_i32_430 v422
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v20 : BitVec 32 := Scalar.addi v5 v18
  let c2_i32_8 : BitVec 32 := 2#32
  let c0_i32_9 : BitVec 32 := 0#32
  let v21 : BitVec 1 := Scalar.cmpi .eq c2_i32_8 c0_i32_9
  let c1_i32_10 : BitVec 32 := 1#32
  let v22 : BitVec 32 := Scalar.select v21 c1_i32_10 c2_i32_8
  let v23 : BitVec 32 := Scalar.remsi v20 v22
  let c0_i32_12 : BitVec 32 := 0#32
  let v25 : BitVec 1 := Scalar.cmpi .slt v23 c0_i32_12
  let c0_i32_13 : BitVec 32 := 0#32
  let v26 : BitVec 1 := Scalar.cmpi .slt v22 c0_i32_13
  let v27 : BitVec 1 := Scalar.xori v25 v26
  let c0_i32_11 : BitVec 32 := 0#32
  let v24 : BitVec 1 := Scalar.cmpi .ne v23 c0_i32_11
  let v28 : BitVec 1 := Scalar.andi v27 v24
  let v29 : BitVec 32 := Scalar.addi v23 v22
  let v30 : BitVec 32 := Scalar.select v28 v29 v23
  let c1_i32_19 : BitVec 32 := 1#32
  let v39 : BitVec 1 := Scalar.cmpi .eq v30 c1_i32_19
  let c1_i32_20 : BitVec 32 := 1#32
  let v40 : BitVec 32 := Scalar.subi c1_i32_20 v5
  let v41 : BitVec 32 := Scalar.select v39 v40 v5
  let c4_i32_431 : BitVec 32 := 4#32
  let v424 : BitVec 32 := Scalar.muli v41 c4_i32_431
  let v425 : BitVec 32 := Scalar.addi v423 v424
  let c1_i32_21 : BitVec 32 := 1#32
  let v42 : BitVec 1 := Scalar.cmpi .eq v30 c1_i32_21
  let c1_i32_14 : BitVec 32 := 1#32
  let v31 : BitVec 32 := Scalar.addi v8 c1_i32_14
  let c2_i32_15 : BitVec 32 := 2#32
  let v32 : BitVec 32 := Scalar.muli c2_i32_15 v18
  let v33 : BitVec 32 := Scalar.subi v31 v32
  let v43 : BitVec 32 := Scalar.select v42 v8 v33
  let c1_i32_432 : BitVec 32 := 1#32
  let v426 : BitVec 32 := Scalar.muli v43 c1_i32_432
  let v427 : BitVec 32 := Scalar.addi v425 v426
  v427.toNat
def k0_dev23 (d0 : Dev nD) : Nat :=
  let c0_i32_452 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_451 : BitVec 32 := 8#32
  let v446 : BitVec 32 := Scalar.muli v2 c8_i32_451
  let v447 : BitVec 32 := Scalar.addi c0_i32_452 v446
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v20 : BitVec 32 := Scalar.addi v5 v18
  let c2_i32_8 : BitVec 32 := 2#32
  let c0_i32_9 : BitVec 32 := 0#32
  let v21 : BitVec 1 := Scalar.cmpi .eq c2_i32_8 c0_i32_9
  let c1_i32_10 : BitVec 32 := 1#32
  let v22 : BitVec 32 := Scalar.select v21 c1_i32_10 c2_i32_8
  let v23 : BitVec 32 := Scalar.remsi v20 v22
  let c0_i32_12 : BitVec 32 := 0#32
  let v25 : BitVec 1 := Scalar.cmpi .slt v23 c0_i32_12
  let c0_i32_13 : BitVec 32 := 0#32
  let v26 : BitVec 1 := Scalar.cmpi .slt v22 c0_i32_13
  let v27 : BitVec 1 := Scalar.xori v25 v26
  let c0_i32_11 : BitVec 32 := 0#32
  let v24 : BitVec 1 := Scalar.cmpi .ne v23 c0_i32_11
  let v28 : BitVec 1 := Scalar.andi v27 v24
  let v29 : BitVec 32 := Scalar.addi v23 v22
  let v30 : BitVec 32 := Scalar.select v28 v29 v23
  let c0_i32_16 : BitVec 32 := 0#32
  let v34 : BitVec 1 := Scalar.cmpi .eq v30 c0_i32_16
  let c1_i32_17 : BitVec 32 := 1#32
  let v35 : BitVec 32 := Scalar.subi c1_i32_17 v5
  let v36 : BitVec 32 := Scalar.select v34 v35 v5
  let c4_i32_453 : BitVec 32 := 4#32
  let v448 : BitVec 32 := Scalar.muli v36 c4_i32_453
  let v449 : BitVec 32 := Scalar.addi v447 v448
  let c0_i32_18 : BitVec 32 := 0#32
  let v37 : BitVec 1 := Scalar.cmpi .eq v30 c0_i32_18
  let c1_i32_14 : BitVec 32 := 1#32
  let v31 : BitVec 32 := Scalar.addi v8 c1_i32_14
  let c2_i32_15 : BitVec 32 := 2#32
  let v32 : BitVec 32 := Scalar.muli c2_i32_15 v18
  let v33 : BitVec 32 := Scalar.subi v31 v32
  let v38 : BitVec 32 := Scalar.select v37 v8 v33
  let c1_i32_454 : BitVec 32 := 1#32
  let v450 : BitVec 32 := Scalar.muli v38 c1_i32_454
  let v451 : BitVec 32 := Scalar.addi v449 v450
  v451.toNat
def k0_off15 (d0 : Dev nD) (c0_i32_460 : BitVec 32) : Fin 3 → Nat :=
  let c2_i32_31 : BitVec 32 := 2#32
  let c1_i32_30 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v58 : BitVec 32 := Scalar.subi c1_i32_30 v5
  let v59 : BitVec 32 := Scalar.muli c2_i32_31 v58
  let c1_i32_32 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v60 : BitVec 32 := Scalar.subi c1_i32_32 v18
  let v61 : BitVec 32 := Scalar.addi v59 v60
  let c16_i32_459 : BitVec 32 := 16#32
  let v458 : BitVec 32 := Scalar.muli v61 c16_i32_459
  let v459 : BitVec 32 := Scalar.addi v458 c0_i32_460
  let c0_i32_467 : BitVec 32 := 0#32
  let c0_i32_468 : BitVec 32 := 0#32
  ![v459.toNat, 0, 0]
def k0_off16 (d0 : Dev nD) (c0_i32_508 : BitVec 32) : Fin 3 → Nat :=
  let c6_i32 : BitVec 32 := 6#32
  let c2_i32_22 : BitVec 32 := 2#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v44 : BitVec 32 := Scalar.muli c2_i32_22 v5
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v45 : BitVec 32 := Scalar.addi v44 v18
  let v506 : BitVec 32 := Scalar.subi c6_i32 v45
  let c2_i32_23 : BitVec 32 := 2#32
  let v20 : BitVec 32 := Scalar.addi v5 v18
  let c2_i32_8 : BitVec 32 := 2#32
  let c0_i32_9 : BitVec 32 := 0#32
  let v21 : BitVec 1 := Scalar.cmpi .eq c2_i32_8 c0_i32_9
  let c1_i32_10 : BitVec 32 := 1#32
  let v22 : BitVec 32 := Scalar.select v21 c1_i32_10 c2_i32_8
  let v23 : BitVec 32 := Scalar.remsi v20 v22
  let c0_i32_12 : BitVec 32 := 0#32
  let v25 : BitVec 1 := Scalar.cmpi .slt v23 c0_i32_12
  let c0_i32_13 : BitVec 32 := 0#32
  let v26 : BitVec 1 := Scalar.cmpi .slt v22 c0_i32_13
  let v27 : BitVec 1 := Scalar.xori v25 v26
  let c0_i32_11 : BitVec 32 := 0#32
  let v24 : BitVec 1 := Scalar.cmpi .ne v23 c0_i32_11
  let v28 : BitVec 1 := Scalar.andi v27 v24
  let v29 : BitVec 32 := Scalar.addi v23 v22
  let v30 : BitVec 32 := Scalar.select v28 v29 v23
  let c1_i32_19 : BitVec 32 := 1#32
  let v39 : BitVec 1 := Scalar.cmpi .eq v30 c1_i32_19
  let c1_i32_20 : BitVec 32 := 1#32
  let v40 : BitVec 32 := Scalar.subi c1_i32_20 v5
  let v41 : BitVec 32 := Scalar.select v39 v40 v5
  let v46 : BitVec 32 := Scalar.muli c2_i32_23 v41
  let c1_i32_21 : BitVec 32 := 1#32
  let v42 : BitVec 1 := Scalar.cmpi .eq v30 c1_i32_21
  let c1_i32_14 : BitVec 32 := 1#32
  let v31 : BitVec 32 := Scalar.addi v8 c1_i32_14
  let c2_i32_15 : BitVec 32 := 2#32
  let v32 : BitVec 32 := Scalar.muli c2_i32_15 v18
  let v33 : BitVec 32 := Scalar.subi v31 v32
  let v43 : BitVec 32 := Scalar.select v42 v8 v33
  let c2_i32_24 : BitVec 32 := 2#32
  let c0_i32_25 : BitVec 32 := 0#32
  let v47 : BitVec 1 := Scalar.cmpi .eq c2_i32_24 c0_i32_25
  let c1_i32_26 : BitVec 32 := 1#32
  let v48 : BitVec 32 := Scalar.select v47 c1_i32_26 c2_i32_24
  let v49 : BitVec 32 := Scalar.remsi v43 v48
  let c0_i32_28 : BitVec 32 := 0#32
  let v51 : BitVec 1 := Scalar.cmpi .slt v49 c0_i32_28
  let c0_i32_29 : BitVec 32 := 0#32
  let v52 : BitVec 1 := Scalar.cmpi .slt v48 c0_i32_29
  let v53 : BitVec 1 := Scalar.xori v51 v52
  let c0_i32_27 : BitVec 32 := 0#32
  let v50 : BitVec 1 := Scalar.cmpi .ne v49 c0_i32_27
  let v54 : BitVec 1 := Scalar.andi v53 v50
  let v55 : BitVec 32 := Scalar.addi v49 v48
  let v56 : BitVec 32 := Scalar.select v54 v55 v49
  let v57 : BitVec 32 := Scalar.addi v46 v56
  let v507 : BitVec 32 := Scalar.subi v506 v57
  let c2_i32_31 : BitVec 32 := 2#32
  let c1_i32_30 : BitVec 32 := 1#32
  let v58 : BitVec 32 := Scalar.subi c1_i32_30 v5
  let v59 : BitVec 32 := Scalar.muli c2_i32_31 v58
  let c1_i32_32 : BitVec 32 := 1#32
  let v60 : BitVec 32 := Scalar.subi c1_i32_32 v18
  let v61 : BitVec 32 := Scalar.addi v59 v60
  let v508 : BitVec 32 := Scalar.subi v507 v61
  let c16_i32_507 : BitVec 32 := 16#32
  let v509 : BitVec 32 := Scalar.muli v508 c16_i32_507
  let v510 : BitVec 32 := Scalar.addi v509 c0_i32_508
  let c0_i32_515 : BitVec 32 := 0#32
  let c0_i32_516 : BitVec 32 := 0#32
  ![v510.toNat, 0, 0]
abbrev stage0_0 : Fin 1 → Memref sig .tc .vmem S16x256x64 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x64x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16x64x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S64x64x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S4x512x16x64 : Shape := ⟨4, ![4, 512, 16, 64]⟩
abbrev S4x16x512x512 : Shape := ⟨4, ![4, 16, 512, 512]⟩
abbrev S_ : Shape := ⟨0, ![]⟩
abbrev S4x16x512 : Shape := ⟨3, ![4, 16, 512]⟩
abbrev S4x16x512x1 : Shape := ⟨4, ![4, 16, 512, 1]⟩
abbrev S4x16x64x512 : Shape := ⟨4, ![4, 16, 64, 512]⟩

abbrev nBuf : Space → Nat
  | .hbm => 20
  | .vmem => 0
  | .smem => 0
  | _ => 0

abbrev bufTy : (tb : Table) → Fin (tcTables nBuf tb) → BufTy
  | .hbm, ⟨0, _⟩ => ⟨S4x512x16x64, .f32⟩
  | .hbm, ⟨1, _⟩ => ⟨S4x512x16x64, .f32⟩
  | .hbm, ⟨2, _⟩ => ⟨S4x512x16x64, .f32⟩
  | .hbm, ⟨3, _⟩ => ⟨S4x16x512x512, .f32⟩
  | .hbm, ⟨4, _⟩ => ⟨S_, .f32⟩
  | .hbm, ⟨5, _⟩ => ⟨S4x16x512x512, .f32⟩
  | .hbm, ⟨6, _⟩ => ⟨S4x16x512x512, .f32⟩
  | .hbm, ⟨7, _⟩ => ⟨S_, .f32⟩
  | .hbm, ⟨8, _⟩ => ⟨S4x16x512, .f32⟩
  | .hbm, ⟨9, _⟩ => ⟨S4x16x512x1, .f32⟩
  | .hbm, ⟨10, _⟩ => ⟨S4x16x512x512, .f32⟩
  | .hbm, ⟨11, _⟩ => ⟨S4x16x512x512, .f32⟩
  | .hbm, ⟨12, _⟩ => ⟨S4x16x512x512, .f32⟩
  | .hbm, ⟨13, _⟩ => ⟨S_, .f32⟩
  | .hbm, ⟨14, _⟩ => ⟨S4x16x512, .f32⟩
  | .hbm, ⟨15, _⟩ => ⟨S4x16x512x1, .f32⟩
  | .hbm, ⟨16, _⟩ => ⟨S4x16x512x512, .f32⟩
  | .hbm, ⟨17, _⟩ => ⟨S4x16x512x512, .f32⟩
  | .hbm, ⟨18, _⟩ => ⟨S4x16x64x512, .f32⟩
  | .hbm, ⟨19, _⟩ => ⟨S4x512x16x64, .f32⟩
  | _, _ => ⟨S4x512x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Proof.KernelIdeal.Prog.lean ====
/-
  The kernel body in a normal form: the device's neighbours, its quarter of the output, the slices and semaphores the
  body names, each kind of statement as one small program at a symbolic chunk, and the theorem that the printed body is
  the sequence of them.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Regions
public import Idealize.ShloMosaic.Lib.Pipeline.Regions
public import Idealize.ShloMosaic.Lib.Pipeline.Kit
public import Idealize.ShloMosaic.Lib.Tactic

@[expose] public section

set_option maxRecDepth 16384

noncomputable section

namespace Cert.KernelIdealProof

open Cert.KernelIdeal Cert.KernelIdeal.Gen
open Idealize.ShloMosaic
open Idealize.ShloMosaic.TcCoe
open Idealize.SL Idealize.SL.Sem

variable {F : FTy → Type} [FloatOps F]

/-! ## The mesh: device `8x + 4y + z` -/

/-- The device with the other half of the keys: `x` flipped. -/
def px (c : Dev nD) : Dev nD := ⟨(c.val + 8) % 16, Nat.mod_lt _ (by decide)⟩
/-- The `y` coordinate, the parity of `z`, and what is left of `z`. -/
def yOf (c : Dev nD) : ℕ := (c.val / 4) % 2
def zOf (c : Dev nD) : ℕ := c.val % 4
def xOf (c : Dev nD) : ℕ := c.val / 8
/-- The device of the ring of four whose quarter is `q`. -/
def owner (c : Dev nD) (q : Fin 4) : Dev nD :=
  ⟨8 * (c.val / 8) + 4 * (q.val / 2) + (2 * (c.val % 4 / 2) + q.val % 2), by have := c.isLt; have := q.isLt; simp only [nD] at *; omega⟩
/-- The quarter of the output device `c` computes. -/
def qi (c : Dev nD) : Fin 4 := ⟨2 * ((c.val / 4) % 2) + c.val % 2, by omega⟩
/-- The quarter of the ring's next device: `0 → 2 → 3 → 1 → 0`. -/
def qnext : Fin 4 → Fin 4 := fun | 0 => 2 | 1 => 0 | 2 => 3 | 3 => 1
def qprev : Fin 4 → Fin 4 := fun | 0 => 1 | 1 => 3 | 2 => 0 | 3 => 2
/-- The ring's neighbours. -/
def right (c : Dev nD) : Dev nD := owner c (qnext (qi c))
def left (c : Dev nD) : Dev nD := owner c (qprev (qi c))

theorem px_px (c : Dev nD) : px (px c) = c := by revert c; decide +kernel
theorem left_right (c : Dev nD) : left (right c) = c := by revert c; decide +kernel
theorem right_left (c : Dev nD) : right (left c) = c := by revert c; decide +kernel
theorem qi_right (c : Dev nD) : qi (right c) = qnext (qi c) := by revert c; decide +kernel
theorem qi_left (c : Dev nD) : qi (left c) = qprev (qi c) := by revert c; decide +kernel
theorem owner_right (c : Dev nD) (q : Fin 4) : owner (right c) q = owner c q := by revert c q; decide +kernel
theorem owner_left (c : Dev nD) (q : Fin 4) : owner (left c) q = owner c q := by revert c q; decide +kernel
theorem owner_qi (c : Dev nD) : owner c (qi c) = c := by revert c; decide +kernel
theorem qprev_qnext (q : Fin 4) : qprev (qnext q) = q := by revert q; decide
theorem qnext_qprev (q : Fin 4) : qnext (qprev q) = q := by revert q; decide

/-! ### The device chains of the program -/

theorem dev1_eq (c : Dev nD) : (⟨k0_dev1 c, k0_dev1_lt c⟩ : Dev nD) = px c := by revert c; decide +kernel
theorem dev2_eq (c : Dev nD) : (⟨k0_dev2 c, k0_dev2_lt c⟩ : Dev nD) = left c := by revert c; decide +kernel
theorem dev3_eq (c : Dev nD) : (⟨k0_dev3 c, k0_dev3_lt c⟩ : Dev nD) = right c := by revert c; decide +kernel
theorem dev4_eq (c : Dev nD) : (⟨k0_dev4 c, k0_dev4_lt c⟩ : Dev nD) = px c := by revert c; decide +kernel
theorem dev5_eq (c : Dev nD) : (⟨k0_dev5 c, k0_dev5_lt c⟩ : Dev nD) = px c := by revert c; decide +kernel
theorem dev6_eq (c : Dev nD) : (⟨k0_dev6 c, k0_dev6_lt c⟩ : Dev nD) = px c := by revert c; decide +kernel
theorem dev7_eq (c : Dev nD) : (⟨k0_dev7 c, k0_dev7_lt c⟩ : Dev nD) = px c := by revert c; decide +kernel
theorem dev8_eq (c : Dev nD) : (⟨k0_dev8 c, k0_dev8_lt c⟩ : Dev nD) = px c := by revert c; decide +kernel
theorem dev9_eq (c : Dev nD) : (⟨k0_dev9 c, k0_dev9_lt c⟩ : Dev nD) = px c := by revert c; decide +kernel
theorem dev10_eq (c : Dev nD) : (⟨k0_dev10 c, k0_dev10_lt c⟩ : Dev nD) = px c := by revert c; decide +kernel
theorem dev11_eq (c : Dev nD) : (⟨k0_dev11 c, k0_dev11_lt c⟩ : Dev nD) = px c := by revert c; decide +kernel
theorem dev12_eq (c : Dev nD) : (⟨k0_dev12 c, k0_dev12_lt c⟩ : Dev nD) = right c := by revert c; decide +kernel
theorem dev13_eq (c : Dev nD) : (⟨k0_dev13 c, k0_dev13_lt c⟩ : Dev nD) = left c := by revert c; decide +kernel
theorem dev14_eq (c : Dev nD) : (⟨k0_dev14 c, k0_dev14_lt c⟩ : Dev nD) = right c := by revert c; decide +kernel
theorem dev15_eq (c : Dev nD) : (⟨k0_dev15 c, k0_dev15_lt c⟩ : Dev nD) = right c := by revert c; decide +kernel
theorem dev16_eq (c : Dev nD) : (⟨k0_dev16 c, k0_dev16_lt c⟩ : Dev nD) = left c := by revert c; decide +kernel
theorem dev17_eq (c : Dev nD) : (⟨k0_dev17 c, k0_dev17_lt c⟩ : Dev nD) = right c := by revert c; decide +kernel
theorem dev18_eq (c : Dev nD) : (⟨k0_dev18 c, k0_dev18_lt c⟩ : Dev nD) = right c := by revert c; decide +kernel
theorem dev19_eq (c : Dev nD) : (⟨k0_dev19 c, k0_dev19_lt c⟩ : Dev nD) = left c := by revert c; decide +kernel
theorem dev20_eq (c : Dev nD) : (⟨k0_dev20 c, k0_dev20_lt c⟩ : Dev nD) = right c := by revert c; decide +kernel
theorem dev21_eq (c : Dev nD) : (⟨k0_dev21 c, k0_dev21_lt c⟩ : Dev nD) = right c := by revert c; decide +kernel
theorem dev22_eq (c : Dev nD) : (⟨k0_dev22 c, k0_dev22_lt c⟩ : Dev nD) = left c := by revert c; decide +kernel
theorem dev23_eq (c : Dev nD) : (⟨k0_dev23 c, k0_dev23_lt c⟩ : Dev nD) = right c := by revert c; decide +kernel

/-! ### The offset chains of the program -/

theorem off4_eq (c : Dev nD) (k : Fin 4) : k0_off4 c (BitVec.ofNat 32 (4 * k.val)) = ![16 * (qi c).val + 4 * k.val, 0, 0] := by
  revert c k; decide +kernel
theorem off5_eq (c : Dev nD) (k : Fin 4) : k0_off5 c (BitVec.ofNat 32 (4 * k.val)) = ![16 * (qprev (qi c)).val + 4 * k.val, 0, 0] := by
  revert c k; decide +kernel
theorem off15_eq (c : Dev nD) (k : Fin 4) :
    k0_off15 c (BitVec.ofNat 32 (4 * k.val)) = ![16 * (qprev (qprev (qi c))).val + 4 * k.val, 0, 0] := by
  revert c k; decide +kernel
theorem off16_eq (c : Dev nD) (k : Fin 4) : k0_off16 c (BitVec.ofNat 32 (4 * k.val)) = ![16 * (qnext (qi c)).val + 4 * k.val, 0, 0] := by
  revert c k; decide +kernel
theorem off3_eq (c : Dev nD) (t : Fin k0_t1_loop.trips) : k0_off3 c t = ![16 * (qi c).val + (4 * (0 : Fin 4).val + t.val), 0, 0] := by
  revert c t; decide +kernel
theorem off8_eq (c : Dev nD) (t : Fin k0_t2_loop.trips) : k0_off8 c t = ![16 * (qi c).val + (4 * (1 : Fin 4).val + t.val), 0, 0] := by
  revert c t; decide +kernel
theorem off11_eq (c : Dev nD) (t : Fin k0_t3_loop.trips) : k0_off11 c t = ![16 * (qi c).val + (4 * (2 : Fin 4).val + t.val), 0, 0] := by
  revert c t; decide +kernel
theorem off14_eq (c : Dev nD) (t : Fin k0_t4_loop.trips) : k0_off14 c t = ![16 * (qi c).val + (4 * (3 : Fin 4).val + t.val), 0, 0] := by
  revert c t; decide +kernel
theorem off1_eq (t : Fin k0_t1_loop.trips) : k0_off1 t = ![4 * (0 : Fin 4).val + t.val, 0, 0] := by revert t; decide +kernel
theorem off2_eq (t : Fin k0_t1_loop.trips) : k0_off2 t = ![4 * (0 : Fin 4).val + t.val, 0, 0] := by revert t; decide +kernel
theorem off6_eq (t : Fin k0_t2_loop.trips) : k0_off6 t = ![4 * (1 : Fin 4).val + t.val, 0, 0] := by revert t; decide +kernel
theorem off7_eq (t : Fin k0_t2_loop.trips) : k0_off7 t = ![4 * (1 : Fin 4).val + t.val, 0, 0] := by revert t; decide +kernel
theorem off9_eq (t : Fin k0_t3_loop.trips) : k0_off9 t = ![4 * (2 : Fin 4).val + t.val, 0, 0] := by revert t; decide +kernel
theorem off10_eq (t : Fin k0_t3_loop.trips) : k0_off10 t = ![4 * (2 : Fin 4).val + t.val, 0, 0] := by revert t; decide +kernel
theorem off12_eq (t : Fin k0_t4_loop.trips) : k0_off12 t = ![4 * (3 : Fin 4).val + t.val, 0, 0] := by revert t; decide +kernel
theorem off13_eq (t : Fin k0_t4_loop.trips) : k0_off13 t = ![4 * (3 : Fin 4).val + t.val, 0, 0] := by revert t; decide +kernel

/-! ## The memrefs and semaphores -/

/-- The six buffers the body is called with: queries, keys, values, output, and the landing buffers of the other half's
    keys and values. -/
abbrev mQ : Memref sig .tc .vmem S16x256x64 .bf16 := Memref.whole cc0_stg0_0
abbrev mK : Memref sig .tc .vmem S16x64x256 .bf16 := Memref.whole cc0_stg1_0
abbrev mV : Memref sig .tc .vmem S16x64x256 .bf16 := Memref.whole cc0_stg2_0
abbrev mO : Memref sig .tc .vmem S64x64x256 .bf16 := Memref.whole cc0_stg3_0
abbrev mKr : Memref sig .tc .vmem S16x64x256 .bf16 := Memref.whole cc0_scratch0
abbrev mVr : Memref sig .tc .vmem S16x64x256 .bf16 := Memref.whole cc0_scratch1

/-- The semaphore of kind `t` and chunk `k`. The kinds: 0, 1 the departures of the keys and the values, 2, 3 their
    arrivals, 4, 5 the departures of a computed chunk to the right and to the left, 6 the departure of a forwarded chunk,
    7 and 8 the arrivals from the left (computed there, forwarded there), 9 the arrival from the right. -/
def dsem (t : Fin 10) (k : Fin 4) : DmaSem sig := ⟨4 + 4 * t.val + k.val, by have := t.isLt; have := k.isLt; show _ < 44; omega⟩

/-- The barrier semaphore. -/
abbrev barS : Sem sig := (SemArray.scalar (sig.barrier 0 rfl) : Sems sig S_).sem

theorem inbK (k : Fin 4) : ∀ a, (![4 * k.val, 0, 0] : Fin 3 → ℕ) a + S4x64x256.size a ≤ S16x64x256.size a := by revert k; decide +kernel
theorem inbO (q k : Fin 4) : ∀ a, (![16 * q.val + 4 * k.val, 0, 0] : Fin 3 → ℕ) a + S4x64x256.size a ≤ S64x64x256.size a := by
  revert q k; decide +kernel
theorem inbRQ (k t : Fin 4) : ∀ a, (![4 * k.val + t.val, 0, 0] : Fin 3 → ℕ) a + S1x256x64.size a ≤ S16x256x64.size a := by
  revert k t; decide +kernel
theorem inbRK (k t : Fin 4) : ∀ a, (![4 * k.val + t.val, 0, 0] : Fin 3 → ℕ) a + S1x64x256.size a ≤ S16x64x256.size a := by
  revert k t; decide +kernel
theorem inbRO (q k t : Fin 4) : ∀ a, (![16 * q.val + (4 * k.val + t.val), 0, 0] : Fin 3 → ℕ) a + S1x64x256.size a ≤ S64x64x256.size a := by
  revert q k t; decide +kernel

/-- Chunk `k` of a buffer of 16 heads; chunk `k` of quarter `q` of the output. -/
abbrev rK (k : Fin 4) : Rect S16x64x256 := Rect.unit (s := S16x64x256) ![4 * k.val, 0, 0] S4x64x256.size (inbK k)
abbrev rO (q k : Fin 4) : Rect S64x64x256 := Rect.unit (s := S64x64x256) ![16 * q.val + 4 * k.val, 0, 0] S4x64x256.size (inbO q k)
abbrev sK (M : Memref sig .tc .vmem S16x64x256 .bf16) (k : Fin 4) : Memref sig .tc .vmem S4x64x256 .bf16 := M.slice (rK k) (fun _ => rfl)
abbrev sO (q k : Fin 4) : Memref sig .tc .vmem S4x64x256 .bf16 := mO.slice (rO q k) (fun _ => rfl)

theorem wordsK (k : Fin 4) : (rK k).WholeWords (EltTy.packing .bf16) := by revert k; decide +kernel
theorem wordsO (q k : Fin 4) : (rO q k).WholeWords (EltTy.packing .bf16) := by revert q k; decide +kernel
theorem packedO (q k t : Fin 4) : (Rect.unit (s := S64x64x256) ![16 * q.val + (4 * k.val + t.val), 0, 0] S1x64x256.size (inbRO q k t)).PackedRows (EltTy.packing .bf16) := by
  revert q k t; decide +kernel

/-! ## The statements -/

/-- A transfer to device `d`. -/
def sendP (src dst : Memref sig .tc .vmem S4x64x256 .bf16) (hs : src.view.WordExact) (hd : dst.view.WordExact) (d : Dev nD)
    (sS sR : DmaSem sig) : Prog (TpuEff nD τ sig (Elt F) Λ₀ .tc) PUnit :=
  Prog.lift (.enqueueDma src (.remote (Dev.tc d) dst (.dma sS)) (.dma sR) hs hd ⟨⟨rfl, Or.inl rfl⟩, trivial⟩)

/-- A wait for a transfer. -/
def waitP (s : DmaSem sig) (src dst : Memref sig .tc .vmem S4x64x256 .bf16) (hs : src.view.WordExact) (hd : dst.view.WordExact) :
    Prog (TpuEff nD τ sig (Elt F) Λ₀ .tc) PUnit :=
  Prog.lift (.waitDma2 s src dst hs hd)

/-- A load of one head. -/
def loadQ (off : Fin 3 → ℕ) (h : ∀ a, off a + S1x256x64.size a ≤ S16x256x64.size a) :
    Prog (TpuEff nD τ sig (Elt F) Λ₀ .tc) (Vec F S1x256x64 .bf16) :=
  Prog.lift (.load mQ (Rect.unit (s := S16x256x64) off S1x256x64.size h).toLoadRect (View.loadsAt_vmem h_S1x256x64))
def loadK (M : Memref sig .tc .vmem S16x64x256 .bf16) (off : Fin 3 → ℕ) (h : ∀ a, off a + S1x64x256.size a ≤ S16x64x256.size a) :
    Prog (TpuEff nD τ sig (Elt F) Λ₀ .tc) (Vec F S1x64x256 .bf16) :=
  Prog.lift (.load M (Rect.unit (s := S16x64x256) off S1x64x256.size h).toLoadRect (View.loadsAt_vmem h_S1x64x256))
def loadO (off : Fin 3 → ℕ) (h : ∀ a, off a + S1x64x256.size a ≤ S64x64x256.size a) :
    Prog (TpuEff nD τ sig (Elt F) Λ₀ .tc) (Vec F S1x64x256 .bf16) :=
  Prog.lift (.load mO (Rect.unit (s := S64x64x256) off S1x64x256.size h).toLoadRect (View.loadsAt_vmem h_S1x64x256))
/-- A store of one head. -/
def storeO (off : Fin 3 → ℕ) (h : ∀ a, off a + S1x64x256.size a ≤ S64x64x256.size a)
    (hp : (Rect.unit (s := S64x64x256) off S1x64x256.size h).PackedRows (EltTy.packing .bf16)) (w : Vec F S1x64x256 .bf16) :
    Prog (TpuEff nD τ sig (Elt F) Λ₀ .tc) PUnit :=
  Prog.lift (.store mO (Rect.unit (s := S64x64x256) off S1x64x256.size h) w Finset.univ
    (View.stores_vmem h_S1x64x256 ((Memref.isWhole_whole _).storeExact_slice rfl _ hp) (fun _ => rfl)) (.inl rfl))

/-- What one head's trip stores, of the head's queries, keys, the other half's keys, values, the other half's values. -/
def rowv (q : Vec F S1x256x64 .bf16) (kl ko vl vo : Vec F S1x64x256 .bf16) : Vec F S1x64x256 .bf16 :=
  k0_pay37 (k0_pay8 q kl ko) (k0_pay9 q kl ko vl) vo

/-- One trip of chunk `k`'s loop: head `4k + t`. -/
def tripP (c : Dev nD) (k t : Fin 4) : Prog (TpuEff nD τ sig (Elt F) Λ₀ .tc) PUnit := do
  let q ← loadQ ![4 * k.val + t.val, 0, 0] (inbRQ k t)
  let kl ← loadK mK ![4 * k.val + t.val, 0, 0] (inbRK k t)
  let ko ← loadK mKr ![4 * k.val + t.val, 0, 0] (inbRK k t)
  let vl ← loadK mV ![4 * k.val + t.val, 0, 0] (inbRK k t)
  let vo ← loadK mVr ![4 * k.val + t.val, 0, 0] (inbRK k t)
  let _ ← loadO ![16 * (qi c).val + (4 * k.val + t.val), 0, 0] (inbRO (qi c) k t)
  storeO ![16 * (qi c).val + (4 * k.val + t.val), 0, 0] (inbRO (qi c) k t) (packedO (qi c) k t) (rowv q kl ko vl vo)

/-- Chunk `k`'s loop. -/
def loopP (c : Dev nD) (k : Fin 4) : Prog (TpuEff nD τ sig (Elt F) Λ₀ .tc) PUnit :=
  Scf.Loop.for k0_t1_loop k0_t1_ok ⟨⟩ fun t _ => tripP c k t

theorem exK (M : Memref sig .tc .vmem S16x64x256 .bf16) (hM : M.IsWhole) (k : Fin 4) : (sK M k).view.WordExact :=
  hM.wordExact_slice rfl _ (wordsK k)
theorem exO (q k : Fin 4) : (sO q k).view.WordExact := (Memref.isWhole_whole _).wordExact_slice rfl _ (wordsO q k)

abbrev eK (k : Fin 4) : (sK mK k).view.WordExact := exK mK (Memref.isWhole_whole _) k
abbrev eV (k : Fin 4) : (sK mV k).view.WordExact := exK mV (Memref.isWhole_whole _) k
abbrev eKr (k : Fin 4) : (sK mKr k).view.WordExact := exK mKr (Memref.isWhole_whole _) k
abbrev eVr (k : Fin 4) : (sK mVr k).view.WordExact := exK mVr (Memref.isWhole_whole _) k

/-- Chunk `k` of the keys, of the values, sent to the device with the other half. -/
def xK (c : Dev nD) (k : Fin 4) : Prog (TpuEff nD τ sig (Elt F) Λ₀ .tc) PUnit :=
  sendP (sK mK k) (sK mKr k) (eK k) (eKr k) (px c) (dsem 0 k) (dsem 2 k)
def xV (c : Dev nD) (k : Fin 4) : Prog (TpuEff nD τ sig (Elt F) Λ₀ .tc) PUnit :=
  sendP (sK mV k) (sK mVr k) (eV k) (eVr k) (px c) (dsem 1 k) (dsem 3 k)

/-- Quarter `q`'s chunk `k` sent to `d`. -/
def oP (d : Dev nD) (q k : Fin 4) (s r : Fin 10) : Prog (TpuEff nD τ sig (Elt F) Λ₀ .tc) PUnit :=
  sendP (sO q k) (sO q k) (exO q k) (exO q k) d (dsem s k) (dsem r k)
/-- The wait for it, at either end. -/
def wP (q k : Fin 4) (s : Fin 10) : Prog (TpuEff nD τ sig (Elt F) Λ₀ .tc) PUnit := waitP (dsem s k) (sO q k) (sO q k) (exO q k) (exO q k)

/-- The wait for a chunk of the other half's keys, and of its values; -/
def wKr (k : Fin 4) : Prog (TpuEff nD τ sig (Elt F) Λ₀ .tc) PUnit := waitP (dsem 2 k) (sK mK k) (sK mKr k) (eK k) (eKr k)
def wVr (k : Fin 4) : Prog (TpuEff nD τ sig (Elt F) Λ₀ .tc) PUnit := waitP (dsem 3 k) (sK mV k) (sK mVr k) (eV k) (eVr k)
/-- and for the departures of its own. -/
def wKs (k : Fin 4) : Prog (TpuEff nD τ sig (Elt F) Λ₀ .tc) PUnit := waitP (dsem 0 k) (sK mKr k) (sK mK k) (eKr k) (eK k)
def wVs (k : Fin 4) : Prog (TpuEff nD τ sig (Elt F) Λ₀ .tc) PUnit := waitP (dsem 1 k) (sK mVr k) (sK mV k) (eVr k) (eV k)

/-- One chunk: the wait for the other half's chunk, the heads' loop, the two transfers of the chunk computed, the wait for
    the left neighbour's, its forwarding. -/
def chunkP (c : Dev nD) (k : Fin 4) : Prog (TpuEff nD τ sig (Elt F) Λ₀ .tc) PUnit := do
  wKr k
  wVr k
  loopP c k
  oP (right c) (qi c) k 4 7
  oP (left c) (qi c) k 5 9
  wP (qprev (qi c)) k 7
  oP (right c) (qprev (qi c)) k 6 8

/-- The barrier. -/
def barP (c : Dev nD) : Prog (TpuEff nD τ sig (Elt F) Λ₀ .tc) PUnit := do
  semSignalWord (px c) barS 1#32
  semSignalWord (left c) barS 1#32
  semSignalWord (right c) barS 1#32
  semWaitWord barS 3#32

/-- The last waits of chunk `k`: the departures of the computed and the forwarded chunk. -/
def endP (c : Dev nD) (k : Fin 4) : Prog (TpuEff nD τ sig (Elt F) Λ₀ .tc) PUnit := do
  wP (qi c) k 4
  wP (qi c) k 5
  wP (qprev (qi c)) k 6

/-- The body after it has read its device. -/
def mainP (c : Dev nD) : Prog (TpuEff nD τ sig (Elt F) Λ₀ .tc) PUnit := do
  barP c
  xK c 0; xV c 0; xK c 1; xV c 1; xK c 2; xV c 2; xK c 3; xV c 3
  chunkP c 0; chunkP c 1; chunkP c 2; chunkP c 3
  wP (qprev (qprev (qi c))) 0 8; wP (qprev (qprev (qi c))) 1 8; wP (qprev (qprev (qi c))) 2 8; wP (qprev (qprev (qi c))) 3 8
  wP (qnext (qi c)) 0 9; wP (qnext (qi c)) 1 9; wP (qnext (qi c)) 2 9; wP (qnext (qi c)) 3 9
  wKs 0; wVs 0; wKs 1; wVs 1; wKs 2; wVs 2; wKs 3; wVs 3
  endP c 0; endP c 1; endP c 2; endP c 3

end Cert.KernelIdealProof
-- ==== Proof.KernelIdeal.BodyEq.lean ====
/-
  The printed body is the sequence of statements of `Prog`: each printed part is its statements (by unfolding, the device
  and offset chains rewritten to closed form), and the body is the parts in order.
-/
module

public import proofs.«01_k».proof.Proof.KernelIdeal.Prog

@[expose] public section

set_option maxRecDepth 65536

noncomputable section

namespace Cert.KernelIdealProof

open Cert.KernelIdeal Cert.KernelIdeal.Gen
open Idealize.ShloMosaic
open Idealize.ShloMosaic.TcCoe
open Idealize.SL Idealize.SL.Sem

variable {F : FTy → Type} [FloatOps F]

/-! ## The statements at the printed offsets -/

/-- The output's slice at an offset, as the program computes it. -/
def sOo (off : Fin 3 → ℕ) (h : ∀ a, off a + S4x64x256.size a ≤ S64x64x256.size a) : Memref sig .tc .vmem S4x64x256 .bf16 :=
  mO.slice (Rect.unit (s := S64x64x256) off S4x64x256.size h) (fun _ => rfl)

theorem exOo (off : Fin 3 → ℕ) (h : ∀ a, off a + S4x64x256.size a ≤ S64x64x256.size a)
    (hw : (Rect.unit (s := S64x64x256) off S4x64x256.size h).WholeWords (EltTy.packing .bf16)) : (sOo off h).view.WordExact :=
  (Memref.isWhole_whole _).wordExact_slice rfl _ hw

/-- A transfer and a wait at a computed offset. -/
def oPo (off : Fin 3 → ℕ) (h : ∀ a, off a + S4x64x256.size a ≤ S64x64x256.size a)
    (hw : (Rect.unit (s := S64x64x256) off S4x64x256.size h).WholeWords (EltTy.packing .bf16)) (d : Dev nD) (s r : DmaSem sig) :
    Prog (TpuEff nD τ sig (Elt F) Λ₀ .tc) PUnit :=
  sendP (sOo off h) (sOo off h) (exOo off h hw) (exOo off h hw) d s r
def wPo (off : Fin 3 → ℕ) (h : ∀ a, off a + S4x64x256.size a ≤ S64x64x256.size a)
    (hw : (Rect.unit (s := S64x64x256) off S4x64x256.size h).WholeWords (EltTy.packing .bf16)) (s : DmaSem sig) :
    Prog (TpuEff nD τ sig (Elt F) Λ₀ .tc) PUnit :=
  waitP s (sOo off h) (sOo off h) (exOo off h hw) (exOo off h hw)

theorem off4_eq0 (c : Dev nD) : k0_off4 c 0#32 = ![16 * (qi c).val + 4 * (0 : Fin 4).val, 0, 0] := off4_eq c 0
theorem off4_eq1 (c : Dev nD) : k0_off4 c 4#32 = ![16 * (qi c).val + 4 * (1 : Fin 4).val, 0, 0] := off4_eq c 1
theorem off4_eq2 (c : Dev nD) : k0_off4 c 8#32 = ![16 * (qi c).val + 4 * (2 : Fin 4).val, 0, 0] := off4_eq c 2
theorem off4_eq3 (c : Dev nD) : k0_off4 c 12#32 = ![16 * (qi c).val + 4 * (3 : Fin 4).val, 0, 0] := off4_eq c 3
theorem off5_eq0 (c : Dev nD) : k0_off5 c 0#32 = ![16 * (qprev (qi c)).val + 4 * (0 : Fin 4).val, 0, 0] := off5_eq c 0
theorem off5_eq1 (c : Dev nD) : k0_off5 c 4#32 = ![16 * (qprev (qi c)).val + 4 * (1 : Fin 4).val, 0, 0] := off5_eq c 1
theorem off5_eq2 (c : Dev nD) : k0_off5 c 8#32 = ![16 * (qprev (qi c)).val + 4 * (2 : Fin 4).val, 0, 0] := off5_eq c 2
theorem off5_eq3 (c : Dev nD) : k0_off5 c 12#32 = ![16 * (qprev (qi c)).val + 4 * (3 : Fin 4).val, 0, 0] := off5_eq c 3
theorem off15_eq0 (c : Dev nD) : k0_off15 c 0#32 = ![16 * (qprev (qprev (qi c))).val + 4 * (0 : Fin 4).val, 0, 0] := off15_eq c 0
theorem off15_eq1 (c : Dev nD) : k0_off15 c 4#32 = ![16 * (qprev (qprev (qi c))).val + 4 * (1 : Fin 4).val, 0, 0] := off15_eq c 1
theorem off15_eq2 (c : Dev nD) : k0_off15 c 8#32 = ![16 * (qprev (qprev (qi c))).val + 4 * (2 : Fin 4).val, 0, 0] := off15_eq c 2
theorem off15_eq3 (c : Dev nD) : k0_off15 c 12#32 = ![16 * (qprev (qprev (qi c))).val + 4 * (3 : Fin 4).val, 0, 0] := off15_eq c 3
theorem off16_eq0 (c : Dev nD) : k0_off16 c 0#32 = ![16 * (qnext (qi c)).val + 4 * (0 : Fin 4).val, 0, 0] := off16_eq c 0
theorem off16_eq1 (c : Dev nD) : k0_off16 c 4#32 = ![16 * (qnext (qi c)).val + 4 * (1 : Fin 4).val, 0, 0] := off16_eq c 1
theorem off16_eq2 (c : Dev nD) : k0_off16 c 8#32 = ![16 * (qnext (qi c)).val + 4 * (2 : Fin 4).val, 0, 0] := off16_eq c 2
theorem off16_eq3 (c : Dev nD) : k0_off16 c 12#32 = ![16 * (qnext (qi c)).val + 4 * (3 : Fin 4).val, 0, 0] := off16_eq c 3

/-! ## The four loops -/

/-- One head at the printed offsets. -/
def tripRaw (oQ oK oO : Fin 3 → ℕ) (hQ : ∀ a, oQ a + S1x256x64.size a ≤ S16x256x64.size a)
    (hK : ∀ a, oK a + S1x64x256.size a ≤ S16x64x256.size a) (hO : ∀ a, oO a + S1x64x256.size a ≤ S64x64x256.size a)
    (hp : (Rect.unit (s := S64x64x256) oO S1x64x256.size hO).PackedRows (EltTy.packing .bf16)) :
    Prog (TpuEff nD τ sig (Elt F) Λ₀ .tc) PUnit := do
  let q ← loadQ oQ hQ
  let kl ← loadK mK oK hK
  let ko ← loadK mKr oK hK
  let vl ← loadK mV oK hK
  let vo ← loadK mVr oK hK
  let _ ← loadO oO hO
  storeO oO hO hp (rowv q kl ko vl vo)

def loopRaw0 (c : Dev nD) : Prog (TpuEff nD τ sig (Elt F) Λ₀ .tc) PUnit :=
  Scf.Loop.for k0_t1_loop k0_t1_ok ⟨⟩ fun t _ =>
    tripRaw (k0_off1 t) (k0_off2 t) (k0_off3 c t) (k0_off1_inb t) (k0_off2_inb t) (k0_off3_inb c t) (k0_off3_packedbf16 c t)
theorem loop0_eq (c : Dev nD) : loopRaw0 (F := F) c = loopP c 0 := by
  unfold loopRaw0 loopP
  simp only [off1_eq, off2_eq, off3_eq]
  rfl
def loopRaw1 (c : Dev nD) : Prog (TpuEff nD τ sig (Elt F) Λ₀ .tc) PUnit :=
  Scf.Loop.for k0_t2_loop k0_t2_ok ⟨⟩ fun t _ =>
    tripRaw (k0_off6 t) (k0_off7 t) (k0_off8 c t) (k0_off6_inb t) (k0_off7_inb t) (k0_off8_inb c t) (k0_off8_packedbf16 c t)
theorem loop1_eq (c : Dev nD) : loopRaw1 (F := F) c = loopP c 1 := by
  unfold loopRaw1 loopP
  simp only [off6_eq, off7_eq, off8_eq]
  rfl
def loopRaw2 (c : Dev nD) : Prog (TpuEff nD τ sig (Elt F) Λ₀ .tc) PUnit :=
  Scf.Loop.for k0_t3_loop k0_t3_ok ⟨⟩ fun t _ =>
    tripRaw (k0_off9 t) (k0_off10 t) (k0_off11 c t) (k0_off9_inb t) (k0_off10_inb t) (k0_off11_inb c t) (k0_off11_packedbf16 c t)
theorem loop2_eq (c : Dev nD) : loopRaw2 (F := F) c = loopP c 2 := by
  unfold loopRaw2 loopP
  simp only [off9_eq, off10_eq, off11_eq]
  rfl
def loopRaw3 (c : Dev nD) : Prog (TpuEff nD τ sig (Elt F) Λ₀ .tc) PUnit :=
  Scf.Loop.for k0_t4_loop k0_t4_ok ⟨⟩ fun t _ =>
    tripRaw (k0_off12 t) (k0_off13 t) (k0_off14 c t) (k0_off12_inb t) (k0_off13_inb t) (k0_off14_inb c t) (k0_off14_packedbf16 c t)
theorem loop3_eq (c : Dev nD) : loopRaw3 (F := F) c = loopP c 3 := by
  unfold loopRaw3 loopP
  simp only [off12_eq, off13_eq, off14_eq]
  rfl

/-! ## The body -/

/-- The body after it has read its device, at the printed device and offset chains. -/
def mainRaw (c : Dev nD) : Prog (TpuEff nD τ sig (Elt F) Λ₀ .tc) PUnit := do
  semSignalWord (⟨k0_dev1 c, k0_dev1_lt c⟩ : Dev nD) barS 1#32
  semSignalWord (⟨k0_dev2 c, k0_dev2_lt c⟩ : Dev nD) barS 1#32
  semSignalWord (⟨k0_dev3 c, k0_dev3_lt c⟩ : Dev nD) barS 1#32
  semWaitWord barS 3#32
  sendP (sK mK 0) (sK mKr 0) (eK 0) (eKr 0) ⟨k0_dev4 c, k0_dev4_lt c⟩ (dsem 0 0) (dsem 2 0)
  sendP (sK mV 0) (sK mVr 0) (eV 0) (eVr 0) ⟨k0_dev5 c, k0_dev5_lt c⟩ (dsem 1 0) (dsem 3 0)
  sendP (sK mK 1) (sK mKr 1) (eK 1) (eKr 1) ⟨k0_dev6 c, k0_dev6_lt c⟩ (dsem 0 1) (dsem 2 1)
  sendP (sK mV 1) (sK mVr 1) (eV 1) (eVr 1) ⟨k0_dev7 c, k0_dev7_lt c⟩ (dsem 1 1) (dsem 3 1)
  sendP (sK mK 2) (sK mKr 2) (eK 2) (eKr 2) ⟨k0_dev8 c, k0_dev8_lt c⟩ (dsem 0 2) (dsem 2 2)
  sendP (sK mV 2) (sK mVr 2) (eV 2) (eVr 2) ⟨k0_dev9 c, k0_dev9_lt c⟩ (dsem 1 2) (dsem 3 2)
  sendP (sK mK 3) (sK mKr 3) (eK 3) (eKr 3) ⟨k0_dev10 c, k0_dev10_lt c⟩ (dsem 0 3) (dsem 2 3)
  sendP (sK mV 3) (sK mVr 3) (eV 3) (eVr 3) ⟨k0_dev11 c, k0_dev11_lt c⟩ (dsem 1 3) (dsem 3 3)
  wKr 0; wVr 0; loopRaw0 c
  oPo (k0_off4 c 0#32) (k0_off4_inb c 0) (k0_off4_wordsbf16 c 0) ⟨k0_dev12 c, k0_dev12_lt c⟩ (dsem 4 0) (dsem 7 0)
  oPo (k0_off4 c 0#32) (k0_off4_inb c 0) (k0_off4_wordsbf16 c 0) ⟨k0_dev13 c, k0_dev13_lt c⟩ (dsem 5 0) (dsem 9 0)
  wPo (k0_off5 c 0#32) (k0_off5_inb c 0) (k0_off5_wordsbf16 c 0) (dsem 7 0)
  oPo (k0_off5 c 0#32) (k0_off5_inb c 0) (k0_off5_wordsbf16 c 0) ⟨k0_dev14 c, k0_dev14_lt c⟩ (dsem 6 0) (dsem 8 0)
  wKr 1; wVr 1; loopRaw1 c
  oPo (k0_off4 c 4#32) (k0_off4_inb c 1) (k0_off4_wordsbf16 c 1) ⟨k0_dev15 c, k0_dev15_lt c⟩ (dsem 4 1) (dsem 7 1)
  oPo (k0_off4 c 4#32) (k0_off4_inb c 1) (k0_off4_wordsbf16 c 1) ⟨k0_dev16 c, k0_dev16_lt c⟩ (dsem 5 1) (dsem 9 1)
  wPo (k0_off5 c 4#32) (k0_off5_inb c 1) (k0_off5_wordsbf16 c 1) (dsem 7 1)
  oPo (k0_off5 c 4#32) (k0_off5_inb c 1) (k0_off5_wordsbf16 c 1) ⟨k0_dev17 c, k0_dev17_lt c⟩ (dsem 6 1) (dsem 8 1)
  wKr 2; wVr 2; loopRaw2 c
  oPo (k0_off4 c 8#32) (k0_off4_inb c 2) (k0_off4_wordsbf16 c 2) ⟨k0_dev18 c, k0_dev18_lt c⟩ (dsem 4 2) (dsem 7 2)
  oPo (k0_off4 c 8#32) (k0_off4_inb c 2) (k0_off4_wordsbf16 c 2) ⟨k0_dev19 c, k0_dev19_lt c⟩ (dsem 5 2) (dsem 9 2)
  wPo (k0_off5 c 8#32) (k0_off5_inb c 2) (k0_off5_wordsbf16 c 2) (dsem 7 2)
  oPo (k0_off5 c 8#32) (k0_off5_inb c 2) (k0_off5_wordsbf16 c 2) ⟨k0_dev20 c, k0_dev20_lt c⟩ (dsem 6 2) (dsem 8 2)
  wKr 3; wVr 3; loopRaw3 c
  oPo (k0_off4 c 12#32) (k0_off4_inb c 3) (k0_off4_wordsbf16 c 3) ⟨k0_dev21 c, k0_dev21_lt c⟩ (dsem 4 3) (dsem 7 3)
  oPo (k0_off4 c 12#32) (k0_off4_inb c 3) (k0_off4_wordsbf16 c 3) ⟨k0_dev22 c, k0_dev22_lt c⟩ (dsem 5 3) (dsem 9 3)
  wPo (k0_off5 c 12#32) (k0_off5_inb c 3) (k0_off5_wordsbf16 c 3) (dsem 7 3)
  oPo (k0_off5 c 12#32) (k0_off5_inb c 3) (k0_off5_wordsbf16 c 3) ⟨k0_dev23 c, k0_dev23_lt c⟩ (dsem 6 3) (dsem 8 3)
  wPo (k0_off15 c 0#32) (k0_off15_inb c 0) (k0_off15_wordsbf16 c 0) (dsem 8 0)
  wPo (k0_off15 c 4#32) (k0_off15_inb c 1) (k0_off15_wordsbf16 c 1) (dsem 8 1)
  wPo (k0_off15 c 8#32) (k0_off15_inb c 2) (k0_off15_wordsbf16 c 2) (dsem 8 2)
  wPo (k0_off15 c 12#32) (k0_off15_inb c 3) (k0_off15_wordsbf16 c 3) (dsem 8 3)
  wPo (k0_off16 c 0#32) (k0_off16_inb c 0) (k0_off16_wordsbf16 c 0) (dsem 9 0)
  wPo (k0_off16 c 4#32) (k0_off16_inb c 1) (k0_off16_wordsbf16 c 1) (dsem 9 1)
  wPo (k0_off16 c 8#32) (k0_off16_inb c 2) (k0_off16_wordsbf16 c 2) (dsem 9 2)
  wPo (k0_off16 c 12#32) (k0_off16_inb c 3) (k0_off16_wordsbf16 c 3) (dsem 9 3)
  wKs 0; wVs 0; wKs 1; wVs 1; wKs 2; wVs 2; wKs 3; wVs 3
  wPo (k0_off4 c 0#32) (k0_off4_inb c 0) (k0_off4_wordsbf16 c 0) (dsem 4 0); wPo (k0_off4 c 0#32) (k0_off4_inb c 0) (k0_off4_wordsbf16 c 0) (dsem 5 0)
  wPo (k0_off5 c 0#32) (k0_off5_inb c 0) (k0_off5_wordsbf16 c 0) (dsem 6 0)
  wPo (k0_off4 c 4#32) (k0_off4_inb c 1) (k0_off4_wordsbf16 c 1) (dsem 4 1); wPo (k0_off4 c 4#32) (k0_off4_inb c 1) (k0_off4_wordsbf16 c 1) (dsem 5 1)
  wPo (k0_off5 c 4#32) (k0_off5_inb c 1) (k0_off5_wordsbf16 c 1) (dsem 6 1)
  wPo (k0_off4 c 8#32) (k0_off4_inb c 2) (k0_off4_wordsbf16 c 2) (dsem 4 2); wPo (k0_off4 c 8#32) (k0_off4_inb c 2) (k0_off4_wordsbf16 c 2) (dsem 5 2)
  wPo (k0_off5 c 8#32) (k0_off5_inb c 2) (k0_off5_wordsbf16 c 2) (dsem 6 2)
  wPo (k0_off4 c 12#32) (k0_off4_inb c 3) (k0_off4_wordsbf16 c 3) (dsem 4 3); wPo (k0_off4 c 12#32) (k0_off4_inb c 3) (k0_off4_wordsbf16 c 3) (dsem 5 3)
  wPo (k0_off5 c 12#32) (k0_off5_inb c 3) (k0_off5_wordsbf16 c 3) (dsem 6 3)

set_option maxHeartbeats 2000000 in
theorem cc0_raw : cc0_body (F := F) mQ (Memref.isWhole_whole _) mK (Memref.isWhole_whole _) mV (Memref.isWhole_whole _) mO (Memref.isWhole_whole _)
      mKr (Memref.isWhole_whole _) mVr (Memref.isWhole_whole _) cc0_scratch2 cc0_scratch3 cc0_scratch4 cc0_scratch5 cc0_scratch6 cc0_scratch7 cc0_scratch8 cc0_scratch9
    = (Prog.lift .deviceId >>= mainRaw) := by
  rw [cc0_body_eq_skeleton]
  unfold cc0_body_skel
  simp only [k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton]
  unfold k0_part5_skel k0_part6_skel k0_part7_skel k0_part8_skel k0_part9_skel k0_part10_skel k0_part11_skel k0_part12_skel k0_part13_skel k0_part14_skel k0_part15_skel k0_part16_skel k0_part17_skel k0_part18_skel k0_part19_skel k0_part20_skel k0_part21_skel k0_part22_skel k0_part23_skel k0_part24_skel k0_part25_skel k0_part26_skel k0_part27_skel k0_part28_skel
  simp only [bind_assoc, pure_bind]
  rfl

theorem mainRaw_eq (c : Dev nD) : mainRaw (F := F) c = mainP c := by
  unfold mainRaw mainP
  simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq,
    off4_eq0, off4_eq1, off4_eq2, off4_eq3, off5_eq0, off5_eq1, off5_eq2, off5_eq3, off15_eq0, off15_eq1, off15_eq2, off15_eq3, off16_eq0, off16_eq1, off16_eq2, off16_eq3,
    loop0_eq, loop1_eq, loop2_eq, loop3_eq, barP, chunkP, endP, xK, xV, oP, wP, bind_assoc]
  rfl

/-- The printed body reads its device and runs `mainP`. -/
theorem cc0_eq : cc0_body (F := F) mQ (Memref.isWhole_whole _) mK (Memref.isWhole_whole _) mV (Memref.isWhole_whole _) mO (Memref.isWhole_whole _)
      mKr (Memref.isWhole_whole _) mVr (Memref.isWhole_whole _) cc0_scratch2 cc0_scratch3 cc0_scratch4 cc0_scratch5 cc0_scratch6 cc0_scratch7 cc0_scratch8 cc0_scratch9
    = (Prog.lift .deviceId >>= mainP) := by
  rw [cc0_raw]
  exact congrArg _ (funext mainRaw_eq)

end Cert.KernelIdealProof
-- ==== Proof.KernelIdeal.Sched.lean ====
/-
  The protocol of the kernel: which cell carries what. Every cell has one round. A device's barrier cell takes one unit
  from each of the three devices it writes to or is written by; each DMA cell takes one chunk's credit.

    * barrier, duty 0 (from the device with the other half): that device's two landing buffers, to be written;
      duty 1 (from the right neighbour): the quarters of its output this device writes, its own and the one it forwards;
      duty 2 (from the left neighbour): the one quarter of its output this device writes;
    * departures: the share of the source the transfer held;
    * arrivals: the chunk of the landing buffer or of the output, with what was written there.
-/
module

public import proofs.«01_k».proof.Proof.KernelIdeal.BodyEq

@[expose] public section

set_option maxRecDepth 16384

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The pipeline library's resources and the protocol's: a barrier cell has three duties, the others one. -/
abbrev UU : Type := UR sig nD τ × URounds (GSem nD τ sig) (Fin 3)

local notation "𝕄" => MT nD τ sig Unit (Elt F) ℕ UU ℕ

abbrev EP : Emb (UR sig nD τ) (MT nD τ sig Unit (Elt F) ℕ UU ℕ) := embL
abbrev ER : Emb (URounds (GSem nD τ sig) (Fin 3)) (MT nD τ sig Unit (Elt F) ℕ UU ℕ) := embR

/-! ## Contents -/

/-- The contents of a buffer of 16 heads of queries, of keys or values, and of the output. -/
abbrev CQ (F : FTy → Type) : Type := S16x256x64.Idx → Elt F .bf16
abbrev CK (F : FTy → Type) : Type := S16x64x256.Idx → Elt F .bf16
abbrev CO (F : FTy → Type) : Type := S64x64x256.Idx → Elt F .bf16

/-- Every device's queries, keys and values. -/
structure Ins (F : FTy → Type) where
  q : Dev nD → CQ F
  k : Dev nD → CK F
  v : Dev nD → CK F

theorem inbQ1 (i : Fin 16) : ∀ a, (![i.val, 0, 0] : Fin 3 → ℕ) a + S1x256x64.size a ≤ S16x256x64.size a := by revert i; decide +kernel
theorem inbK1 (i : Fin 16) : ∀ a, (![i.val, 0, 0] : Fin 3 → ℕ) a + S1x64x256.size a ≤ S16x64x256.size a := by revert i; decide +kernel
theorem inbO1 (i : Fin 64) : ∀ a, (![i.val, 0, 0] : Fin 3 → ℕ) a + S1x64x256.size a ≤ S64x64x256.size a := by revert i; decide +kernel

/-- One head of a buffer. -/
def rowQ (f : CQ F) (i : Fin 16) : Vec F S1x256x64 .bf16 :=
  fun j => f ((Rect.unit (s := S16x256x64) ![i.val, 0, 0] S1x256x64.size (inbQ1 i)).emb j)
def rowK (f : CK F) (i : Fin 16) : Vec F S1x64x256 .bf16 :=
  fun j => f ((Rect.unit (s := S16x64x256) ![i.val, 0, 0] S1x64x256.size (inbK1 i)).emb j)

variable (X : Ins F)

/-- Head `i` of what device `c` computes. -/
def outv (c : Dev nD) (i : Fin 16) : Vec F S1x64x256 .bf16 :=
  rowv (rowQ (X.q c) i) (rowK (X.k c) i) (rowK (X.k (px c)) i) (rowK (X.v c) i) (rowK (X.v (px c)) i)

/-- The output at the end: quarter `q` as its owner in the ring computes it. -/
def res (c : Dev nD) : CO F := fun x =>
  let j : S1x64x256.Idx := fun | 0 => (⟨0, Nat.one_pos⟩ : Fin 1) | 1 => x 1 | 2 => x 2
  outv X (owner c ⟨(x 0).val / 16, Nat.div_lt_of_lt_mul (x 0).isLt⟩) ⟨(x 0).val % 16, Nat.mod_lt _ (by decide)⟩ j

theorem res_right (c : Dev nD) : res X (right c) = res X c := by
  funext x; unfold res; simp only [owner_right]
theorem res_left (c : Dev nD) : res X (left c) = res X c := by
  funext x; unfold res; simp only [owner_left]

/-! ## Cells -/

abbrev cell (c : Dev nD) (t : Fin 10) (k : Fin 4) : GSem nD τ sig := ((c : Thread nD τ), .dma (dsem t k))
abbrev barCell (c : Dev nD) : GSem nD τ sig := ((c : Thread nD τ), .reg barS)

/-- The kind and the chunk of a DMA semaphore. -/
def kindOf (s : DmaSem sig) : Fin 10 := ⟨(s.val - 4) / 4, by have := s.isLt; change _ < 44 at this; omega⟩
def chunkOf (s : DmaSem sig) : Fin 4 := ⟨s.val % 4, Nat.mod_lt _ (by decide)⟩
theorem kindOf_dsem (t : Fin 10) (k : Fin 4) : kindOf (dsem t k) = t := by
  apply Fin.ext; have := k.isLt; show (4 + 4 * t.val + k.val - 4) / 4 = t.val; omega
theorem chunkOf_dsem (t : Fin 10) (k : Fin 4) : chunkOf (dsem t k) = k := by
  apply Fin.ext; have := k.isLt; show (4 + 4 * t.val + k.val) % 4 = k.val; omega

/-- What a transfer of a chunk credits. -/
abbrev N : ℕ := (sO 0 0).view.dmaCredit
theorem N_pos : 0 < N := View.dmaCredit_pos _ (by decide)

/-- Device `c`'s view of a buffer held, at share `q` and contents `f`. -/
abbrev ptS {s : Shape} {e : EltTy} (c : Dev nD) (M : Memref sig .tc .vmem s e) (q : PosShare TreeShare) (f : Buf (Elt F) (M.view.loc (c : Thread nD τ))) :
    sProp 𝕄 := M.view.loc (c : Thread nD τ) ↦[M.view.set]{q} f
def ptE {s : Shape} {e : EltTy} (c : Dev nD) (M : Memref sig .tc .vmem s e) : sProp 𝕄 := iprop(∃ f, ptS (F := F) c M fullShare f)

instance ptE_storable {s : Shape} {e : EltTy} (c : Dev nD) (M : Memref sig .tc .vmem s e) :
    BI.Storable (upEmb : UEmb _ 𝕄) (ptE (F := F) c M) := by
  unfold ptE; infer_instance

/-! ## The schedule -/

/-- What a DMA cell of kind `t` and chunk `k` gives its waiter. -/
def payT (c : Dev nD) (t : Fin 10) (k : Fin 4) : sProp 𝕄 :=
  match t with
  | 0 => ptS c (sK mK k) fullShare.right (X.k c)
  | 1 => ptS c (sK mV k) fullShare.right (X.v c)
  | 2 => ptS c (sK mKr k) fullShare (X.k (px c))
  | 3 => ptS c (sK mVr k) fullShare (X.v (px c))
  | 4 => ptS c (sO (qi c) k) fullShare.left (res X c)
  | 5 => ptS c (sO (qi c) k) fullShare.right (res X c)
  | 6 => ptS c (sO (qprev (qi c)) k) fullShare (res X c)
  | 7 => ptS c (sO (qprev (qi c)) k) fullShare (res X c)
  | 8 => ptS c (sO (qprev (qprev (qi c))) k) fullShare (res X c)
  | 9 => ptS c (sO (qnext (qi c)) k) fullShare (res X c)

/-- One chunk of what the barrier's duties give: the chunks to be written, each with its cell's round reached. -/
def barK (c : Dev nD) (d : Fin 3) (k : Fin 4) : sProp 𝕄 :=
  match d with
  | 0 => iprop(ptE (F := F) (px c) (sK mKr k) ∗ ptE (F := F) (px c) (sK mVr k) ∗ reached ER (cell (px c) 2 k) 0 ∗ reached ER (cell (px c) 3 k) 0)
  | 1 => iprop(ptE (F := F) (right c) (sO (qi c) k) ∗ ptE (F := F) (right c) (sO (qprev (qi c)) k) ∗ reached ER (cell (right c) 7 k) 0
      ∗ reached ER (cell (right c) 8 k) 0)
  | 2 => iprop(ptE (F := F) (left c) (sO (qi c) k) ∗ reached ER (cell (left c) 9 k) 0)

/-- What the barrier's duties give. -/
def barPay (c : Dev nD) (d : Fin 3) : sProp 𝕄 := bigSep Finset.univ fun k => barK (F := F) c d k

instance payT_storable (c : Dev nD) (t : Fin 10) (k : Fin 4) : BI.Storable (upEmb : UEmb _ 𝕄) (payT X c t k) := by
  unfold payT; split <;> infer_instance
instance barK_storable (c : Dev nD) (d : Fin 3) (k : Fin 4) : BI.Storable (upEmb : UEmb _ 𝕄) (barK (F := F) c d k) := by
  unfold barK; split <;> infer_instance
instance barPay_storable (c : Dev nD) (d : Fin 3) : BI.Storable (upEmb : UEmb _ 𝕄) (barPay (F := F) c d) := by
  unfold barPay; infer_instance

/-- One round: three duties of a unit on a barrier cell, one of a chunk's credit on each DMA cell of the kernel. -/
def rd : Rounds.Schedule (GSem nD τ sig) (Fin 3) 𝕄 where
  duties g r := if r = 0 ∧ g.1.2 = .tc then
      match g.2 with
      | .reg s => if s = barS then Finset.univ else ∅
      | .dma s => if 4 ≤ s.val then {0} else ∅
    else ∅
  unitless _ := False
  amount g _ _ := match g.2 with | .reg _ => 1 | .dma _ => N
  payload g _ d := match g.2 with | .reg _ => barPay (F := F) g.1.1 d | .dma s => payT X g.1.1 (kindOf s) (chunkOf s)
  amount_pos g _ _ _ := by
    rcases g with ⟨_, s | s⟩
    · exact Nat.one_pos
    · exact N_pos

instance rd_payload_storable (g : GSem nD τ sig) (r : ℕ) (d : Fin 3) :
    BI.Storable (upEmb : UEmb _ 𝕄) ((rd X).payload g r d) := by
  rcases g with ⟨g, s | s⟩
  · show BI.Storable upEmb (barPay (F := F) g.1 d); infer_instance
  · show BI.Storable upEmb (payT X g.1 (kindOf s) (chunkOf s)); infer_instance

section Tables

variable (c : Dev nD) (t : Fin 10) (k : Fin 4)

theorem duties_bar : (rd X).duties (barCell c) 0 = Finset.univ := by
  dsimp only [rd]; rw [if_pos ⟨rfl, rfl⟩]; exact if_pos rfl
theorem duties_cell : (rd X).duties (cell c t k) 0 = {0} := by
  dsimp only [rd]; rw [if_pos ⟨rfl, rfl⟩]
  exact if_pos (by show 4 ≤ 4 + 4 * t.val + k.val; omega)
theorem duties_later (g : GSem nD τ sig) : ∀ r, 1 ≤ r → (rd X).duties g r = ∅ :=
  fun r hr => by dsimp only [rd]; exact if_neg fun h => by omega

theorem amount_bar (u : Fin 3) : (rd X).amount (barCell c) 0 u = 1 := rfl
theorem amount_cell (u : Fin 3) : (rd X).amount (cell c t k) 0 u = N := rfl

theorem expect_bar : (rd X).expect (barCell c) 0 = 3 := by
  unfold Schedule.expect Schedule.amountOf; rw [duties_bar]; rfl
theorem expect_cell : (rd X).expect (cell c t k) 0 = N := by
  unfold Schedule.expect Schedule.amountOf; rw [duties_cell, Finset.sum_singleton, amount_cell]

theorem payload_bar (u : Fin 3) : (rd X).payload (barCell c) 0 u = barPay (F := F) c u := rfl
theorem payload_cell (u : Fin 3) : (rd X).payload (cell c t k) 0 u = payT X c t k := by
  show payT X c (kindOf (dsem t k)) (chunkOf (dsem t k)) = _
  rw [kindOf_dsem, chunkOf_dsem]

theorem rest_bar : bigSep ((rd X).duties (barCell c) 0 \ ∅) (fun u => (rd X).payload (barCell c) 0 u)
    = bigSep Finset.univ fun u => barPay (F := F) c u := by
  rw [Finset.sdiff_empty, duties_bar]; rfl
theorem rest_cell : bigSep ((rd X).duties (cell c t k) 0 \ ∅) (fun u => (rd X).payload (cell c t k) 0 u) = payT X c t k := by
  rw [Finset.sdiff_empty, duties_cell, bigSep_singleton, payload_cell]

end Tables

/-- The owner of a cell past its one round closes it and has its counter at zero. -/
theorem close (κ : ℕ) (g : GSem nD τ sig) :
    iprop(cellInv ER (rd X) κ g ∗ atPos ER g (0 + 1) ∅ 0) ⊢ (|={Set.univ}=> semVal g 0 : sProp 𝕄) :=
  Rounds.cell_close ER (rd X) (Set.mem_univ κ) id (duties_later X g)

/-! ## Names of the invariants -/

/-- A device's cells: its barrier's, and one of each kind and chunk. -/
abbrev Key : Type := Dev nD × Option (Fin 10 × Fin 4)
def ksem : Option (Fin 10 × Fin 4) → SemLoc sig
  | none => .reg barS
  | some tk => .dma (dsem tk.1 tk.2)
abbrev kcell (ck : Key) : GSem nD τ sig := ((ck.1 : Thread nD τ), ksem ck.2)

/-- Every cell's invariant. -/
def invs (K : Key → ℕ) : sProp 𝕄 := bigSep Finset.univ fun ck : Key => cellInv ER (rd X) (K ck) (kcell ck)
instance invs_persistent (K : Key → ℕ) : BI.Persistent (invs X K) := by unfold invs; infer_instance

theorem invs_cell (K : Key → ℕ) (c : Dev nD) (t : Fin 10) (k : Fin 4) :
    invs X K ⊢ cellInv ER (rd X) (K (c, some (t, k))) (cell c t k) := by
  unfold invs; exact bigSep_elim (Φ := fun ck : Key => cellInv ER (rd X) (K ck) (kcell ck)) (Finset.mem_univ (c, some (t, k)))
theorem invs_bar (K : Key → ℕ) (c : Dev nD) :
    invs X K ⊢ cellInv ER (rd X) (K (c, none)) (barCell c) := by
  unfold invs; exact bigSep_elim (Φ := fun ck : Key => cellInv ER (rd X) (K ck) (kcell ck)) (Finset.mem_univ (c, none))

/-! ## Levels and dues -/

def L (g : GSem nD τ sig) : Finset Unit := if g.1.2 = .tc then {()} else ∅
/-- The barrier below the arrivals of keys and values, below the arrivals from the left chunk by chunk, below the others. -/
def lvT (t : Fin 10) (k : Fin 4) : ℕ := match t with | 2 => 2 | 3 => 2 | 7 => 3 + k.val | 8 => 10 | 9 => 10 | _ => 0
def lv (g : GSem nD τ sig) (_ : Unit) : ℕ := match g.2 with | .reg _ => 1 | .dma s => lvT (kindOf s) (chunkOf s)

theorem L_of_ne (g : GSem nD τ sig) (h : g.1.2 ≠ .tc) : L g = ∅ := if_neg h
theorem L_tc (c : Dev nD) (sm : SemLoc sig) : L ((c : Thread nD τ), sm) = {()} := if_pos rfl
theorem lv_cell (c : Dev nD) (t : Fin 10) (k : Fin 4) (u : Unit) : lv (cell c t k) u = lvT t k := by
  show lvT (kindOf (dsem t k)) (chunkOf (dsem t k)) = _; rw [kindOf_dsem, chunkOf_dsem]

/-- Everything owed lies above level `n`. -/
def Above (n : ℕ) (O : CellTallies nD τ sig Unit) : Prop := ∀ g u, 0 < O g u → u ∈ L g ∧ n < lv g u

theorem Above.zero (n : ℕ) : Above n 0 := fun _ _ h => absurd h (Nat.lt_irrefl 0)
theorem Above.add {n : ℕ} {O O' : CellTallies nD τ sig Unit} (h : Above n O) (h' : Above n O') : Above n (O + O') := fun g u hg => by
  rcases Nat.eq_zero_or_pos (O g u) with h0 | h0
  · exact h' g u (by change 0 < O g u + O' g u at hg; omega)
  · exact h g u h0
theorem Above.cell {n : ℕ} (c : Dev nD) (t : Fin 10) (k : Fin 4) (a : ℕ) (h : n < lvT t k) : Above n (tallyAt (cell c t k) () a) := fun g u hg => by
  rw [tallyAt_apply] at hg
  by_cases hh : g = Cert.KernelIdealProof.cell c t k ∧ u = ()
  · rw [hh.1, L_tc, lv_cell]; exact ⟨Finset.mem_singleton_self _, h⟩
  · rw [if_neg hh] at hg; exact absurd hg (Nat.lt_irrefl 0)
theorem Above.mono {n n' : ℕ} {O : CellTallies nD τ sig Unit} (h : Above n O) (hn : n' ≤ n) : Above n' O :=
  fun g u hg => ⟨(h g u hg).1, lt_of_le_of_lt hn (h g u hg).2⟩

theorem mayWait_cell (c : Dev nD) (t : Fin 10) (k : Fin 4) {O : CellTallies nD τ sig Unit} (h : Above (lvT t k) O) :
    (levAts L lv : sProp 𝕄) ⊢ MayWait (c : Thread nD τ) (.dma (dsem t k)) () O :=
  MayOwe.of_cut (L := L) (lev := lv) (lvT t k) (fun p hp => by rw [Finset.mem_singleton.mp hp, L_tc]; exact Finset.mem_singleton_self _)
    (fun g u hg => (h g u hg).1) (fun p hp => by rw [Finset.mem_singleton.mp hp]; exact le_of_eq (lv_cell c t k ()))
    (fun g u hg => (h g u hg).2)
theorem mayWait_bar (c : Dev nD) {O : CellTallies nD τ sig Unit} (h : Above 1 O) :
    (levAts L lv : sProp 𝕄) ⊢ MayWait (c : Thread nD τ) (.reg barS) () O :=
  MayOwe.of_cut (L := L) (lev := lv) 1 (fun p hp => by rw [Finset.mem_singleton.mp hp, L_tc]; exact Finset.mem_singleton_self _)
    (fun g u hg => (h g u hg).1) (fun p hp => by rw [Finset.mem_singleton.mp hp]; exact le_of_eq rfl)
    (fun g u hg => (h g u hg).2)

/-- What chunk `k`'s three transfers around the ring pay, on top of `O`; what the transfer of its keys and values pays. -/
def chunkDue (c : Dev nD) (k : Fin 4) (O : CellTallies nD τ sig Unit) : CellTallies nD τ sig Unit :=
  ((O + tallyAt (cell (right c) 8 k) () N) + tallyAt (cell (left c) 9 k) () N) + tallyAt (cell (right c) 7 k) () N
def xDue (c : Dev nD) (k : Fin 4) (O : CellTallies nD τ sig Unit) : CellTallies nD τ sig Unit :=
  (O + tallyAt (cell (px c) 3 k) () N) + tallyAt (cell (px c) 2 k) () N

def D3 (c : Dev nD) := chunkDue c 3 0
def D2 (c : Dev nD) := chunkDue c 2 (D3 c)
def D1 (c : Dev nD) := chunkDue c 1 (D2 c)
def D0 (c : Dev nD) := chunkDue c 0 (D1 c)
def X3 (c : Dev nD) := xDue c 3 (D0 c)
def X2 (c : Dev nD) := xDue c 2 (X3 c)
def X1 (c : Dev nD) := xDue c 1 (X2 c)
def X0 (c : Dev nD) := xDue c 0 (X1 c)
/-- What device `c` owes at launch. -/
def O₀ (c : Dev nD) : CellTallies nD τ sig Unit :=
  ((X0 c + tallyAt (barCell (right c)) () 1) + tallyAt (barCell (left c)) () 1) + tallyAt (barCell (px c)) () 1

theorem chunkDue_above {n : ℕ} (c : Dev nD) (k : Fin 4) {O : CellTallies nD τ sig Unit} (h : Above n O) (hn : n < 3 + k.val) : Above n (chunkDue c k O) :=
  ((h.add (.cell _ _ _ _ (by show n < 10; have := k.isLt; omega))).add (.cell _ _ _ _ (by show n < 10; have := k.isLt; omega))).add
    (.cell _ _ _ _ hn)
theorem xDue_above (c : Dev nD) (k : Fin 4) {O : CellTallies nD τ sig Unit} (h : Above 1 O) : Above 1 (xDue c k O) :=
  (h.add (.cell _ _ _ _ (by show 1 < 2; decide))).add (.cell _ _ _ _ (by show 1 < 2; decide))
theorem D3_above (c : Dev nD) : Above 5 (D3 c) := chunkDue_above c 3 (.zero _) (by decide)
theorem D2_above (c : Dev nD) : Above 4 (D2 c) := chunkDue_above c 2 ((D3_above c).mono (by decide)) (by decide)
theorem D1_above (c : Dev nD) : Above 3 (D1 c) := chunkDue_above c 1 ((D2_above c).mono (by decide)) (by decide)
theorem D0_above (c : Dev nD) : Above 2 (D0 c) := chunkDue_above c 0 ((D1_above c).mono (by decide)) (by decide)
theorem X0_above (c : Dev nD) : Above 1 (X0 c) :=
  xDue_above c 0 (xDue_above c 1 (xDue_above c 2 (xDue_above c 3 ((D0_above c).mono (by decide)))))

/-- The kernels' variants: none. -/
abbrev 𝒱₀ : Variants := Variants.none

end Cert.KernelIdealProof
-- ==== Proof.KernelIdeal.Mem.lean ====
/-
  The elements the body touches: which indices the chunks and the heads hold, what a transfer leaves where it lands, what
  a trip's store leaves of the output.
-/
module

public import proofs.«01_k».proof.Proof.KernelIdeal.Sched

@[expose] public section

set_option maxRecDepth 16384

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

theorem exists_emb {sp : Space} {S : Shape} {e : EltTy} (v : View sig .tc sp S e) {i : v.ty.Idx} (h : i ∈ v.set) : ∃ y : S.Idx, v.emb y = i := by
  obtain ⟨y, -, e⟩ := Finset.mem_map.mp h; exact ⟨y, e⟩

/-- A rectangle of whole slabs along the first axis is known by its first coordinate. -/
theorem mem_rO {a n : ℕ} {inb} (x : S64x64x256.Idx) :
    x ∈ (Rect.unit (s := S64x64x256) ![a, 0, 0] ![n, 64, 256] inb).set ↔ a ≤ (x 0).val ∧ (x 0).val < a + n := by
  rw [Rect.mem_set_unit]
  refine ⟨fun h => h 0, fun h i => ?_⟩
  match i with
  | 0 => exact h
  | 1 => exact ⟨Nat.zero_le _, by show (x 1).val < 0 + 64; have := (x 1).isLt; change _ < 64 at this; omega⟩
  | 2 => exact ⟨Nat.zero_le _, by show (x 2).val < 0 + 256; have := (x 2).isLt; change _ < 256 at this; omega⟩
theorem mem_rK {a n : ℕ} {inb} (x : S16x64x256.Idx) :
    x ∈ (Rect.unit (s := S16x64x256) ![a, 0, 0] ![n, 64, 256] inb).set ↔ a ≤ (x 0).val ∧ (x 0).val < a + n := by
  rw [Rect.mem_set_unit]
  refine ⟨fun h => h 0, fun h i => ?_⟩
  match i with
  | 0 => exact h
  | 1 => exact ⟨Nat.zero_le _, by show (x 1).val < 0 + 64; have := (x 1).isLt; change _ < 64 at this; omega⟩
  | 2 => exact ⟨Nat.zero_le _, by show (x 2).val < 0 + 256; have := (x 2).isLt; change _ < 256 at this; omega⟩

theorem mem_sO (q k : Fin 4) (x : S64x64x256.Idx) :
    x ∈ (sO q k).view.set ↔ 16 * q.val + 4 * k.val ≤ (x 0).val ∧ (x 0).val < 16 * q.val + 4 * k.val + 4 := by
  have h : (sO q k).view.set = (rO q k).set := View.set_slice_whole _ _
  rw [h]; exact mem_rO x

theorem landed_O (q k : Fin 4) (f fd : CO F) :
    ∀ x ∈ (sO q k).view.set, (sO q k).view.write (Elt F) fd ((sO q k).view.read (Elt F) f) Finset.univ x = f x := by
  intro x hx
  obtain ⟨y, rfl⟩ := exists_emb _ hx
  exact (View.write_emb_of_mem _ _ (Finset.mem_univ y)).trans rfl

theorem landed_K (k : Fin 4) (f fd : CK F) :
    ∀ x ∈ (sK mKr k).view.set, (sK mKr k).view.write (Elt F) fd ((sK mK k).view.read (Elt F) f) Finset.univ x = f x := by
  intro x hx
  obtain ⟨y, rfl⟩ := exists_emb _ hx
  exact (View.write_emb_of_mem _ _ (Finset.mem_univ y)).trans rfl
theorem landed_V (k : Fin 4) (f fd : CK F) :
    ∀ x ∈ (sK mVr k).view.set, (sK mVr k).view.write (Elt F) fd ((sK mV k).view.read (Elt F) f) Finset.univ x = f x := by
  intro x hx
  obtain ⟨y, rfl⟩ := exists_emb _ hx
  exact (View.write_emb_of_mem _ _ (Finset.mem_univ y)).trans rfl

/-! ## A trip -/

/-- Head `4k + t` of the 16. -/
def hd (k t : Fin 4) : Fin 16 := ⟨4 * k.val + t.val, by omega⟩

variable (X : Ins F)

/-- The output `f` has the first `n` heads of chunk `k` of device `c`'s quarter. -/
def Done (c : Dev nD) (k : Fin 4) (n : ℕ) (f : CO F) : Prop :=
  ∀ x : S64x64x256.Idx, 16 * (qi c).val + 4 * k.val ≤ (x 0).val → (x 0).val < 16 * (qi c).val + 4 * k.val + n → f x = res X c x

theorem Done.zero (c : Dev nD) (k : Fin 4) (f : CO F) : Done X c k 0 f := fun _ h h' => absurd h' (by omega)

theorem Done.all {c : Dev nD} {k : Fin 4} {f : CO F} (h : Done X c k 4 f) : ∀ x ∈ (sO (qi c) k).view.set, f x = res X c x :=
  fun x hx => h x ((mem_sO _ _ x).mp hx).1 ((mem_sO _ _ x).mp hx).2

/-- Head `i` of the device's quarter at the end is what the device computes. -/
theorem res_own (c : Dev nD) (k t : Fin 4) (j : S1x64x256.Idx) :
    res X c ((Rect.unit (s := S64x64x256) ![16 * (qi c).val + (4 * k.val + t.val), 0, 0] S1x64x256.size (inbRO (qi c) k t)).emb j)
      = outv X c (hd k t) j := by
  have hk := k.isLt; have ht := t.isLt; have hq := (qi c).isLt
  have h0 : ∀ a, (((Rect.unit (s := S64x64x256) ![16 * (qi c).val + (4 * k.val + t.val), 0, 0] S1x64x256.size (inbRO (qi c) k t)).emb j) a).val
      = (![16 * (qi c).val + (4 * k.val + t.val), 0, 0] : Fin 3 → ℕ) a + (j a).val := fun a => by
    rw [Rect.emb_apply]; show _ + 1 * (j a).val = _; rw [Nat.one_mul]; rfl
  generalize (Rect.unit (s := S64x64x256) ![16 * (qi c).val + (4 * k.val + t.val), 0, 0] S1x64x256.size (inbRO (qi c) k t)).emb j = x at h0
  have e0 : (x 0).val = 16 * (qi c).val + (4 * k.val + t.val) := by
    have := h0 0; have hj := (j 0).isLt; change _ < 1 at hj; rw [this]; show 16 * (qi c).val + (4 * k.val + t.val) + (j 0).val = _; omega
  unfold res
  have ho : owner c ⟨(x 0).val / 16, Nat.div_lt_of_lt_mul (x 0).isLt⟩ = c := by
    have : (⟨(x 0).val / 16, Nat.div_lt_of_lt_mul (x 0).isLt⟩ : Fin 4) = qi c := Fin.ext (by show (x 0).val / 16 = _; omega)
    rw [this, owner_qi]
  have hi : (⟨(x 0).val % 16, Nat.mod_lt _ (by decide)⟩ : Fin 16) = hd k t := Fin.ext (by show (x 0).val % 16 = 4 * k.val + t.val; omega)
  rw [ho, hi]
  refine congrArg (outv X c (hd k t)) (funext fun a => ?_)
  match a with
  | 0 => apply Fin.ext; have hj := (j 0).isLt; change _ < 1 at hj; show 0 = (j 0).val; omega
  | 1 => apply Fin.ext; have := h0 1; show (x 1).val = (j 1).val; rw [this]; show 0 + _ = _; omega
  | 2 => apply Fin.ext; have := h0 2; show (x 2).val = (j 2).val; rw [this]; show 0 + _ = _; omega

/-- A trip's store adds its head. -/
theorem Done.step {c : Dev nD} {k t : Fin 4} {f : CO F} (h : Done X c k t.val f) :
    Done X c k (t.val + 1) ((mO.access (Rect.unit (s := S64x64x256) ![16 * (qi c).val + (4 * k.val + t.val), 0, 0] S1x64x256.size (inbRO (qi c) k t))).write
      (Elt F) f (outv X c (hd k t)) Finset.univ) := by
  intro x h1 h2
  by_cases hx : (x 0).val < 16 * (qi c).val + 4 * k.val + t.val
  · rw [View.write_of_not_mem]
    · exact h x h1 hx
    · rw [View.setOn_univ]
      have hs : (mO.access (Rect.unit (s := S64x64x256) ![16 * (qi c).val + (4 * k.val + t.val), 0, 0] S1x64x256.size (inbRO (qi c) k t))).set
        = (Rect.unit (s := S64x64x256) ![16 * (qi c).val + (4 * k.val + t.val), 0, 0] S1x64x256.size (inbRO (qi c) k t)).set := View.set_slice_whole _ _
      rw [hs]; intro hh; have := (mem_rO x).mp hh; omega
  · have hm : x ∈ (mO.access (Rect.unit (s := S64x64x256) ![16 * (qi c).val + (4 * k.val + t.val), 0, 0] S1x64x256.size (inbRO (qi c) k t))).set := by
      have hs : (mO.access (Rect.unit (s := S64x64x256) ![16 * (qi c).val + (4 * k.val + t.val), 0, 0] S1x64x256.size (inbRO (qi c) k t))).set
        = (Rect.unit (s := S64x64x256) ![16 * (qi c).val + (4 * k.val + t.val), 0, 0] S1x64x256.size (inbRO (qi c) k t)).set := View.set_slice_whole _ _
      rw [hs]; exact (mem_rO x).mpr (by omega)
    obtain ⟨y, rfl⟩ := exists_emb _ hm
    refine (View.write_emb_of_mem _ _ (Finset.mem_univ y)).trans ?_
    exact (res_own X c k t y).symm

/-- A head lies in its chunk. -/
theorem head_sO (q k t : Fin 4) :
    (mO.access (Rect.unit (s := S64x64x256) ![16 * q.val + (4 * k.val + t.val), 0, 0] S1x64x256.size (inbRO q k t))).set ⊆ (sO q k).view.set := by
  have hs : (mO.access (Rect.unit (s := S64x64x256) ![16 * q.val + (4 * k.val + t.val), 0, 0] S1x64x256.size (inbRO q k t))).set
    = (Rect.unit (s := S64x64x256) ![16 * q.val + (4 * k.val + t.val), 0, 0] S1x64x256.size (inbRO q k t)).set := View.set_slice_whole _ _
  intro x hx
  rw [hs] at hx
  have h1 := (mem_rO x).mp hx; have ht := t.isLt
  exact (mem_sO q k x).mpr (by omega)
theorem head_Kr (k t : Fin 4) :
    (mKr.access (Rect.unit (s := S16x64x256) ![4 * k.val + t.val, 0, 0] S1x64x256.size (inbRK k t))).set ⊆ (sK mKr k).view.set := by
  have hs : (mKr.access (Rect.unit (s := S16x64x256) ![4 * k.val + t.val, 0, 0] S1x64x256.size (inbRK k t))).set
    = (Rect.unit (s := S16x64x256) ![4 * k.val + t.val, 0, 0] S1x64x256.size (inbRK k t)).set := View.set_slice_whole _ _
  have hk : (sK mKr k).view.set = (rK k).set := View.set_slice_whole _ _
  intro x hx
  rw [hs] at hx
  rw [hk]
  have h1 := (mem_rK x).mp hx; have ht := t.isLt
  exact (mem_rK x).mpr (by omega)
theorem head_Vr (k t : Fin 4) :
    (mVr.access (Rect.unit (s := S16x64x256) ![4 * k.val + t.val, 0, 0] S1x64x256.size (inbRK k t))).set ⊆ (sK mVr k).view.set := by
  have hs : (mVr.access (Rect.unit (s := S16x64x256) ![4 * k.val + t.val, 0, 0] S1x64x256.size (inbRK k t))).set
    = (Rect.unit (s := S16x64x256) ![4 * k.val + t.val, 0, 0] S1x64x256.size (inbRK k t)).set := View.set_slice_whole _ _
  have hk : (sK mVr k).view.set = (rK k).set := View.set_slice_whole _ _
  intro x hx
  rw [hs] at hx
  rw [hk]
  have h1 := (mem_rK x).mp hx; have ht := t.isLt
  exact (mem_rK x).mpr (by omega)

end Cert.KernelIdealProof
-- ==== Proof.KernelIdeal.Step.lean ====
/-
  The rule of each kind of statement of the body, at a symbolic device, kind and chunk: a transfer, a wait, a trip of the
  heads' loop.
-/
module

public import proofs.«01_k».proof.Proof.KernelIdeal.Mem

@[expose] public section

set_option maxRecDepth 16384

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Ins F)

/-- What device `c` owes, whatever it has waited for. -/
def dues (c : Dev nD) (O : CellTallies nD τ sig Unit) : sProp 𝕄 := iprop(∃ W, owes (c : Thread nD τ) O W)

/-- The cells' invariants and the levels, at hand all along. -/
def env (K : Key → ℕ) : sProp 𝕄 := iprop(invs X K ∗ levAts L lv)
instance env_persistent (K : Key → ℕ) : BI.Persistent (env X K) := by unfold env; infer_instance

/-- The wait on the cell of kind `t` and chunk `k`: its payload comes back and the cell is closed. -/
theorem wp_waitP (K : Key → ℕ) (c : Dev nD) (t : Fin 10) (k : Fin 4) {src dst : Memref sig .tc .vmem S4x64x256 .bf16}
    {hs : src.view.WordExact} {hd : dst.view.WordExact} (hN : dst.view.dmaCredit = N) {O : CellTallies nD τ sig Unit}
    (hO : Above (lvT t k) O) {Q : PUnit → sProp 𝕄} :
    iprop(env X K ∗ cred (tallyAt (cell c t k) () N) ∗ atPos ER (cell c t k) 0 ∅ 0 ∗ dues c O
        ∗ (payT X c t k ∗ semVal (cell c t k) 0 ∗ dues c O -∗ Q ⟨⟩))
      ⊢ wp frame (wpE (defs₀ (F := F)) 𝒱₀ (c : Thread nD τ) none) Set.univ (waitP (dsem t k) src dst hs hd) Q := by
  unfold env dues waitP Prog.lift
  iintro ⟨⟨#HI, #Hlev⟩, Hc, Hat, ⟨%W, HO⟩, Hk⟩
  ihave #HIc := (invs_cell X K c t k) $$ HI
  iapply (Rounds.wp_wait_rest_token 𝒱₀ ER (rd X) (c : Thread nD τ) none (κ := K (c, some (t, k)))
      (wpE_waitDma2_eq 𝒱₀ (c : Thread nD τ) none Set.univ) (Set.mem_univ _) () (O := O) (W := W) (R := 0) (m := 0) (T := ∅)
      (by rw [Nat.zero_add, expect_cell, hN])) $$ [Hc HO Hat]
  · rw [hN]
    isplitr; · iexact HIc
    isplitl [Hc]; · iexact Hc
    isplitl [HO]; · iexact HO
    isplitr; · iapply (mayWait_cell c t k hO); iexact Hlev
    iexact Hat
  iintro ⟨HO, Hat, -, Hpay⟩
  ihave Hp := (Entails.of_eq (rest_cell X c t k)) $$ Hpay
  rw [wp_ret]
  imod (close X (K (c, some (t, k))) (cell c t k)) $$ [Hat] with H0
  · isplitr; · iexact HIc
    iexact Hat
  imodintro
  iapply Hk
  isplitl [Hp]; · iexact Hp
  isplitl [H0]; · iexact H0
  iexists _; iexact HO

/-- A transfer to `d`: it takes the source's share and the destination chunk, pays the two cells' duties, and gives the
    credit to wait for the departure. -/
theorem wp_sendP (K : Key → ℕ) (c d : Dev nD) (s r : Fin 10) (k : Fin 4) {src dst : Memref sig .tc .vmem S4x64x256 .bf16}
    {hs : src.view.WordExact} {hd : dst.view.WordExact} (hN : dst.view.dmaCredit = N) {q : PosShare TreeShare}
    {fs : Buf (Elt F) (src.view.loc (c : Thread nD τ))} (O : CellTallies nD τ sig Unit)
    (hp : ptS c src q fs ⊢ payT X c s k)
    (hp' : ∀ fd : Buf (Elt F) (dst.view.loc (d : Thread nD τ)),
      (dst.view.loc (d : Thread nD τ) ↦[dst.view.set]{fullShare} dst.view.write (Elt F) fd (src.view.read (Elt F) fs) Finset.univ : sProp 𝕄) ⊢ payT X d r k)
    {Q : PUnit → sProp 𝕄} :
    iprop(env X K ∗ ptS c src q fs ∗ ptE (F := F) d dst ∗ dues c (O + tallyAt (cell d r k) () N)
        ∗ dutyTok ER (cell c s k) 0 0 ∗ reached ER (cell c s k) 0 ∗ dutyTok ER (cell d r k) 0 0 ∗ reached ER (cell d r k) 0
        ∗ (cred (tallyAt (cell c s k) () N) ∗ dues c O -∗ Q ⟨⟩))
      ⊢ wp frame (wpE (defs₀ (F := F)) 𝒱₀ (c : Thread nD τ) none) Set.univ (sendP src dst hs hd d (dsem s k) (dsem r k)) Q := by
  unfold env dues sendP Prog.lift ptE
  iintro ⟨⟨#HI, #Hlev⟩, Hs, ⟨%fd, Hd⟩, ⟨%W, HO⟩, Ht1, #Hr1, Ht2, #Hr2, Hk⟩
  ihave #HI1 := (invs_cell X K c s k) $$ HI
  ihave #HI2 := (invs_cell X K d r k) $$ HI
  iapply (Rounds.wp_send_pointsTo 𝒱₀ ER (rd X) (c : Thread nD τ) none (κ₁ := K (c, some (s, k))) (κ₂ := K (d, some (r, k)))
    (r₁ := 0) (r₂ := 0) (d₁ := 0) (d₂ := 0) (fd := fd)
    (by rw [duties_cell]; exact Finset.mem_singleton_self _) (by rw [duties_cell]; exact Finset.mem_singleton_self _)
    () () N (show dst.view.amount (.dma (dsem r k)) = N from hN) (amount_cell X c s k 0) (amount_cell X d r k 0) O rfl (W := W)
    (by rw [payload_cell]; exact hp) (by rw [payload_cell]; exact hp' fd)) $$ [Hs Hd HO Ht1 Ht2]
  · isplitr; · iexact HI1
    isplitr; · iexact HI2
    isplitl [Hs]; · iexact Hs
    isplitl [Hd]; · iexact Hd
    isplitl [HO]; · iexact HO
    isplitl [Ht1]; · iexact Ht1
    isplitr; · iexact Hr1
    isplitl [Ht2]; · iexact Ht2
    iexact Hr2
  iintro ⟨Hc, HO⟩
  rw [wp_ret]
  imodintro
  iapply Hk
  isplitl [Hc]; · iexact Hc
  iexists _; iexact HO

/-! ## The heads -/

/-- What the heads' loop of chunk `k` reads: the queries, the device's own keys and values at the share not sent, the
    other half's chunk. -/
def heads (c : Dev nD) (k : Fin 4) : sProp 𝕄 :=
  iprop(ptS c mQ fullShare (X.q c) ∗ ptS c mK fullShare.left (X.k c) ∗ ptS c mV fullShare.left (X.v c)
    ∗ ptS c (sK mKr k) fullShare (X.k (px c)) ∗ ptS c (sK mVr k) fullShare (X.v (px c)))

/-- The chunk of the output that device `c` computes, its first `n` heads there. -/
def part (c : Dev nD) (k : Fin 4) (n : ℕ) : sProp 𝕄 := iprop(∃ f, ⌜Done X c k n f⌝ ∗ ptS c (sO (qi c) k) fullShare f)

/-- One trip adds a head. -/
theorem wp_tripP (c : Dev nD) (k t : Fin 4) {Q : PUnit → sProp 𝕄} :
    iprop(heads X c k ∗ part X c k t.val ∗ (heads X c k ∗ part X c k (t.val + 1) -∗ Q ⟨⟩))
      ⊢ wp frame (wpE (defs₀ (F := F)) 𝒱₀ (c : Thread nD τ) none) Set.univ (tripP c k t) Q := by
  unfold heads part tripP loadQ loadK loadO storeO
  simp only [Prog.lift, Prog.bind_op, Prog.bind_ret, Prog.pure_eq_ret]
  iintro ⟨⟨Hq, Hkl, Hvl, Hko, Hvo⟩, ⟨%f, %hf, Ho⟩, Hk⟩
  iapply (wp_load_rect 𝒱₀ (c : Thread nD τ) none Set.univ (m := mQ) (r := (Rect.unit (s := S16x256x64) ![4 * k.val + t.val, 0, 0] S1x256x64.size (inbRQ k t))) (S := mQ.view.set) (q := fullShare) (f := X.q c)
    (View.set_slice_subset _ _)) $$ Hq
  iintro Hq
  iapply (wp_load_rect 𝒱₀ (c : Thread nD τ) none Set.univ (m := mK) (r := (Rect.unit (s := S16x64x256) ![4 * k.val + t.val, 0, 0] S1x64x256.size (inbRK k t))) (S := mK.view.set) (q := fullShare.left) (f := X.k c)
    (View.set_slice_subset _ _)) $$ Hkl
  iintro Hkl
  iapply (wp_load_rect 𝒱₀ (c : Thread nD τ) none Set.univ (m := mKr) (r := (Rect.unit (s := S16x64x256) ![4 * k.val + t.val, 0, 0] S1x64x256.size (inbRK k t))) (S := (sK mKr k).view.set) (q := fullShare) (f := X.k (px c))
    (head_Kr k t)) $$ Hko
  iintro Hko
  iapply (wp_load_rect 𝒱₀ (c : Thread nD τ) none Set.univ (m := mV) (r := (Rect.unit (s := S16x64x256) ![4 * k.val + t.val, 0, 0] S1x64x256.size (inbRK k t))) (S := mV.view.set) (q := fullShare.left) (f := X.v c)
    (View.set_slice_subset _ _)) $$ Hvl
  iintro Hvl
  iapply (wp_load_rect 𝒱₀ (c : Thread nD τ) none Set.univ (m := mVr) (r := (Rect.unit (s := S16x64x256) ![4 * k.val + t.val, 0, 0] S1x64x256.size (inbRK k t))) (S := (sK mVr k).view.set) (q := fullShare) (f := X.v (px c))
    (head_Vr k t)) $$ Hvo
  iintro Hvo
  iapply (wp_load_rect 𝒱₀ (c : Thread nD τ) none Set.univ (m := mO) (r := (Rect.unit (s := S64x64x256) ![16 * (qi c).val + (4 * k.val + t.val), 0, 0] S1x64x256.size (inbRO (qi c) k t))) (S := (sO (qi c) k).view.set) (q := fullShare) (f := f)
    (head_sO (qi c) k t)) $$ Ho
  iintro Ho
  iapply (wp_store 𝒱₀ (c : Thread nD τ) none Set.univ (m := mO) (r := (Rect.unit (s := S64x64x256) ![16 * (qi c).val + (4 * k.val + t.val), 0, 0] S1x64x256.size (inbRO (qi c) k t))) (Mk := Finset.univ) (S := (sO (qi c) k).view.set) (f := f)
    (head_sO (qi c) k t)) $$ Ho
  iintro Ho
  rw [wp_ret]
  imodintro
  iapply Hk
  isplitr [Ho]
  · isplitl [Hq]; · iexact Hq
    isplitl [Hkl]; · iexact Hkl
    isplitl [Hvl]; · iexact Hvl
    isplitl [Hko]; · iexact Hko
    iexact Hvo
  · iexists _
    isplitr
    · ipureintro; exact hf.step
    · iexact Ho

/-- The loop computes the chunk. -/
theorem wp_loopP (c : Dev nD) (k : Fin 4) {Q : PUnit → sProp 𝕄} :
    iprop(heads X c k ∗ ptE (F := F) c (sO (qi c) k) ∗ (heads X c k ∗ ptS c (sO (qi c) k) fullShare (res X c) -∗ Q ⟨⟩))
      ⊢ wp frame (wpE (defs₀ (F := F)) 𝒱₀ (c : Thread nD τ) none) Set.univ (loopP c k) Q := by
  unfold loopP Scf.Loop.for
  iintro ⟨Hh, Ho, Hk⟩
  iapply (Scf.wp_for frame (wpE (defs₀ (F := F)) 𝒱₀ (c : Thread nD τ) none) Set.univ _ _ _ _ _ _
    (fun n _ => iprop(heads X c k ∗ part X c k n)) (fun t _ => by
      iintro ⟨Hh, Hp⟩
      iapply (wp_tripP X c k t)
      isplitl [Hh]; · iexact Hh
      isplitl [Hp]; · iexact Hp
      iintro H; iexact H))
  isplitl [Hh Ho]
  · isplitl [Hh]; · iexact Hh
    unfold part ptE
    icases Ho with ⟨%f, Ho⟩
    iexists f
    isplitr
    · ipureintro; exact Done.zero X c k f
    · iexact Ho
  · iintro %acc ⟨Hh, Hp⟩
    iapply Hk
    isplitl [Hh]; · iexact Hh
    unfold part
    icases Hp with ⟨%f, %hf, Ho⟩
    have e : (ptS c (sO (qi c) k) fullShare f : sProp 𝕄) = ptS c (sO (qi c) k) fullShare (res X c) := pointsTo_congr (Done.all X hf)
    rw [← e]
    iexact Ho

end Cert.KernelIdealProof
-- ==== Proof.KernelIdeal.Chunk.lean ====
/-
  The barrier, the transfers of keys and values, and one chunk, at a symbolic device and chunk.
-/
module

public import proofs.«01_k».proof.Proof.KernelIdeal.Step

@[expose] public section

set_option maxRecDepth 16384

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Ins F)

/-- A family over the four chunks, written out. -/
theorem bigSep_four (Φ : Fin 4 → sProp 𝕄) : bigSep Finset.univ Φ = iprop(Φ 0 ∗ Φ 1 ∗ Φ 2 ∗ Φ 3) := by
  rw [show (Finset.univ : Finset (Fin 4)) = {0, 1, 2, 3} by decide, bigSep_insert (by decide), bigSep_insert (by decide),
    bigSep_insert (by decide), bigSep_singleton]; rfl
theorem bigSep_three (Φ : Fin 3 → sProp 𝕄) : bigSep Finset.univ Φ = iprop(Φ 0 ∗ Φ 1 ∗ Φ 2) := by
  rw [show (Finset.univ : Finset (Fin 3)) = {0, 1, 2} by decide, bigSep_insert (by decide), bigSep_insert (by decide), bigSep_singleton]; rfl

/-- Every DMA cell of device `c`'s chunk `k` is at its round. -/
def rch (c : Dev nD) (k : Fin 4) : sProp 𝕄 := bigSep Finset.univ fun t : Fin 10 => reached ER (cell c t k) 0
instance rch_persistent (c : Dev nD) (k : Fin 4) : BI.Persistent (rch (F := F) c k) := by unfold rch; infer_instance
theorem rch_cell (c : Dev nD) (t : Fin 10) (k : Fin 4) : rch (F := F) c k ⊢ reached ER (cell c t k) 0 := by
  unfold rch; exact bigSep_elim (Φ := fun t : Fin 10 => reached ER (cell c t k) 0) (Finset.mem_univ t)

theorem creditK (M : Memref sig .tc .vmem S16x64x256 .bf16) (k : Fin 4) : (sK M k).view.dmaCredit = N := rfl
theorem creditO (q k : Fin 4) : (sO q k).view.dmaCredit = N := rfl

theorem payT_two (c : Dev nD) (k : Fin 4) : payT X c 2 k = ptS c (sK mKr k) fullShare (X.k (px c)) := rfl
theorem payT_three (c : Dev nD) (k : Fin 4) : payT X c 3 k = ptS c (sK mVr k) fullShare (X.v (px c)) := rfl
theorem payT_seven (c : Dev nD) (k : Fin 4) : payT X c 7 k = ptS c (sO (qprev (qi c)) k) fullShare (res X c) := rfl

/-! ## The barrier -/

/-- A device's chunks that others write, and the chunk it computes: what chunk `k` starts from. -/
def memK (c : Dev nD) (k : Fin 4) : sProp 𝕄 :=
  iprop(ptE (F := F) c (sK mKr k) ∗ ptE (F := F) c (sK mVr k) ∗ ptE (F := F) c (sO (qprev (qi c)) k) ∗ ptE (F := F) c (sO (qprev (qprev (qi c))) k)
    ∗ ptE (F := F) c (sO (qnext (qi c)) k))

/-- The barrier's tokens: the three duties paid, the own position and credit. -/
def barTok (c : Dev nD) : sProp 𝕄 :=
  iprop(dutyTok ER (barCell (px c)) 0 0 ∗ dutyTok ER (barCell (left c)) 0 1 ∗ dutyTok ER (barCell (right c)) 0 2
    ∗ atPos ER (barCell c) 0 ∅ 0 ∗ cred (tallyAt (barCell c) () 3))
def barRch (c : Dev nD) : sProp 𝕄 :=
  iprop(reached ER (barCell (px c)) 0 ∗ reached ER (barCell (left c)) 0 ∗ reached ER (barCell (right c)) 0)
instance barRch_persistent (c : Dev nD) : BI.Persistent (barRch (F := F) c) := by unfold barRch; infer_instance

theorem mem_deal1 (c : Dev nD) (k : Fin 4) :
    iprop(memK (F := F) c k ∗ rch (F := F) c k)
      ⊢ iprop(barK (F := F) (px c) 0 k ∗ barK (F := F) (left c) 1 k ∗ barK (F := F) (right c) 2 k) := by
  unfold memK barK
  dsimp only
  rw [px_px, right_left, left_right, qi_left, qi_right]
  iintro ⟨⟨HK, HV, H1, H2, H3⟩, #Hr⟩
  isplitl [HK HV]
  · isplitl [HK]; · iexact HK
    isplitl [HV]; · iexact HV
    isplitr
    · iapply (rch_cell c 2 k); iexact Hr
    · iapply (rch_cell c 3 k); iexact Hr
  isplitl [H1 H2]
  · isplitl [H1]; · iexact H1
    isplitl [H2]; · iexact H2
    isplitr
    · iapply (rch_cell c 7 k); iexact Hr
    · iapply (rch_cell c 8 k); iexact Hr
  isplitl [H3]; · iexact H3
  iapply (rch_cell c 9 k); iexact Hr

theorem mem_deal (c : Dev nD) :
    iprop(bigSep Finset.univ (fun k => memK (F := F) c k) ∗ bigSep Finset.univ (fun k => rch (F := F) c k))
      ⊢ iprop(barPay (F := F) (px c) 0 ∗ barPay (F := F) (left c) 1 ∗ barPay (F := F) (right c) 2) := by
  unfold barPay
  rw [← bigSep_sep', ← bigSep_sep', ← bigSep_sep']
  exact bigSep_mono fun k _ => mem_deal1 c k

/-- A barrier signal to `d`. -/
theorem wp_sigP (K : Key → ℕ) (c d : Dev nD) (u : Fin 3) (O : CellTallies nD τ sig Unit) {Q : PUnit → sProp 𝕄} :
    iprop(env X K ∗ dues c (O + tallyAt (barCell d) () 1) ∗ dutyTok ER (barCell d) 0 u ∗ reached ER (barCell d) 0 ∗ barPay (F := F) d u
        ∗ (dues c O -∗ Q ⟨⟩))
      ⊢ wp frame (wpE (defs₀ (F := F)) 𝒱₀ (c : Thread nD τ) none) Set.univ (semSignalWord d barS 1#32) Q := by
  simp only [semSignalWord, Prog.lift, Prog.bind_op, Prog.bind_ret, Prog.pure_eq_ret]
  unfold env dues
  iintro ⟨⟨#HI, #Hlev⟩, ⟨%W, HO⟩, Ht, Hr, Hp, Hk⟩
  ihave #HIb := (invs_bar X K d) $$ HI
  iapply (Rounds.wp_signal 𝒱₀ ER (rd X) (c : Thread nD τ) none (dst := (d : Thread nD τ)) (κ := K (d, none)) (d := u)
      (by rw [duties_bar]; exact Finset.mem_univ _) ((amount_bar X d u).trans (by decide)) () O rfl (W := W)) $$ [HO Ht Hr Hp]
  · isplitr; · iexact HIb
    isplitl [HO]; · iexact HO
    isplitl [Ht]; · iexact Ht
    isplitl [Hp]; · rw [payload_bar]; iexact Hp
    iexact Hr
  iintro HO
  rw [wp_ret]
  imodintro
  iapply Hk
  iexists _; iexact HO

/-- The barrier's wait. -/
theorem wp_barWait (K : Key → ℕ) (c : Dev nD) {O : CellTallies nD τ sig Unit} (hO : Above 1 O) {Q : PUnit → sProp 𝕄} :
    iprop(env X K ∗ dues c O ∗ atPos ER (barCell c) 0 ∅ 0 ∗ cred (tallyAt (barCell c) () 3)
        ∗ (barPay (F := F) c 0 ∗ barPay (F := F) c 1 ∗ barPay (F := F) c 2 ∗ semVal (barCell c) 0 ∗ dues c O -∗ Q ⟨⟩))
      ⊢ wp frame (wpE (defs₀ (F := F)) 𝒱₀ (c : Thread nD τ) none) Set.univ (semWaitWord barS 3#32) Q := by
  simp only [semWaitWord, Prog.lift, Prog.bind_op, Prog.bind_ret, Prog.pure_eq_ret]
  unfold env dues
  iintro ⟨⟨#HI, #Hlev⟩, ⟨%W, HO⟩, Hat, Hc, Hk⟩
  ihave #HIb := (invs_bar X K c) $$ HI
  iapply (Rounds.wp_wait_rest_token 𝒱₀ ER (rd X) (c : Thread nD τ) none (κ := K (c, none))
      (wpE_semWait_eq 𝒱₀ (c : Thread nD τ) none Set.univ) (Set.mem_univ _) () (O := O) (W := W) (R := 0) (m := 0) (T := ∅)
      (by rw [expect_bar]; decide)) $$ [Hc HO Hat]
  · isplitr; · iexact HIb
    isplitl [Hc]; · iexact Hc
    isplitl [HO]; · iexact HO
    isplitr; · iapply (mayWait_bar c hO); iexact Hlev
    iexact Hat
  iintro ⟨HO, Hat, -, Hpay⟩
  ihave Hp := (Entails.of_eq ((rest_bar X c).trans (bigSep_three _))) $$ Hpay
  icases Hp with ⟨H0, H1, H2⟩
  rw [wp_ret]
  imod (close X (K (c, none)) (barCell c)) $$ [Hat] with Hz
  · isplitr; · iexact HIb
    iexact Hat
  imodintro
  iapply Hk
  isplitl [H0]; · iexact H0
  isplitl [H1]; · iexact H1
  isplitl [H2]; · iexact H2
  isplitl [Hz]; · iexact Hz
  iexists _; iexact HO

/-- The barrier: the device's chunks go to the devices that write them, and the chunks it writes come. -/
theorem wp_barP (K : Key → ℕ) (c : Dev nD) {Q : PUnit → sProp 𝕄} :
    iprop(env X K ∗ barRch (F := F) c ∗ bigSep Finset.univ (fun k => rch (F := F) c k) ∗ dues c (O₀ c) ∗ barTok (F := F) c
        ∗ bigSep Finset.univ (fun k => memK (F := F) c k)
        ∗ (barPay (F := F) c 0 ∗ barPay (F := F) c 1 ∗ barPay (F := F) c 2 ∗ semVal (barCell c) 0 ∗ dues c (X0 c) -∗ Q ⟨⟩))
      ⊢ wp frame (wpE (defs₀ (F := F)) 𝒱₀ (c : Thread nD τ) none) Set.univ (barP c) Q := by
  unfold barP barRch barTok O₀
  simp only [wp_bind]
  iintro ⟨#HE, ⟨#Hr0, #Hr1, #Hr2⟩, #Hr, HO, ⟨Ht0, Ht1, Ht2, Hat, Hc⟩, Hm, Hk⟩
  ihave Hd := (mem_deal (F := F) c) $$ [Hm]
  · isplitl [Hm]; · iexact Hm
    iexact Hr
  icases Hd with ⟨H0, H1, H2⟩
  iapply (wp_sigP X K c (px c) 0 _)
  isplitr; · iexact HE
  isplitl [HO]; · iexact HO
  isplitl [Ht0]; · iexact Ht0
  isplitr; · iexact Hr0
  isplitl [H0]; · iexact H0
  iintro HO
  iapply (wp_sigP X K c (left c) 1 _)
  isplitr; · iexact HE
  isplitl [HO]; · iexact HO
  isplitl [Ht1]; · iexact Ht1
  isplitr; · iexact Hr1
  isplitl [H1]; · iexact H1
  iintro HO
  iapply (wp_sigP X K c (right c) 2 _)
  isplitr; · iexact HE
  isplitl [HO]; · iexact HO
  isplitl [Ht2]; · iexact Ht2
  isplitr; · iexact Hr2
  isplitl [H2]; · iexact H2
  iintro HO
  iapply (wp_barWait X K c (X0_above c))
  isplitr; · iexact HE
  isplitl [HO]; · iexact HO
  isplitl [Hat]; · iexact Hat
  isplitl [Hc]; · iexact Hc
  iexact Hk

/-! ## The keys and values to the device with the other half -/

/-- What the two transfers of chunk `k` start from besides what the barrier gave: the share sent, the tokens. -/
def xferPre (c : Dev nD) (k : Fin 4) : sProp 𝕄 :=
  iprop(ptS c (sK mK k) fullShare.right (X.k c) ∗ ptS c (sK mV k) fullShare.right (X.v c)
    ∗ dutyTok ER (cell c 0 k) 0 0 ∗ dutyTok ER (cell (px c) 2 k) 0 0 ∗ dutyTok ER (cell c 1 k) 0 0 ∗ dutyTok ER (cell (px c) 3 k) 0 0)

theorem pay2 (c : Dev nD) (k : Fin 4) (fd : CK F) :
    ((sK mKr k).view.loc (px c : Thread nD τ) ↦[(sK mKr k).view.set]{fullShare}
        (sK mKr k).view.write (Elt F) fd ((sK mK k).view.read (Elt F) (X.k c)) Finset.univ : sProp 𝕄) ⊢ payT X (px c) 2 k := by
  show _ ⊢ ptS (px c) (sK mKr k) fullShare (X.k (px (px c)))
  rw [px_px]
  exact Entails.of_eq (pointsTo_congr (landed_K k (X.k c) fd))
theorem pay3 (c : Dev nD) (k : Fin 4) (fd : CK F) :
    ((sK mVr k).view.loc (px c : Thread nD τ) ↦[(sK mVr k).view.set]{fullShare}
        (sK mVr k).view.write (Elt F) fd ((sK mV k).view.read (Elt F) (X.v c)) Finset.univ : sProp 𝕄) ⊢ payT X (px c) 3 k := by
  show _ ⊢ ptS (px c) (sK mVr k) fullShare (X.v (px (px c)))
  rw [px_px]
  exact Entails.of_eq (pointsTo_congr (landed_V k (X.v c) fd))

theorem wp_xfer (K : Key → ℕ) (c : Dev nD) (k : Fin 4) (O : CellTallies nD τ sig Unit) {Q : PUnit → sProp 𝕄} :
    iprop(env X K ∗ rch (F := F) c k ∗ xferPre X c k ∗ barK (F := F) c 0 k ∗ dues c (xDue c k O)
        ∗ (cred (tallyAt (cell c 0 k) () N) ∗ cred (tallyAt (cell c 1 k) () N) ∗ dues c O -∗ Q ⟨⟩))
      ⊢ wp frame (wpE (defs₀ (F := F)) 𝒱₀ (c : Thread nD τ) none) Set.univ (xK c k >>= fun _ => xV c k) Q := by
  rw [wp_bind]
  unfold xferPre xDue xK xV
  rw [show barK (F := F) c 0 k = iprop(ptE (F := F) (px c) (sK mKr k) ∗ ptE (F := F) (px c) (sK mVr k) ∗ reached ER (cell (px c) 2 k) 0
    ∗ reached ER (cell (px c) 3 k) 0) from rfl]
  iintro ⟨#HE, #Hr, ⟨HK, HV, Ht0, Ht2, Ht1, Ht3⟩, ⟨HdK, HdV, #Hr2, #Hr3⟩, HO, Hk⟩
  iapply (wp_sendP X K c (px c) 0 2 k (src := sK mK k) (dst := sK mKr k) (fs := X.k c) (q := fullShare.right) (creditK mKr k) _ (Entails.refl _) (pay2 X c k))
  isplitr; · iexact HE
  isplitl [HK]; · iexact HK
  isplitl [HdK]; · iexact HdK
  isplitl [HO]; · iexact HO
  isplitl [Ht0]; · iexact Ht0
  isplitr; · iapply (rch_cell c 0 k); iexact Hr
  isplitl [Ht2]; · iexact Ht2
  isplitr; · iexact Hr2
  iintro ⟨Hc0, HO⟩
  iapply (wp_sendP X K c (px c) 1 3 k (src := sK mV k) (dst := sK mVr k) (fs := X.v c) (q := fullShare.right) (creditK mVr k) _ (Entails.refl _) (pay3 X c k))
  isplitr; · iexact HE
  isplitl [HV]; · iexact HV
  isplitl [HdV]; · iexact HdV
  isplitl [HO]; · iexact HO
  isplitl [Ht1]; · iexact Ht1
  isplitr; · iapply (rch_cell c 1 k); iexact Hr
  isplitl [Ht3]; · iexact Ht3
  isplitr; · iexact Hr3
  iintro ⟨Hc1, HO⟩
  iapply Hk
  isplitl [Hc0]; · iexact Hc0
  isplitl [Hc1]; · iexact Hc1
  iexact HO

/-! ## One chunk -/

/-- The queries, and the share of its own keys and values that the device does not send. -/
def base (c : Dev nD) : sProp 𝕄 :=
  iprop(ptS c mQ fullShare (X.q c) ∗ ptS c mK fullShare.left (X.k c) ∗ ptS c mV fullShare.left (X.v c))

/-- The chunk's tokens: its positions and credits at the cells it waits on, the duties it pays. -/
def chunkTok (c : Dev nD) (k : Fin 4) : sProp 𝕄 :=
  iprop((cred (tallyAt (cell c 2 k) () N) ∗ atPos ER (cell c 2 k) 0 ∅ 0) ∗ (cred (tallyAt (cell c 3 k) () N) ∗ atPos ER (cell c 3 k) 0 ∅ 0)
    ∗ (cred (tallyAt (cell c 7 k) () N) ∗ atPos ER (cell c 7 k) 0 ∅ 0)
    ∗ (dutyTok ER (cell c 4 k) 0 0 ∗ dutyTok ER (cell (right c) 7 k) 0 0) ∗ (dutyTok ER (cell c 5 k) 0 0 ∗ dutyTok ER (cell (left c) 9 k) 0 0)
    ∗ (dutyTok ER (cell c 6 k) 0 0 ∗ dutyTok ER (cell (right c) 8 k) 0 0))

/-- What a chunk leaves: the other half's keys and values, the credits for the three departures, the counters of the
    arrivals. -/
def chunkPost (c : Dev nD) (k : Fin 4) : sProp 𝕄 :=
  iprop((ptS c (sK mKr k) fullShare (X.k (px c)) ∗ ptS c (sK mVr k) fullShare (X.v (px c)))
    ∗ (cred (tallyAt (cell c 4 k) () N) ∗ cred (tallyAt (cell c 5 k) () N) ∗ cred (tallyAt (cell c 6 k) () N))
    ∗ (semVal (cell c 2 k) 0 ∗ semVal (cell c 3 k) 0 ∗ semVal (cell c 7 k) 0))

theorem pay7 (c : Dev nD) (k : Fin 4) (fd : CO F) :
    ((sO (qi c) k).view.loc (right c : Thread nD τ) ↦[(sO (qi c) k).view.set]{fullShare}
        (sO (qi c) k).view.write (Elt F) fd ((sO (qi c) k).view.read (Elt F) (res X c)) Finset.univ : sProp 𝕄) ⊢ payT X (right c) 7 k := by
  show _ ⊢ ptS (right c) (sO (qprev (qi (right c))) k) fullShare (res X (right c))
  rw [qi_right, qprev_qnext, res_right]
  exact Entails.of_eq (pointsTo_congr (landed_O (qi c) k (res X c) fd))
theorem pay8 (c : Dev nD) (k : Fin 4) (fd : CO F) :
    ((sO (qprev (qi c)) k).view.loc (right c : Thread nD τ) ↦[(sO (qprev (qi c)) k).view.set]{fullShare}
        (sO (qprev (qi c)) k).view.write (Elt F) fd ((sO (qprev (qi c)) k).view.read (Elt F) (res X c)) Finset.univ : sProp 𝕄) ⊢ payT X (right c) 8 k := by
  show _ ⊢ ptS (right c) (sO (qprev (qprev (qi (right c)))) k) fullShare (res X (right c))
  rw [qi_right, qprev_qnext, res_right]
  exact Entails.of_eq (pointsTo_congr (landed_O (qprev (qi c)) k (res X c) fd))
theorem pay9 (c : Dev nD) (k : Fin 4) (fd : CO F) :
    ((sO (qi c) k).view.loc (left c : Thread nD τ) ↦[(sO (qi c) k).view.set]{fullShare}
        (sO (qi c) k).view.write (Elt F) fd ((sO (qi c) k).view.read (Elt F) (res X c)) Finset.univ : sProp 𝕄) ⊢ payT X (left c) 9 k := by
  show _ ⊢ ptS (left c) (sO (qnext (qi (left c))) k) fullShare (res X (left c))
  rw [qi_left, qnext_qprev, res_left]
  exact Entails.of_eq (pointsTo_congr (landed_O (qi c) k (res X c) fd))

theorem wp_chunkP (K : Key → ℕ) (c : Dev nD) (k : Fin 4) {O : CellTallies nD τ sig Unit} (hO : Above (3 + k.val) O) {Q : PUnit → sProp 𝕄} :
    iprop(env X K ∗ rch (F := F) c k ∗ base X c ∗ chunkTok (F := F) c k ∗ ptE (F := F) c (sO (qi c) k) ∗ barK (F := F) c 1 k ∗ barK (F := F) c 2 k
        ∗ dues c (chunkDue c k O) ∗ (base X c ∗ chunkPost X c k ∗ dues c O -∗ Q ⟨⟩))
      ⊢ wp frame (wpE (defs₀ (F := F)) 𝒱₀ (c : Thread nD τ) none) Set.univ (chunkP c k) Q := by
  have h2 : Above 2 (chunkDue c k O) := chunkDue_above c k (hO.mono (by omega)) (by omega)
  have h7 : Above (3 + k.val) (O + tallyAt (cell (right c) 8 k) () N) :=
    hO.add (.cell _ _ _ _ (by show 3 + k.val < 10; have := k.isLt; omega))
  unfold chunkP base chunkTok
  unfold wKr wVr
  simp only [wp_bind]
  rw [show barK (F := F) c 1 k = iprop(ptE (F := F) (right c) (sO (qi c) k) ∗ ptE (F := F) (right c) (sO (qprev (qi c)) k)
      ∗ reached ER (cell (right c) 7 k) 0 ∗ reached ER (cell (right c) 8 k) 0) from rfl,
    show barK (F := F) c 2 k = iprop(ptE (F := F) (left c) (sO (qi c) k) ∗ reached ER (cell (left c) 9 k) 0) from rfl]
  iintro ⟨#HE, #Hr, ⟨Hq, HK, HV⟩, ⟨⟨Hc2, Ha2⟩, ⟨Hc3, Ha3⟩, ⟨Hc7, Ha7⟩, ⟨Ht4, Ht7⟩, ⟨Ht5, Ht9⟩, ⟨Ht6, Ht8⟩⟩, Ho, ⟨Hd7, Hd8, #Hr7, #Hr8⟩, ⟨Hd9, #Hr9⟩, HO, Hk⟩
  -- the other half's keys and values
  iapply (wp_waitP X K c 2 k (src := sK mK k) (dst := sK mKr k) (creditK mKr k) h2)
  isplitr; · iexact HE
  isplitl [Hc2]; · iexact Hc2
  isplitl [Ha2]; · iexact Ha2
  isplitl [HO]; · iexact HO
  rw [payT_two]
  iintro ⟨Hp2, Hz2, HO⟩
  iapply (wp_waitP X K c 3 k (src := sK mV k) (dst := sK mVr k) (creditK mVr k) h2)
  isplitr; · iexact HE
  isplitl [Hc3]; · iexact Hc3
  isplitl [Ha3]; · iexact Ha3
  isplitl [HO]; · iexact HO
  rw [payT_three]
  iintro ⟨Hp3, Hz3, HO⟩
  -- the heads
  iapply (wp_loopP X c k)
  isplitl [Hq HK HV Hp2 Hp3]
  · unfold heads
    isplitl [Hq]; · iexact Hq
    isplitl [HK]; · iexact HK
    isplitl [HV]; · iexact HV
    isplitl [Hp2]; · iexact Hp2
    iexact Hp3
  isplitl [Ho]; · iexact Ho
  unfold heads
  iintro ⟨⟨Hq, HK, HV, Hp2, Hp3⟩, Ho⟩
  ihave Ho2 := (pointsTo_share (PosShare.mem_left_op_right fullShare)).1 $$ Ho
  icases Ho2 with ⟨Hol, Hor⟩
  -- the chunk to the right and to the left
  unfold chunkDue oP wP
  iapply (wp_sendP X K c (right c) 4 7 k (src := sO (qi c) k) (dst := sO (qi c) k) (fs := res X c) (q := fullShare.left) (creditO (qi c) k) _ (Entails.refl _) (pay7 X c k))
  isplitr; · iexact HE
  isplitl [Hol]; · iexact Hol
  isplitl [Hd7]; · iexact Hd7
  isplitl [HO]; · iexact HO
  isplitl [Ht4]; · iexact Ht4
  isplitr; · iapply (rch_cell c 4 k); iexact Hr
  isplitl [Ht7]; · iexact Ht7
  isplitr; · iexact Hr7
  iintro ⟨Hc4, HO⟩
  iapply (wp_sendP X K c (left c) 5 9 k (src := sO (qi c) k) (dst := sO (qi c) k) (fs := res X c) (q := fullShare.right) (creditO (qi c) k) _ (Entails.refl _) (pay9 X c k))
  isplitr; · iexact HE
  isplitl [Hor]; · iexact Hor
  isplitl [Hd9]; · iexact Hd9
  isplitl [HO]; · iexact HO
  isplitl [Ht5]; · iexact Ht5
  isplitr; · iapply (rch_cell c 5 k); iexact Hr
  isplitl [Ht9]; · iexact Ht9
  isplitr; · iexact Hr9
  iintro ⟨Hc5, HO⟩
  -- the left neighbour's chunk, and its forwarding
  iapply (wp_waitP X K c 7 k (src := sO (qprev (qi c)) k) (dst := sO (qprev (qi c)) k) (creditO (qprev (qi c)) k) h7)
  isplitr; · iexact HE
  isplitl [Hc7]; · iexact Hc7
  isplitl [Ha7]; · iexact Ha7
  isplitl [HO]; · iexact HO
  rw [payT_seven]
  iintro ⟨Hp7, Hz7, HO⟩
  iapply (wp_sendP X K c (right c) 6 8 k (src := sO (qprev (qi c)) k) (dst := sO (qprev (qi c)) k) (fs := res X c) (q := fullShare) (creditO (qprev (qi c)) k) _ (Entails.refl _) (pay8 X c k))
  isplitr; · iexact HE
  isplitl [Hp7]; · iexact Hp7
  isplitl [Hd8]; · iexact Hd8
  isplitl [HO]; · iexact HO
  isplitl [Ht6]; · iexact Ht6
  isplitr; · iapply (rch_cell c 6 k); iexact Hr
  isplitl [Ht8]; · iexact Ht8
  isplitr; · iexact Hr8
  iintro ⟨Hc6, HO⟩
  iapply Hk
  isplitl [Hq HK HV]
  · isplitl [Hq]; · iexact Hq
    isplitl [HK]; · iexact HK
    iexact HV
  isplitr [HO]
  · unfold chunkPost
    isplitl [Hp2 Hp3]
    · isplitl [Hp2]; · iexact Hp2
      iexact Hp3
    isplitl [Hc4 Hc5 Hc6]
    · isplitl [Hc4]; · iexact Hc4
      isplitl [Hc5]; · iexact Hc5
      iexact Hc6
    isplitl [Hz2]; · iexact Hz2
    isplitl [Hz3]; · iexact Hz3
    iexact Hz7
  iexact HO

end Cert.KernelIdealProof
-- ==== Proof.KernelIdeal.Body.lean ====
/-
  The whole body at a symbolic device: the barrier and six stages of four chunks each.
-/
module

public import proofs.«01_k».proof.Proof.KernelIdeal.Chunk

@[expose] public section

set_option maxRecDepth 16384

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Ins F)

/-! ## Stages -/

/-- The same program at each chunk in turn. -/
def four (p : Fin 4 → Prog (TpuEff nD τ sig (Elt F) Λ₀ .tc) PUnit) : Prog (TpuEff nD τ sig (Elt F) Λ₀ .tc) PUnit :=
  p 0 >>= fun _ => p 1 >>= fun _ => p 2 >>= fun _ => p 3

theorem mainP_eq (c : Dev nD) : mainP (F := F) c = (barP c >>= fun _ => four (fun k => xK c k >>= fun _ => xV c k) >>= fun _ =>
    four (fun k => chunkP c k) >>= fun _ => four (fun k => wP (qprev (qprev (qi c))) k 8) >>= fun _ => four (fun k => wP (qnext (qi c)) k 9) >>= fun _ =>
    four (fun k => wKs k >>= fun _ => wVs k) >>= fun _ => four fun k => endP c k) := by
  unfold mainP four
  simp only [bind_assoc]

/-- A stage: each chunk's program takes `A k` to `B k`, with `R` carried along and the dues falling from `D k` to
    `D (k + 1)`. -/
theorem wp_four (K : Key → ℕ) (c : Dev nD) (R : sProp 𝕄) (A B : Fin 4 → sProp 𝕄) (D : Fin 5 → CellTallies nD τ sig Unit)
    (p : Fin 4 → Prog (TpuEff nD τ sig (Elt F) Λ₀ .tc) PUnit)
    (h : ∀ (k : Fin 4) (Q : PUnit → sProp 𝕄),
      iprop(env X K ∗ rch (F := F) c k ∗ R ∗ A k ∗ dues c (D k.castSucc) ∗ (R ∗ B k ∗ dues c (D k.succ) -∗ Q ⟨⟩))
        ⊢ wp frame (wpE (defs₀ (F := F)) 𝒱₀ (c : Thread nD τ) none) Set.univ (p k) Q) {Q : PUnit → sProp 𝕄} :
    iprop(env X K ∗ bigSep Finset.univ (fun k => rch (F := F) c k) ∗ R ∗ bigSep Finset.univ A ∗ dues c (D 0)
        ∗ (R ∗ bigSep Finset.univ B ∗ dues c (D 4) -∗ Q ⟨⟩))
      ⊢ wp frame (wpE (defs₀ (F := F)) 𝒱₀ (c : Thread nD τ) none) Set.univ (four p) Q := by
  unfold four
  simp only [wp_bind]
  rw [bigSep_four A, bigSep_four B, bigSep_four (fun k => rch (F := F) c k)]
  iintro ⟨#HE, ⟨#Hr0, #Hr1, #Hr2, #Hr3⟩, HR, ⟨HA0, HA1, HA2, HA3⟩, HO, Hk⟩
  iapply (h 0 _)
  isplitr; · iexact HE
  isplitr; · iexact Hr0
  isplitl [HR]; · iexact HR
  isplitl [HA0]; · iexact HA0
  isplitl [HO]; · iexact HO
  iintro ⟨HR, HB0, HO⟩
  iapply (h 1 _)
  isplitr; · iexact HE
  isplitr; · iexact Hr1
  isplitl [HR]; · iexact HR
  isplitl [HA1]; · iexact HA1
  isplitl [HO]; · iexact HO
  iintro ⟨HR, HB1, HO⟩
  iapply (h 2 _)
  isplitr; · iexact HE
  isplitr; · iexact Hr2
  isplitl [HR]; · iexact HR
  isplitl [HA2]; · iexact HA2
  isplitl [HO]; · iexact HO
  iintro ⟨HR, HB2, HO⟩
  iapply (h 3 _)
  isplitr; · iexact HE
  isplitr; · iexact Hr3
  isplitl [HR]; · iexact HR
  isplitl [HA3]; · iexact HA3
  isplitl [HO]; · iexact HO
  iintro ⟨HR, HB3, HO⟩
  iapply Hk
  isplitl [HR]; · iexact HR
  isplitl [HB0 HB1 HB2 HB3]
  · isplitl [HB0]; · iexact HB0
    isplitl [HB1]; · iexact HB1
    isplitl [HB2]; · iexact HB2
    iexact HB3
  iexact HO

/-! ## The stages' resources -/

/-- The tokens of the waits at the end. -/
def endTok (c : Dev nD) (k : Fin 4) : sProp 𝕄 :=
  iprop((cred (tallyAt (cell c 8 k) () N) ∗ atPos ER (cell c 8 k) 0 ∅ 0) ∗ (cred (tallyAt (cell c 9 k) () N) ∗ atPos ER (cell c 9 k) 0 ∅ 0)
    ∗ (atPos ER (cell c 0 k) 0 ∅ 0 ∗ atPos ER (cell c 1 k) 0 ∅ 0)
    ∗ (atPos ER (cell c 4 k) 0 ∅ 0 ∗ atPos ER (cell c 5 k) 0 ∅ 0 ∗ atPos ER (cell c 6 k) 0 ∅ 0))

def chunkPre (c : Dev nD) (k : Fin 4) : sProp 𝕄 :=
  iprop(chunkTok (F := F) c k ∗ ptE (F := F) c (sO (qi c) k) ∗ barK (F := F) c 1 k ∗ barK (F := F) c 2 k)

/-- What comes back of one chunk: the shares of the keys and values sent, the landing buffers, the four quarters of the
    output, the counters. -/
def finMem (c : Dev nD) (k : Fin 4) : sProp 𝕄 :=
  iprop((ptS c (sK mK k) fullShare.right (X.k c) ∗ ptS c (sK mV k) fullShare.right (X.v c))
    ∗ (ptS c (sK mKr k) fullShare (X.k (px c)) ∗ ptS c (sK mVr k) fullShare (X.v (px c)))
    ∗ ptS c (sO (qi c) k) fullShare (res X c) ∗ ptS c (sO (qprev (qi c)) k) fullShare (res X c)
    ∗ ptS c (sO (qprev (qprev (qi c))) k) fullShare (res X c) ∗ ptS c (sO (qnext (qi c)) k) fullShare (res X c))
def finSem (c : Dev nD) (k : Fin 4) : sProp 𝕄 :=
  iprop(semVal (cell c 0 k) 0 ∗ semVal (cell c 1 k) 0 ∗ semVal (cell c 2 k) 0 ∗ semVal (cell c 3 k) 0 ∗ semVal (cell c 4 k) 0
    ∗ semVal (cell c 5 k) 0 ∗ semVal (cell c 6 k) 0 ∗ semVal (cell c 7 k) 0 ∗ semVal (cell c 8 k) 0 ∗ semVal (cell c 9 k) 0)

theorem stage_xfer (K : Key → ℕ) (c : Dev nD) (k : Fin 4) (Q : PUnit → sProp 𝕄) :
    iprop(env X K ∗ rch (F := F) c k ∗ emp ∗ (xferPre X c k ∗ barK (F := F) c 0 k)
        ∗ dues c ((![X0 c, X1 c, X2 c, X3 c, D0 c] : Fin 5 → CellTallies nD τ sig Unit) k.castSucc)
        ∗ (emp ∗ (cred (tallyAt (cell c 0 k) () N) ∗ cred (tallyAt (cell c 1 k) () N))
          ∗ dues c ((![X0 c, X1 c, X2 c, X3 c, D0 c] : Fin 5 → CellTallies nD τ sig Unit) k.succ) -∗ Q ⟨⟩))
      ⊢ wp frame (wpE (defs₀ (F := F)) 𝒱₀ (c : Thread nD τ) none) Set.univ (xK c k >>= fun _ => xV c k) Q := by
  have e : (![X0 c, X1 c, X2 c, X3 c, D0 c] : Fin 5 → CellTallies nD τ sig Unit) k.castSucc
      = xDue c k ((![X0 c, X1 c, X2 c, X3 c, D0 c] : Fin 5 → CellTallies nD τ sig Unit) k.succ) := by
    match k with | 0 => rfl | 1 => rfl | 2 => rfl | 3 => rfl
  rw [e]
  iintro ⟨#HE, #Hr, -, ⟨Hx, Hb⟩, HO, Hk⟩
  iapply (wp_xfer X K c k _)
  isplitr; · iexact HE
  isplitr; · iexact Hr
  isplitl [Hx]; · iexact Hx
  isplitl [Hb]; · iexact Hb
  isplitl [HO]; · iexact HO
  iintro ⟨H0, H1, HO⟩
  iapply Hk
  isplitr; · iempintro
  isplitl [H0 H1]
  · isplitl [H0]; · iexact H0
    iexact H1
  iexact HO

theorem stage_chunk (K : Key → ℕ) (c : Dev nD) (k : Fin 4) (Q : PUnit → sProp 𝕄) :
    iprop(env X K ∗ rch (F := F) c k ∗ base X c ∗ chunkPre (F := F) c k
        ∗ dues c ((![D0 c, D1 c, D2 c, D3 c, 0] : Fin 5 → CellTallies nD τ sig Unit) k.castSucc)
        ∗ (base X c ∗ chunkPost X c k ∗ dues c ((![D0 c, D1 c, D2 c, D3 c, 0] : Fin 5 → CellTallies nD τ sig Unit) k.succ) -∗ Q ⟨⟩))
      ⊢ wp frame (wpE (defs₀ (F := F)) 𝒱₀ (c : Thread nD τ) none) Set.univ (chunkP c k) Q := by
  have e : (![D0 c, D1 c, D2 c, D3 c, 0] : Fin 5 → CellTallies nD τ sig Unit) k.castSucc
      = chunkDue c k ((![D0 c, D1 c, D2 c, D3 c, 0] : Fin 5 → CellTallies nD τ sig Unit) k.succ) := by
    match k with | 0 => rfl | 1 => rfl | 2 => rfl | 3 => rfl
  have ha : Above (3 + k.val) ((![D0 c, D1 c, D2 c, D3 c, 0] : Fin 5 → CellTallies nD τ sig Unit) k.succ) := by
    match k with | 0 => exact D1_above c | 1 => exact D2_above c | 2 => exact D3_above c | 3 => exact .zero _
  rw [e]
  unfold chunkPre
  iintro ⟨#HE, #Hr, HR, ⟨Ht, Ho, H1, H2⟩, HO, Hk⟩
  iapply (wp_chunkP X K c k ha)
  isplitr; · iexact HE
  isplitr; · iexact Hr
  isplitl [HR]; · iexact HR
  isplitl [Ht]; · iexact Ht
  isplitl [Ho]; · iexact Ho
  isplitl [H1]; · iexact H1
  isplitl [H2]; · iexact H2
  isplitl [HO]; · iexact HO
  iexact Hk

/-- A stage of one wait per chunk, owing nothing. -/
theorem stage_wait (K : Key → ℕ) (c : Dev nD) (t : Fin 10) (q k : Fin 4) (Q : PUnit → sProp 𝕄) :
    iprop(env X K ∗ rch (F := F) c k ∗ emp ∗ (cred (tallyAt (cell c t k) () N) ∗ atPos ER (cell c t k) 0 ∅ 0)
        ∗ dues c ((fun _ => 0 : Fin 5 → CellTallies nD τ sig Unit) k.castSucc)
        ∗ (emp ∗ (payT X c t k ∗ semVal (cell c t k) 0) ∗ dues c ((fun _ => 0 : Fin 5 → CellTallies nD τ sig Unit) k.succ) -∗ Q ⟨⟩))
      ⊢ wp frame (wpE (defs₀ (F := F)) 𝒱₀ (c : Thread nD τ) none) Set.univ (wP q k t) Q := by
  unfold wP
  iintro ⟨#HE, -, -, ⟨Hc, Ha⟩, HO, Hk⟩
  iapply (wp_waitP X K c t k (src := sO q k) (dst := sO q k) (creditO q k) (.zero _))
  isplitr; · iexact HE
  isplitl [Hc]; · iexact Hc
  isplitl [Ha]; · iexact Ha
  isplitl [HO]; · iexact HO
  iintro ⟨Hp, Hz, HO⟩
  iapply Hk
  isplitr; · iempintro
  isplitl [Hp Hz]
  · isplitl [Hp]; · iexact Hp
    iexact Hz
  iexact HO

theorem stage_sent (K : Key → ℕ) (c : Dev nD) (k : Fin 4) (Q : PUnit → sProp 𝕄) :
    iprop(env X K ∗ rch (F := F) c k ∗ emp ∗ ((cred (tallyAt (cell c 0 k) () N) ∗ cred (tallyAt (cell c 1 k) () N))
          ∗ atPos ER (cell c 0 k) 0 ∅ 0 ∗ atPos ER (cell c 1 k) 0 ∅ 0)
        ∗ dues c ((fun _ => 0 : Fin 5 → CellTallies nD τ sig Unit) k.castSucc)
        ∗ (emp ∗ ((payT X c 0 k ∗ semVal (cell c 0 k) 0) ∗ payT X c 1 k ∗ semVal (cell c 1 k) 0)
          ∗ dues c ((fun _ => 0 : Fin 5 → CellTallies nD τ sig Unit) k.succ) -∗ Q ⟨⟩))
      ⊢ wp frame (wpE (defs₀ (F := F)) 𝒱₀ (c : Thread nD τ) none) Set.univ (wKs k >>= fun _ => wVs k) Q := by
  rw [wp_bind]
  unfold wKs wVs
  iintro ⟨#HE, -, -, ⟨⟨Hc0, Hc1⟩, Ha0, Ha1⟩, HO, Hk⟩
  iapply (wp_waitP X K c 0 k (src := sK mKr k) (dst := sK mK k) (creditK mK k) (.zero _))
  isplitr; · iexact HE
  isplitl [Hc0]; · iexact Hc0
  isplitl [Ha0]; · iexact Ha0
  isplitl [HO]; · iexact HO
  iintro ⟨Hp0, Hz0, HO⟩
  iapply (wp_waitP X K c 1 k (src := sK mVr k) (dst := sK mV k) (creditK mV k) (.zero _))
  isplitr; · iexact HE
  isplitl [Hc1]; · iexact Hc1
  isplitl [Ha1]; · iexact Ha1
  isplitl [HO]; · iexact HO
  iintro ⟨Hp1, Hz1, HO⟩
  iapply Hk
  isplitr; · iempintro
  isplitl [Hp0 Hz0 Hp1 Hz1]
  · isplitl [Hp0 Hz0]
    · isplitl [Hp0]; · iexact Hp0
      iexact Hz0
    isplitl [Hp1]; · iexact Hp1
    iexact Hz1
  iexact HO

theorem stage_end (K : Key → ℕ) (c : Dev nD) (k : Fin 4) (Q : PUnit → sProp 𝕄) :
    iprop(env X K ∗ rch (F := F) c k ∗ emp
        ∗ ((cred (tallyAt (cell c 4 k) () N) ∗ cred (tallyAt (cell c 5 k) () N) ∗ cred (tallyAt (cell c 6 k) () N))
          ∗ atPos ER (cell c 4 k) 0 ∅ 0 ∗ atPos ER (cell c 5 k) 0 ∅ 0 ∗ atPos ER (cell c 6 k) 0 ∅ 0)
        ∗ dues c ((fun _ => 0 : Fin 5 → CellTallies nD τ sig Unit) k.castSucc)
        ∗ (emp ∗ ((payT X c 4 k ∗ semVal (cell c 4 k) 0) ∗ (payT X c 5 k ∗ semVal (cell c 5 k) 0) ∗ payT X c 6 k ∗ semVal (cell c 6 k) 0)
          ∗ dues c ((fun _ => 0 : Fin 5 → CellTallies nD τ sig Unit) k.succ) -∗ Q ⟨⟩))
      ⊢ wp frame (wpE (defs₀ (F := F)) 𝒱₀ (c : Thread nD τ) none) Set.univ (endP c k) Q := by
  unfold endP wP
  simp only [wp_bind]
  iintro ⟨#HE, -, -, ⟨⟨Hc4, Hc5, Hc6⟩, Ha4, Ha5, Ha6⟩, HO, Hk⟩
  iapply (wp_waitP X K c 4 k (src := sO (qi c) k) (dst := sO (qi c) k) (creditO (qi c) k) (.zero _))
  isplitr; · iexact HE
  isplitl [Hc4]; · iexact Hc4
  isplitl [Ha4]; · iexact Ha4
  isplitl [HO]; · iexact HO
  iintro ⟨Hp4, Hz4, HO⟩
  iapply (wp_waitP X K c 5 k (src := sO (qi c) k) (dst := sO (qi c) k) (creditO (qi c) k) (.zero _))
  isplitr; · iexact HE
  isplitl [Hc5]; · iexact Hc5
  isplitl [Ha5]; · iexact Ha5
  isplitl [HO]; · iexact HO
  iintro ⟨Hp5, Hz5, HO⟩
  iapply (wp_waitP X K c 6 k (src := sO (qprev (qi c)) k) (dst := sO (qprev (qi c)) k) (creditO (qprev (qi c)) k) (.zero _))
  isplitr; · iexact HE
  isplitl [Hc6]; · iexact Hc6
  isplitl [Ha6]; · iexact Ha6
  isplitl [HO]; · iexact HO
  iintro ⟨Hp6, Hz6, HO⟩
  iapply Hk
  isplitr; · iempintro
  isplitl [Hp4 Hz4 Hp5 Hz5 Hp6 Hz6]
  · isplitl [Hp4 Hz4]
    · isplitl [Hp4]; · iexact Hp4
      iexact Hz4
    isplitl [Hp5 Hz5]
    · isplitl [Hp5]; · iexact Hp5
      iexact Hz5
    isplitl [Hp6]; · iexact Hp6
    iexact Hz6
  iexact HO

/-! ## The stages' seams, chunk by chunk -/

theorem seam_chunk (c : Dev nD) (k : Fin 4) :
    iprop((chunkTok (F := F) c k ∗ ptE (F := F) c (sO (qi c) k)) ∗ barK (F := F) c 1 k ∗ barK (F := F) c 2 k) ⊢ chunkPre (F := F) c k := by
  unfold chunkPre
  iintro ⟨⟨H0, H1⟩, H2, H3⟩
  isplitl [H0]; · iexact H0
  isplitl [H1]; · iexact H1
  isplitl [H2] <;> iassumption

theorem seam_end (c : Dev nD) (k : Fin 4) :
    endTok (F := F) c k ⊢ iprop((cred (tallyAt (cell c 8 k) () N) ∗ atPos ER (cell c 8 k) 0 ∅ 0)
      ∗ (cred (tallyAt (cell c 9 k) () N) ∗ atPos ER (cell c 9 k) 0 ∅ 0)
      ∗ (atPos ER (cell c 0 k) 0 ∅ 0 ∗ atPos ER (cell c 1 k) 0 ∅ 0)
      ∗ (atPos ER (cell c 4 k) 0 ∅ 0 ∗ atPos ER (cell c 5 k) 0 ∅ 0 ∗ atPos ER (cell c 6 k) 0 ∅ 0)) := by
  unfold endTok; exact Entails.refl _

theorem seam_fin (c : Dev nD) (k : Fin 4) :
    iprop(((ptS c (sK mKr k) fullShare (X.k (px c)) ∗ ptS c (sK mVr k) fullShare (X.v (px c)))
        ∗ (semVal (cell c 2 k) 0 ∗ semVal (cell c 3 k) 0 ∗ semVal (cell c 7 k) 0))
      ∗ (payT X c 8 k ∗ semVal (cell c 8 k) 0) ∗ (payT X c 9 k ∗ semVal (cell c 9 k) 0)
      ∗ ((payT X c 0 k ∗ semVal (cell c 0 k) 0) ∗ payT X c 1 k ∗ semVal (cell c 1 k) 0)
      ∗ ((payT X c 4 k ∗ semVal (cell c 4 k) 0) ∗ (payT X c 5 k ∗ semVal (cell c 5 k) 0) ∗ payT X c 6 k ∗ semVal (cell c 6 k) 0))
      ⊢ iprop(finMem X c k ∗ finSem (F := F) c k) := by
  unfold finMem finSem payT
  dsimp only
  iintro ⟨⟨⟨H2, H3⟩, Z2, Z3, Z7⟩, ⟨H8, Z8⟩, ⟨H9, Z9⟩, ⟨⟨H0, Z0⟩, H1, Z1⟩, ⟨H4, Z4⟩, ⟨H5, Z5⟩, H6, Z6⟩
  ihave Ho := (pointsTo_share (PosShare.mem_left_op_right fullShare)).2 $$ [H4 H5]
  · isplitl [H4]; · iexact H4
    iexact H5
  isplitl [H0 H1 H2 H3 Ho H6 H8 H9]
  · isplitl [H0 H1]
    · isplitl [H0]; · iexact H0
      iexact H1
    isplitl [H2 H3]
    · isplitl [H2]; · iexact H2
      iexact H3
    isplitl [Ho]; · iexact Ho
    isplitl [H6]; · iexact H6
    isplitl [H8]; · iexact H8
    iexact H9
  isplitl [Z0]; · iexact Z0
  isplitl [Z1]; · iexact Z1
  isplitl [Z2]; · iexact Z2
  isplitl [Z3]; · iexact Z3
  isplitl [Z4]; · iexact Z4
  isplitl [Z5]; · iexact Z5
  isplitl [Z6]; · iexact Z6
  isplitl [Z7]; · iexact Z7
  isplitl [Z8]; · iexact Z8
  iexact Z9

theorem seam_fins (c : Dev nD) :
    bigSep Finset.univ (fun k => iprop(((ptS c (sK mKr k) fullShare (X.k (px c)) ∗ ptS c (sK mVr k) fullShare (X.v (px c)))
        ∗ (semVal (cell c 2 k) 0 ∗ semVal (cell c 3 k) 0 ∗ semVal (cell c 7 k) 0))
      ∗ (payT X c 8 k ∗ semVal (cell c 8 k) 0) ∗ (payT X c 9 k ∗ semVal (cell c 9 k) 0)
      ∗ ((payT X c 0 k ∗ semVal (cell c 0 k) 0) ∗ payT X c 1 k ∗ semVal (cell c 1 k) 0)
      ∗ ((payT X c 4 k ∗ semVal (cell c 4 k) 0) ∗ (payT X c 5 k ∗ semVal (cell c 5 k) 0) ∗ payT X c 6 k ∗ semVal (cell c 6 k) 0)))
      ⊢ iprop(bigSep Finset.univ (fun k => finMem X c k) ∗ bigSep Finset.univ fun k => finSem (F := F) c k) := by
  rw [← bigSep_sep']
  exact bigSep_mono fun k _ => seam_fin X c k

theorem seam_chunks (c : Dev nD) :
    iprop(bigSep Finset.univ (fun k => iprop(chunkTok (F := F) c k ∗ ptE (F := F) c (sO (qi c) k)))
        ∗ bigSep Finset.univ (fun k => barK (F := F) c 1 k) ∗ bigSep Finset.univ (fun k => barK (F := F) c 2 k))
      ⊢ bigSep Finset.univ (fun k => chunkPre (F := F) c k) := by
  rw [← bigSep_sep' (Φ := fun k => barK (F := F) c 1 k), ← bigSep_sep']
  exact bigSep_mono fun k _ => seam_chunk (F := F) c k

theorem seam_ends (c : Dev nD) :
    bigSep Finset.univ (fun k => endTok (F := F) c k) ⊢ bigSep Finset.univ fun k =>
      iprop((cred (tallyAt (cell c 8 k) () N) ∗ atPos ER (cell c 8 k) 0 ∅ 0)
        ∗ (cred (tallyAt (cell c 9 k) () N) ∗ atPos ER (cell c 9 k) 0 ∅ 0)
        ∗ (atPos ER (cell c 0 k) 0 ∅ 0 ∗ atPos ER (cell c 1 k) 0 ∅ 0)
        ∗ (atPos ER (cell c 4 k) 0 ∅ 0 ∗ atPos ER (cell c 5 k) 0 ∅ 0 ∗ atPos ER (cell c 6 k) 0 ∅ 0)) :=
  bigSep_mono fun k _ => seam_end (F := F) c k

/-! ## The body -/

/-- What the body starts from besides the invariants and the marks: the buffers and the tokens. -/
def mainPre (c : Dev nD) : sProp 𝕄 :=
  iprop(base X c ∗ bigSep Finset.univ (fun k => xferPre X c k)
    ∗ bigSep Finset.univ (fun k => iprop(chunkTok (F := F) c k ∗ ptE (F := F) c (sO (qi c) k)))
    ∗ bigSep Finset.univ (fun k => endTok (F := F) c k) ∗ bigSep Finset.univ (fun k => memK (F := F) c k) ∗ barTok (F := F) c)

/-- The body, from its buffers and tokens and the dues of the launch, to the buffers with what was computed and received,
    every cell's counter at zero, owing nothing. -/
theorem wp_mainP (K : Key → ℕ) (c : Dev nD) {Q : PUnit → sProp 𝕄} :
    iprop(env X K ∗ barRch (F := F) c ∗ bigSep Finset.univ (fun k => rch (F := F) c k) ∗ mainPre X c ∗ dues c (O₀ c)
        ∗ (base X c ∗ (bigSep Finset.univ (fun k => finMem X c k) ∗ bigSep Finset.univ fun k => finSem (F := F) c k) ∗ semVal (barCell c) 0 ∗ dues c 0 -∗ Q ⟨⟩))
      ⊢ wp frame (wpE (defs₀ (F := F)) 𝒱₀ (c : Thread nD τ) none) Set.univ (mainP c) Q := by
  rw [mainP_eq]
  simp only [wp_bind]
  unfold mainPre
  iintro ⟨#HE, #Hb, #Hr, ⟨HR, Hx, Ht, He, Hm, HB⟩, HO, Hk⟩
  iapply (wp_barP X K c)
  isplitr; · iexact HE
  isplitr; · iexact Hb
  isplitr; · iexact Hr
  isplitl [HO]; · iexact HO
  isplitl [HB]; · iexact HB
  isplitl [Hm]; · iexact Hm
  unfold barPay
  iintro ⟨H0, H1, H2, Hz, HO⟩
  iapply (wp_four X K c iprop(emp) (fun k => iprop(xferPre X c k ∗ barK (F := F) c 0 k))
    (fun k => iprop(cred (tallyAt (cell c 0 k) () N) ∗ cred (tallyAt (cell c 1 k) () N))) ![X0 c, X1 c, X2 c, X3 c, D0 c] _ (stage_xfer X K c))
  isplitr; · iexact HE
  isplitr; · iexact Hr
  isplitr; · iempintro
  isplitl [Hx H0]
  · rw [bigSep_sep']
    isplitl [Hx]; · iexact Hx
    iexact H0
  isplitl [HO]; · iexact HO
  iintro ⟨-, Hc, HO⟩
  iapply (wp_four X K c (base X c) (fun k => chunkPre (F := F) c k) (fun k => chunkPost X c k) ![D0 c, D1 c, D2 c, D3 c, 0] _ (stage_chunk X K c))
  isplitr; · iexact HE
  isplitr; · iexact Hr
  isplitl [HR]; · iexact HR
  isplitl [Ht H1 H2]
  · iapply (seam_chunks (F := F) c)
    isplitl [Ht]; · iexact Ht
    isplitl [H1]; · iexact H1
    iexact H2
  isplitl [HO]; · iexact HO
  iintro ⟨HR, Hp, HO⟩
  ihave He' := (seam_ends (F := F) c) $$ He
  simp only [bigSep_sep']
  icases He' with ⟨He8, He9, He01, He456⟩
  unfold chunkPost
  simp only [bigSep_sep']
  icases Hp with ⟨Hp23, Hc456, Hz237⟩
  iapply (wp_four X K c iprop(emp) (fun k => iprop(cred (tallyAt (cell c 8 k) () N) ∗ atPos ER (cell c 8 k) 0 ∅ 0))
    (fun k => iprop(payT X c 8 k ∗ semVal (cell c 8 k) 0)) (fun _ => 0) _ (stage_wait X K c 8 (qprev (qprev (qi c)))))
  isplitr; · iexact HE
  isplitr; · iexact Hr
  isplitr; · iempintro
  isplitl [He8]; · rw [bigSep_sep']; iexact He8
  isplitl [HO]; · iexact HO
  iintro ⟨-, H8, HO⟩
  iapply (wp_four X K c iprop(emp) (fun k => iprop(cred (tallyAt (cell c 9 k) () N) ∗ atPos ER (cell c 9 k) 0 ∅ 0))
    (fun k => iprop(payT X c 9 k ∗ semVal (cell c 9 k) 0)) (fun _ => 0) _ (stage_wait X K c 9 (qnext (qi c))))
  isplitr; · iexact HE
  isplitr; · iexact Hr
  isplitr; · iempintro
  isplitl [He9]; · rw [bigSep_sep']; iexact He9
  isplitl [HO]; · iexact HO
  iintro ⟨-, H9, HO⟩
  iapply (wp_four X K c iprop(emp) (fun k => iprop((cred (tallyAt (cell c 0 k) () N) ∗ cred (tallyAt (cell c 1 k) () N))
      ∗ atPos ER (cell c 0 k) 0 ∅ 0 ∗ atPos ER (cell c 1 k) 0 ∅ 0))
    (fun k => iprop((payT X c 0 k ∗ semVal (cell c 0 k) 0) ∗ payT X c 1 k ∗ semVal (cell c 1 k) 0)) (fun _ => 0) _ (stage_sent X K c))
  isplitr; · iexact HE
  isplitr; · iexact Hr
  isplitr; · iempintro
  isplitl [Hc He01]
  · simp only [bigSep_sep']
    isplitl [Hc]; · iexact Hc
    iexact He01
  isplitl [HO]; · iexact HO
  iintro ⟨-, H01, HO⟩
  iapply (wp_four X K c iprop(emp) (fun k => iprop((cred (tallyAt (cell c 4 k) () N) ∗ cred (tallyAt (cell c 5 k) () N) ∗ cred (tallyAt (cell c 6 k) () N))
      ∗ atPos ER (cell c 4 k) 0 ∅ 0 ∗ atPos ER (cell c 5 k) 0 ∅ 0 ∗ atPos ER (cell c 6 k) 0 ∅ 0))
    (fun k => iprop((payT X c 4 k ∗ semVal (cell c 4 k) 0) ∗ (payT X c 5 k ∗ semVal (cell c 5 k) 0) ∗ payT X c 6 k ∗ semVal (cell c 6 k) 0))
    (fun _ => 0) _ (stage_end X K c))
  isplitr; · iexact HE
  isplitr; · iexact Hr
  isplitr; · iempintro
  isplitl [Hc456 He456]
  · simp only [bigSep_sep']
    isplitl [Hc456]; · iexact Hc456
    iexact He456
  isplitl [HO]; · iexact HO
  iintro ⟨-, H456, HO⟩
  iapply Hk
  isplitl [HR]; · iexact HR
  isplitr [Hz HO]
  · iapply (seam_fins X c)
    simp only [bigSep_sep']
    isplitl [Hp23 Hz237]
    · isplitl [Hp23]; · iexact Hp23
      iexact Hz237
    isplitl [H8]; · iexact H8
    isplitl [H9]; · iexact H9
    isplitl [H01]; · iexact H01
    iexact H456
  isplitl [Hz]; · iexact Hz
  iexact HO

end Cert.KernelIdealProof
-- ==== Proof.KernelIdeal.Whole.lean ====
/-
  Whole buffers and their chunks: what the region hands the body, cut into the chunks the body's resources name, and back.
-/
module

public import proofs.«01_k».proof.Proof.KernelIdeal.Body
public import Idealize.ShloMosaic.Lib.Ring

@[expose] public section

set_option maxRecDepth 16384

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (pointsTo_blocks)

variable {F : FTy → Type} [FloatOps F]

local notation "𝕄" => MT nD τ sig Unit (Elt F) ℕ UU ℕ

variable (X : Ins F)

/-! ## The four chunks of sixteen heads -/

/-- A location every element of which lies in exactly one block is held whole exactly when its blocks are. -/
theorem pointsTo_parts {ℓ : Loc nD τ sig} {B : Type} [Fintype B] (I : B → Finset (Idx ℓ)) (h1 : ∀ b b' x, x ∈ I b → x ∈ I b' → b = b') (hx : ∀ x, ∃ b, x ∈ I b)
    (q : PosShare TreeShare) (f : Buf (Elt F) ℓ) : (ℓ ↦{q} f : sProp 𝕄) = bigSep Finset.univ fun b => ℓ ↦[I b]{q} f :=
  pointsTo_blocks I (fun b b' h => Finset.disjoint_left.mpr fun x hx hx' => h (h1 b b' x hx hx'))
    (Finset.eq_univ_of_forall fun x => Finset.mem_biUnion.mpr ((hx x).imp fun b hb => ⟨Finset.mem_univ _, hb⟩)) f

/-- A buffer whose four chunks are told apart by the head is held whole exactly when its chunks are. -/
theorem blocks_at {M : Memref sig .tc .vmem S16x64x256 .bf16} (c : Dev nD) (q : PosShare TreeShare) (g : M.view.ty.Idx → ℕ) (hg : ∀ x, g x < 16)
    (hm : ∀ (k : Fin 4) (x : M.view.ty.Idx), x ∈ ((sK M k).view.set : Finset M.view.ty.Idx) ↔ 4 * k.val ≤ g x ∧ g x < 4 * k.val + 4)
    (hu : M.view.set = Finset.univ) (f : Buf (Elt F) (M.view.loc (c : Thread nD τ))) :
    (ptS c M q f : sProp 𝕄) = bigSep Finset.univ fun k => ptS c (sK M k) q f := by
  have hx : ∀ x : M.view.ty.Idx, ∃ k : Fin 4, x ∈ ((sK M k).view.set : Finset M.view.ty.Idx) := fun x =>
    ⟨⟨g x / 4, Nat.div_lt_of_lt_mul (hg x)⟩, (hm _ x).mpr (by
      show 4 * (g x / 4) ≤ g x ∧ g x < 4 * (g x / 4) + 4; omega)⟩
  have hb := pointsTo_parts (ℓ := M.view.loc (c : Thread nD τ)) (fun k : Fin 4 => (sK M k).view.set)
    (fun k k' x hx hx' => by
      have h1 := (hm k x).mp hx
      have h2 := (hm k' x).mp hx'
      exact Fin.ext (by omega))
    hx q f
  unfold ptS
  rw [hu]
  exact hb

theorem mem_smK (k : Fin 4) (x : S16x64x256.Idx) : x ∈ (sK mK k).view.set ↔ 4 * k.val ≤ (x 0).val ∧ (x 0).val < 4 * k.val + 4 := by
  have h : (sK mK k).view.set = (rK k).set := View.set_slice_whole _ _
  rw [h]; exact mem_rK x
theorem blocks_mK (c : Dev nD) (q : PosShare TreeShare) (f : CK F) :
    (ptS c mK q f : sProp 𝕄) = bigSep Finset.univ fun k => ptS c (sK mK k) q f :=
  blocks_at (M := mK) c q (fun x : S16x64x256.Idx => (x 0).val) (fun x => (x 0).isLt) mem_smK (View.set_whole _) f
theorem mem_smV (k : Fin 4) (x : S16x64x256.Idx) : x ∈ (sK mV k).view.set ↔ 4 * k.val ≤ (x 0).val ∧ (x 0).val < 4 * k.val + 4 := by
  have h : (sK mV k).view.set = (rK k).set := View.set_slice_whole _ _
  rw [h]; exact mem_rK x
theorem blocks_mV (c : Dev nD) (q : PosShare TreeShare) (f : CK F) :
    (ptS c mV q f : sProp 𝕄) = bigSep Finset.univ fun k => ptS c (sK mV k) q f :=
  blocks_at (M := mV) c q (fun x : S16x64x256.Idx => (x 0).val) (fun x => (x 0).isLt) mem_smV (View.set_whole _) f
theorem mem_smKr (k : Fin 4) (x : S16x64x256.Idx) : x ∈ (sK mKr k).view.set ↔ 4 * k.val ≤ (x 0).val ∧ (x 0).val < 4 * k.val + 4 := by
  have h : (sK mKr k).view.set = (rK k).set := View.set_slice_whole _ _
  rw [h]; exact mem_rK x
theorem blocks_mKr (c : Dev nD) (q : PosShare TreeShare) (f : CK F) :
    (ptS c mKr q f : sProp 𝕄) = bigSep Finset.univ fun k => ptS c (sK mKr k) q f :=
  blocks_at (M := mKr) c q (fun x : S16x64x256.Idx => (x 0).val) (fun x => (x 0).isLt) mem_smKr (View.set_whole _) f
theorem mem_smVr (k : Fin 4) (x : S16x64x256.Idx) : x ∈ (sK mVr k).view.set ↔ 4 * k.val ≤ (x 0).val ∧ (x 0).val < 4 * k.val + 4 := by
  have h : (sK mVr k).view.set = (rK k).set := View.set_slice_whole _ _
  rw [h]; exact mem_rK x
theorem blocks_mVr (c : Dev nD) (q : PosShare TreeShare) (f : CK F) :
    (ptS c mVr q f : sProp 𝕄) = bigSep Finset.univ fun k => ptS c (sK mVr k) q f :=
  blocks_at (M := mVr) c q (fun x : S16x64x256.Idx => (x 0).val) (fun x => (x 0).isLt) mem_smVr (View.set_whole _) f

/-! ## The output's four quarters of four chunks -/

/-- The quarters in the order a device of quarter `q` deals with them: its own, its left neighbour's, the one forwarded to it, its
    right neighbour's. -/
def quart (q : Fin 4) : Fin 4 → Fin 4 := fun | 0 => q | 1 => qprev q | 2 => qprev (qprev q) | 3 => qnext q
theorem quart_inj : ∀ q d d' : Fin 4, quart q d = quart q d' → d = d' := by decide
theorem quart_surj : ∀ q q' : Fin 4, ∃ d, quart q d = q' := by decide

theorem exists_quart (q : Fin 4) (x : S64x64x256.Idx) : ∃ b : Fin 4 × Fin 4, x ∈ (sO (quart q b.1) b.2).view.set := by
  have hx : (x 0).val < 64 := (x 0).isLt
  obtain ⟨d, hd⟩ := quart_surj q ⟨(x 0).val / 16, by omega⟩
  refine ⟨(d, ⟨(x 0).val % 16 / 4, by omega⟩), (mem_sO _ _ x).mpr ?_⟩
  dsimp only
  rw [hd]
  show 16 * ((x 0).val / 16) + 4 * ((x 0).val % 16 / 4) ≤ (x 0).val ∧ (x 0).val < 16 * ((x 0).val / 16) + 4 * ((x 0).val % 16 / 4) + 4
  omega
theorem quart_unique (q : Fin 4) (b b' : Fin 4 × Fin 4) (x : S64x64x256.Idx) (hx : x ∈ (sO (quart q b.1) b.2).view.set)
    (hx' : x ∈ (sO (quart q b'.1) b'.2).view.set) : b = b' := by
  have h1 := (mem_sO _ _ x).mp hx
  have h2 := (mem_sO _ _ x).mp hx'
  have k1 := b.2.isLt; have k2 := b'.2.isLt
  exact Prod.ext (quart_inj q _ _ (Fin.ext (by omega))) (Fin.ext (by omega))

theorem blocks_quart (c : Dev nD) (q : PosShare TreeShare) (f : CO F) :
    (ptS c mO q f : sProp 𝕄) = bigSep Finset.univ fun b : Fin 4 × Fin 4 => ptS c (sO (quart (qi c) b.1) b.2) q f := by
  have hb := pointsTo_parts (ℓ := mO.view.loc (c : Thread nD τ)) (fun b : Fin 4 × Fin 4 => (sO (quart (qi c) b.1) b.2).view.set)
    (quart_unique (qi c)) (exists_quart (qi c)) q f
  have hu : mO.view.set = Finset.univ := View.set_whole _
  unfold ptS
  rw [hu]
  exact hb

theorem blocks_mO (c : Dev nD) (q : PosShare TreeShare) (f : CO F) :
    (ptS c mO q f : sProp 𝕄) = iprop(bigSep Finset.univ (fun k => ptS c (sO (qi c) k) q f) ∗ bigSep Finset.univ (fun k => ptS c (sO (qprev (qi c)) k) q f)
      ∗ bigSep Finset.univ (fun k => ptS c (sO (qprev (qprev (qi c))) k) q f) ∗ bigSep Finset.univ fun k => ptS c (sO (qnext (qi c)) k) q f) := by
  rw [blocks_quart, bigSep_univ_prod, bigSep_four]
  rfl

/-! ## The body from whole buffers to whole buffers -/

/-- The transfer's duties of a chunk. -/
def xferTok (c : Dev nD) (k : Fin 4) : sProp 𝕄 :=
  iprop(dutyTok ER (cell c 0 k) 0 0 ∗ dutyTok ER (cell (px c) 2 k) 0 0 ∗ dutyTok ER (cell c 1 k) 0 0 ∗ dutyTok ER (cell (px c) 3 k) 0 0)

theorem xfer_intro (c : Dev nD) :
    iprop(bigSep Finset.univ (fun k => ptS c (sK mK k) fullShare.right (X.k c)) ∗ bigSep Finset.univ (fun k => ptS c (sK mV k) fullShare.right (X.v c))
        ∗ bigSep Finset.univ (fun k => xferTok (F := F) c k)) ⊢ bigSep Finset.univ fun k => xferPre X c k := by
  rw [← bigSep_sep', ← bigSep_sep']
  exact bigSep_mono fun k _ => by unfold xferPre xferTok; exact Entails.refl _

theorem bigSep_ptE {s : Shape} {e : EltTy} (c : Dev nD) (M : Fin 4 → Memref sig .tc .vmem s e) (f : ∀ k, Buf (Elt F) ((M k).view.loc (c : Thread nD τ))) :
    bigSep Finset.univ (fun k => ptS c (M k) fullShare (f k)) ⊢ (bigSep Finset.univ fun k => ptE (F := F) c (M k) : sProp 𝕄) :=
  bigSep_mono fun k _ => by
    unfold ptE
    show _ ⊢ (iprop(∃ f, ptS (F := F) c (M k) fullShare f) : sProp 𝕄)
    iintro H; iexists (f k); iexact H

theorem memK_intro (c : Dev nD) :
    iprop(bigSep Finset.univ (fun k => ptE (F := F) c (sK mKr k)) ∗ bigSep Finset.univ (fun k => ptE (F := F) c (sK mVr k))
      ∗ bigSep Finset.univ (fun k => ptE (F := F) c (sO (qprev (qi c)) k)) ∗ bigSep Finset.univ (fun k => ptE (F := F) c (sO (qprev (qprev (qi c))) k))
      ∗ bigSep Finset.univ (fun k => ptE (F := F) c (sO (qnext (qi c)) k))) ⊢ (bigSep Finset.univ fun k => memK (F := F) c k : sProp 𝕄) := by
  rw [← bigSep_sep', ← bigSep_sep', ← bigSep_sep', ← bigSep_sep']
  exact bigSep_mono fun k _ => by unfold memK; exact Entails.refl _

/-- The tokens of the body. -/
def tokens (c : Dev nD) : sProp 𝕄 :=
  iprop(bigSep Finset.univ (fun k => xferTok (F := F) c k) ∗ bigSep Finset.univ (fun k => chunkTok (F := F) c k)
    ∗ bigSep Finset.univ (fun k => endTok (F := F) c k) ∗ barTok (F := F) c)

/-- The buffers the region hands over. -/
def wholes (c : Dev nD) : sProp 𝕄 :=
  iprop(ptS c mQ fullShare (X.q c) ∗ ptS c mK fullShare (X.k c) ∗ ptS c mV fullShare (X.v c) ∗ ptE (F := F) c mO ∗ ptE (F := F) c mKr ∗ ptE (F := F) c mVr)

theorem mainPre_intro (c : Dev nD) : iprop(wholes X c ∗ tokens (F := F) c) ⊢ mainPre X c := by
  unfold wholes tokens mainPre base
  iintro ⟨⟨HQ, HK, HV, HO, HKr, HVr⟩, Hx, Ht, He, Hb⟩
  unfold ptE
  icases HO with ⟨%fO, HO⟩
  icases HKr with ⟨%fK, HKr⟩
  icases HVr with ⟨%fV, HVr⟩
  ihave HK2 := (pointsTo_share (PosShare.mem_left_op_right fullShare)).1 $$ HK
  icases HK2 with ⟨HKl, HK⟩
  ihave HV2 := (pointsTo_share (PosShare.mem_left_op_right fullShare)).1 $$ HV
  icases HV2 with ⟨HVl, HV⟩
  ihave HK := (Entails.of_eq (blocks_mK c fullShare.right (X.k c))) $$ HK
  ihave HV := (Entails.of_eq (blocks_mV c fullShare.right (X.v c))) $$ HV
  ihave HKr := (Entails.of_eq (blocks_mKr c fullShare fK)) $$ HKr
  ihave HVr := (Entails.of_eq (blocks_mVr c fullShare fV)) $$ HVr
  ihave HO := (Entails.of_eq (blocks_mO c fullShare fO)) $$ HO
  icases HO with ⟨HO0, HO1, HO2, HO3⟩
  isplitl [HQ HKl HVl]
  · isplitl [HQ]; · iexact HQ
    isplitl [HKl]; · iexact HKl
    iexact HVl
  isplitl [HK HV Hx]
  · iapply (xfer_intro X c)
    isplitl [HK]; · iexact HK
    isplitl [HV]; · iexact HV
    iexact Hx
  isplitl [Ht HO0]
  · iapply (Entails.of_eq (bigSep_sep' Finset.univ (fun k => chunkTok (F := F) c k) (fun k => ptE (F := F) c (sO (qi c) k))).symm)
    isplitl [Ht]; · iexact Ht
    iapply (bigSep_ptE c (fun k => sO (qi c) k) fun _ => fO)
    iexact HO0
  isplitl [He]; · iexact He
  isplitr [Hb]
  · iapply (memK_intro c)
    isplitl [HKr]; · iapply (bigSep_ptE c (fun k => sK mKr k) fun _ => fK); iexact HKr
    isplitl [HVr]; · iapply (bigSep_ptE c (fun k => sK mVr k) fun _ => fV); iexact HVr
    isplitl [HO1]; · iapply (bigSep_ptE c (fun k => sO (qprev (qi c)) k) fun _ => fO); iexact HO1
    isplitl [HO2]; · iapply (bigSep_ptE c (fun k => sO (qprev (qprev (qi c))) k) fun _ => fO); iexact HO2
    iapply (bigSep_ptE c (fun k => sO (qnext (qi c)) k) fun _ => fO); iexact HO3
  iexact Hb

/-- The buffers the body leaves. -/
def wholesPost (c : Dev nD) : sProp 𝕄 :=
  iprop(ptS c mQ fullShare (X.q c) ∗ ptS c mK fullShare (X.k c) ∗ ptS c mV fullShare (X.v c) ∗ ptS c mO fullShare (res X c)
    ∗ ptE (F := F) c mKr ∗ ptE (F := F) c mVr)

theorem wholes_post (c : Dev nD) : iprop(base X c ∗ bigSep Finset.univ fun k => finMem X c k) ⊢ wholesPost X c := by
  unfold finMem base wholesPost
  simp only [bigSep_sep']
  iintro ⟨⟨HQ, HKl, HVl⟩, ⟨HK, HV⟩, ⟨HKr, HVr⟩, HO⟩
  ihave HK := (Entails.of_eq (blocks_mK c fullShare.right (X.k c)).symm) $$ HK
  ihave HV := (Entails.of_eq (blocks_mV c fullShare.right (X.v c)).symm) $$ HV
  ihave HKr := (Entails.of_eq (blocks_mKr c fullShare (X.k (px c))).symm) $$ HKr
  ihave HVr := (Entails.of_eq (blocks_mVr c fullShare (X.v (px c))).symm) $$ HVr
  ihave HO := (Entails.of_eq (blocks_mO c fullShare (res X c)).symm) $$ HO
  ihave HKK := (pointsTo_share (PosShare.mem_left_op_right fullShare)).2 $$ [HKl HK]
  · isplitl [HKl]; · iexact HKl
    iexact HK
  ihave HVV := (pointsTo_share (PosShare.mem_left_op_right fullShare)).2 $$ [HVl HV]
  · isplitl [HVl]; · iexact HVl
    iexact HV
  isplitl [HQ]; · iexact HQ
  isplitl [HKK]; · iexact HKK
  isplitl [HVV]; · iexact HVV
  isplitl [HO]; · iexact HO
  unfold ptE
  isplitl [HKr]; · iexists _; iexact HKr
  iexists _; iexact HVr

/-- The printed body, from whole buffers to whole buffers. -/
theorem wp_body (K : Key → ℕ) (c : Dev nD) {Q : PUnit → sProp 𝕄} :
    iprop(env X K ∗ barRch (F := F) c ∗ bigSep Finset.univ (fun k => rch (F := F) c k) ∗ wholes X c ∗ tokens (F := F) c ∗ dues c (O₀ c)
        ∗ (wholesPost X c ∗ (bigSep Finset.univ fun k => finSem (F := F) c k) ∗ semVal (barCell c) 0 ∗ dues c 0 -∗ Q ⟨⟩))
      ⊢ wp frame (wpE (defs₀ (F := F)) 𝒱₀ (c : Thread nD τ) none) Set.univ
        (cc0_body mQ (Memref.isWhole_whole _) mK (Memref.isWhole_whole _) mV (Memref.isWhole_whole _) mO (Memref.isWhole_whole _)
          mKr (Memref.isWhole_whole _) mVr (Memref.isWhole_whole _) cc0_scratch2 cc0_scratch3 cc0_scratch4 cc0_scratch5 cc0_scratch6 cc0_scratch7 cc0_scratch8 cc0_scratch9) Q := by
  rw [cc0_eq, show (Prog.lift .deviceId >>= mainP : Prog (TpuEff nD τ sig (Elt F) Λ₀ .tc) PUnit) = .op .deviceId mainP from rfl, wp_deviceId]
  iintro ⟨#HE, #Hb, #Hr, Hw, Ht, HO, Hk⟩
  iapply (wp_mainP X K c)
  isplitr; · iexact HE
  isplitr; · iexact Hb
  isplitr; · iexact Hr
  isplitl [Hw Ht]
  · iapply (mainPre_intro X c)
    isplitl [Hw]; · iexact Hw
    iexact Ht
  isplitl [HO]; · iexact HO
  iintro ⟨HR, ⟨Hm, Hs⟩, Hz, HO⟩
  iapply Hk
  isplitl [HR Hm]
  · iapply (wholes_post X c)
    isplitl [HR]; · iexact HR
    iexact Hm
  isplitl [Hs]; · iexact Hs
  isplitl [Hz]; · iexact Hz
  iexact HO

end Cert.KernelIdealProof
-- ==== Proof.KernelIdeal.Region.lean ====
/-
  The kernel's region: its proof data, the body's obligation, and the region's record.
-/
module

public import proofs.«01_k».proof.Proof.KernelIdeal.Whole
public import proofs.«01_k».proof.Proof.Gen.KernelIdeal.Launch
public import proofs.«01_k».proof.Proof.Gen.KernelIdeal.Regions
public import proofs.«01_k».proof.Proof.Gen.KernelIdeal.Points
public import Idealize.ShloMosaic.Lib.Pipeline.RegionTalk
public import Idealize.ShloMosaic.Lib.Pipeline.ValueKit
public import Idealize.ShloMosaic.Lib.Rounds.Family

@[expose] public section

set_option maxRecDepth 16384

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

local notation "𝕄" => MT nD τ sig Unit (Elt F) ℕ UU ℕ

variable (m : (ℓ : Loc nD τ sig) → Buf (Elt F) ℓ)

/-- What the host code leaves for the kernel on every device. -/
def ins : Ins F := ⟨fun c => V3 m c main_v28, fun c => V3 m c main_v31, fun c => V3 m c main_v34⟩

/-- The region's result. -/
def outs : Outs (F := F) := fun _ r c => if h : r = main_v35 then h ▸ res (ins m) c else m ((c : Thread nD τ).loc r)

/-! ## Positions and tokens of all cells at once -/

theorem bigSep_ten (Φ : Fin 10 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9) :=
  bigSep_univ_eq_bigSepL [0, 1, 2, 3, 4, 5, 6, 7, 8, 9] (by decide) (by decide) Φ

/-- The device that device `c`'s duty of kind `t` lands on. -/
def tgt (c : Dev nD) : Fin 10 → Dev nD := fun | 2 => px c | 3 => px c | 7 => right c | 8 => right c | 9 => left c | _ => c

def dTok (c : Dev nD) (k : Fin 4) : sProp 𝕄 := bigSep Finset.univ fun t : Fin 10 => dutyTok ER (cell (tgt c t) t k) 0 0
def aTok (c : Dev nD) (k : Fin 4) : sProp 𝕄 := bigSep Finset.univ fun t : Fin 10 => atPos ER (cell c t k) 0 ∅ 0
def cTok (c : Dev nD) (k : Fin 4) : sProp 𝕄 :=
  iprop(cred (tallyAt (cell c 2 k) () N) ∗ cred (tallyAt (cell c 3 k) () N) ∗ cred (tallyAt (cell c 7 k) () N) ∗ cred (tallyAt (cell c 8 k) () N)
    ∗ cred (tallyAt (cell c 9 k) () N))

theorem tok_split (c : Dev nD) (k : Fin 4) : iprop(dTok (F := F) c k ∗ aTok (F := F) c k ∗ cTok (F := F) c k)
    ⊢ iprop(xferTok (F := F) c k ∗ chunkTok (F := F) c k ∗ endTok (F := F) c k) := by
  unfold dTok aTok cTok xferTok chunkTok endTok
  rw [bigSep_ten, bigSep_ten]
  dsimp only [tgt]
  iintro ⟨⟨D0, D1, D2, D3, D4, D5, D6, D7, D8, D9⟩, ⟨A0, A1, A2, A3, A4, A5, A6, A7, A8, A9⟩, C2, C3, C7, C8, C9⟩
  isplitl [D0 D1 D2 D3]
  · isplitl [D0]; · iexact D0
    isplitl [D2]; · iexact D2
    isplitl [D1]; · iexact D1
    iexact D3
  isplitl [D4 D5 D6 D7 D8 D9 A2 A3 A7 C2 C3 C7]
  · isplitl [C2 A2]; · isplitl [C2] <;> iassumption
    isplitl [C3 A3]; · isplitl [C3] <;> iassumption
    isplitl [C7 A7]; · isplitl [C7] <;> iassumption
    isplitl [D4 D7]; · isplitl [D4] <;> iassumption
    isplitl [D5 D9]; · isplitl [D5] <;> iassumption
    isplitl [D6] <;> iassumption
  isplitl [C8 A8]; · isplitl [C8] <;> iassumption
  isplitl [C9 A9]; · isplitl [C9] <;> iassumption
  isplitl [A0 A1]; · isplitl [A0] <;> iassumption
  isplitl [A4]; · iexact A4
  isplitl [A5] <;> iassumption

theorem tok_splits (c : Dev nD) : iprop(bigSep Finset.univ (fun k => dTok (F := F) c k) ∗ bigSep Finset.univ (fun k => aTok (F := F) c k)
      ∗ bigSep Finset.univ (fun k => cTok (F := F) c k))
    ⊢ iprop(bigSep Finset.univ (fun k => xferTok (F := F) c k) ∗ bigSep Finset.univ (fun k => chunkTok (F := F) c k)
      ∗ bigSep Finset.univ (fun k => endTok (F := F) c k)) := by
  rw [← bigSep_sep', ← bigSep_sep', ← bigSep_sep', ← bigSep_sep']
  exact bigSep_mono fun k _ => tok_split c k

/-! ## The proof data -/

/-- The kernel's own counters: one of each kind for each chunk. -/
abbrev osem : Fin 4 × Fin 10 → SemLoc sig := fun kt => .dma (dsem kt.2 kt.1)

/-- What the launch keeps for the region: the cells' invariants, the cells not yet open, the duties and the credits. -/
def Tk (c : Dev nD) : sProp 𝕄 :=
  iprop((∃ K, invs (ins m) K) ∗ barRch (F := F) c ∗ bigSep Finset.univ (fun kt : Fin 4 × Fin 10 => openTok ER ((c : Thread nD τ), osem kt))
    ∗ bigSep Finset.univ (fun k => dTok (F := F) c k) ∗ bigSep Finset.univ (fun k => cTok (F := F) c k) ∗ barTok (F := F) c)
/-- The same with the cells open. -/
def Xk (c : Dev nD) : sProp 𝕄 :=
  iprop((∃ K, env (ins m) K) ∗ barRch (F := F) c ∗ bigSep Finset.univ (fun k => rch (F := F) c k) ∗ tokens (F := F) c)
def Yk (c : Dev nD) : sProp 𝕄 := semVal (barCell c) 0

/-- The two landing buffers. -/
def scr (c : Dev nD) : sProp 𝕄 := iprop(ptE (F := F) c mKr ∗ ptE (F := F) c mVr)

def dat (c : Dev nD) : Dat τ (Elt F) Unit ℕ UU ℕ cfg0 c where
  A w := V3 m c (Pipeline.arrRef spec0 w)
  after w _ := match w with
    | 0 => (ins m).q c
    | 1 => (ins m).k c
    | 2 => (ins m).v c
    | 3 => res (ins m) c
    | ⟨_ + 4, h⟩ => absurd h (Nat.not_lt.2 (Nat.le_add_left _ _))
  Φ t := if t.val = 0 then iprop(Xk m c ∗ scr (F := F) c ∗ ∃ r, prngReg c r)
    else iprop(Yk (F := F) c ∗ (bigSep Finset.univ fun k => finSem (F := F) c k) ∗ scr (F := F) c ∗ ∃ r, prngReg c r)
  q _ := fullShare
  owed t := if t.val = 0 then O₀ c else 0

def pdats : (p : Fin 1) → (c : Dev nD) → Dat τ (Elt F) Unit ℕ UU ℕ (cfgs p) c := fun _ => dat m

theorem owed_first (c : Dev nD) : (dat m c).owed t0_0.castSucc = O₀ c := by
  show (if (t0_0.castSucc : Fin (cfg0.N + 1)).val = 0 then O₀ c else 0) = O₀ c; exact if_pos rfl
theorem owed_last (c : Dev nD) : (dat m c).owed (Fin.last _) = 0 := by
  show (if (Fin.last cfg0.N).val = 0 then O₀ c else 0) = 0
  rw [Fin.val_last, if_neg (by rw [show cfg0.N = 1 from N_0]; decide)]
theorem Phi_first (c : Dev nD) : (dat m c).Φ t0_0.castSucc = iprop(Xk m c ∗ scr (F := F) c ∗ ∃ r, prngReg c r) := rfl
theorem Phi_last (c : Dev nD) : (dat m c).Φ t0_0.succ
    = iprop(Yk (F := F) c ∗ (bigSep Finset.univ fun k => finSem (F := F) c k) ∗ scr (F := F) c ∗ ∃ r, prngReg c r) := rfl

/-! ### The windows' blocks are the whole arrays -/

theorem emb0 (t : Fin cfg0.N) (y) : ((cfg0.win 0).blk t).view.emb y = (y : S16x256x64.Idx) := by
  funext a; apply Fin.ext; show 0 * _ + 1 * (y a).val = (y a).val; omega
theorem before0 (c : Dev nD) (t : Fin cfg0.N) (d) : (dat m c).before 0 t d = (ins m).q c := by
  rw [(dat m c).before_fetched 0 t (fetch0_0 t) d]
  funext y
  unfold Dat.fetched Pipeline.Window.fill
  rw [dif_pos (((cfg0.win 0).moved_iff _ y).mpr fun a => (y a).isLt)]
  exact congrArg ((ins m).q c) (emb0 t _)
theorem emb1 (t : Fin cfg0.N) (y) : ((cfg0.win 1).blk t).view.emb y = (y : S16x64x256.Idx) := by
  funext a; apply Fin.ext; show 0 * _ + 1 * (y a).val = (y a).val; omega
theorem before1 (c : Dev nD) (t : Fin cfg0.N) (d) : (dat m c).before 1 t d = (ins m).k c := by
  rw [(dat m c).before_fetched 1 t (fetch0_1 t) d]
  funext y
  unfold Dat.fetched Pipeline.Window.fill
  rw [dif_pos (((cfg0.win 1).moved_iff _ y).mpr fun a => (y a).isLt)]
  exact congrArg ((ins m).k c) (emb1 t _)
theorem emb2 (t : Fin cfg0.N) (y) : ((cfg0.win 2).blk t).view.emb y = (y : S16x64x256.Idx) := by
  funext a; apply Fin.ext; show 0 * _ + 1 * (y a).val = (y a).val; omega
theorem before2 (c : Dev nD) (t : Fin cfg0.N) (d) : (dat m c).before 2 t d = (ins m).v c := by
  rw [(dat m c).before_fetched 2 t (fetch0_2 t) d]
  funext y
  unfold Dat.fetched Pipeline.Window.fill
  rw [dif_pos (((cfg0.win 2).moved_iff _ y).mpr fun a => (y a).isLt)]
  exact congrArg ((ins m).v c) (emb2 t _)
theorem emb3 (t : Fin cfg0.N) (y) : ((cfg0.win 3).blk t).view.emb y = (y : S64x64x256.Idx) := by
  funext a; apply Fin.ext; show 0 * _ + 1 * (y a).val = (y a).val; omega
theorem flushed3 (c : Dev nD) (t : Fin cfg0.N) : (dat m c).flushed 3 t = ((cfg0.win 3).blk t).view.read (Elt F) (res (ins m) c) := by
  funext y
  exact (congrArg (res (ins m) c) (emb3 t y)).symm
theorem arr3 (c : Dev nD) : (dat m c).arrAt 3 cfg0.N = res (ins m) c :=
  (dat m c).arrAt_eq_of_cover 3 (res (ins m) c) (fun t _ => flushed3 m c t) fun i =>
    ⟨t0_0, flush0_3 t0_0, Finset.mem_map.mpr ⟨i, Finset.mem_univ _, emb3 t0_0 i⟩⟩

/-! ## The body's obligation -/

theorem mQ_elim (c : Dev nD) (f : CQ F) : (owns (c : Thread nD τ) mQ fullShare f : sProp 𝕄) ⊢ ptS c mQ fullShare f := by
  unfold owns
  iintro ⟨%g, %hg, H⟩
  have e : g = f := hg
  subst e
  iexact H
theorem mQ_intro (c : Dev nD) (f : CQ F) : ptS c mQ fullShare f ⊢ (owns (c : Thread nD τ) mQ fullShare f : sProp 𝕄) := by
  unfold owns
  iintro H
  iexists f
  isplitr; · ipureintro; rfl
  iexact H
theorem mK_elim (c : Dev nD) (f : CK F) : (owns (c : Thread nD τ) mK fullShare f : sProp 𝕄) ⊢ ptS c mK fullShare f := by
  unfold owns
  iintro ⟨%g, %hg, H⟩
  have e : g = f := hg
  subst e
  iexact H
theorem mK_intro (c : Dev nD) (f : CK F) : ptS c mK fullShare f ⊢ (owns (c : Thread nD τ) mK fullShare f : sProp 𝕄) := by
  unfold owns
  iintro H
  iexists f
  isplitr; · ipureintro; rfl
  iexact H
theorem mV_elim (c : Dev nD) (f : CK F) : (owns (c : Thread nD τ) mV fullShare f : sProp 𝕄) ⊢ ptS c mV fullShare f := by
  unfold owns
  iintro ⟨%g, %hg, H⟩
  have e : g = f := hg
  subst e
  iexact H
theorem mV_intro (c : Dev nD) (f : CK F) : ptS c mV fullShare f ⊢ (owns (c : Thread nD τ) mV fullShare f : sProp 𝕄) := by
  unfold owns
  iintro H
  iexists f
  isplitr; · ipureintro; rfl
  iexact H
theorem mO_elim (c : Dev nD) (f : CO F) : (owns (c : Thread nD τ) mO fullShare f : sProp 𝕄) ⊢ ptS c mO fullShare f := by
  unfold owns
  iintro ⟨%g, %hg, H⟩
  have e : g = f := hg
  subst e
  iexact H
theorem mO_intro (c : Dev nD) (f : CO F) : ptS c mO fullShare f ⊢ (owns (c : Thread nD τ) mO fullShare f : sProp 𝕄) := by
  unfold owns
  iintro H
  iexists f
  isplitr; · ipureintro; rfl
  iexact H

theorem owesAt_intro (c : Dev nD) (t : Fin (cfg0.N + 1)) (O : CellTallies nD τ sig Unit) (h0 : (dat m c).owed t = O) :
    dues (F := F) c O ⊢ ((dat m c).owesAt () t : sProp 𝕄) := by
  unfold dues Dat.owesAt Pipeline.owesWithin Dat.bound; rw [h0]
  iintro ⟨%W, HO⟩; iexists W; isplitr; · ipureintro; exact fun _ _ => Or.inl trivial
  iexact HO
theorem owesAt_elim (c : Dev nD) (t : Fin (cfg0.N + 1)) (O : CellTallies nD τ sig Unit) (h0 : (dat m c).owed t = O) :
    ((dat m c).owesAt () t : sProp 𝕄) ⊢ dues (F := F) c O := by
  unfold dues Dat.owesAt Pipeline.owesWithin; rw [h0]
  iintro ⟨%W, -, HO⟩; iexists W; iexact HO

theorem body (c : Dev nD) : BodyObligation (dat m c) defs₀ 𝒱₀ () Set.univ := fun t => by
  obtain rfl := fin_N0 t
  rw [bigSep_W0, bigSep_W0, Phi_first, Phi_last]
  simp only [before0, before1, before2]
  unfold Xk Yk scr
  iintro ⟨⟨⟨⟨%K, #HE⟩, #HB, #HR, Ht⟩, ⟨Hk, Hv⟩, Hp⟩, HO, ⟨%d0, H0⟩, ⟨%d1, H1⟩, ⟨%d2, H2⟩, ⟨%d3, H3⟩⟩
  ihave HO := (owesAt_elim m c _ (O₀ c) (owed_first m c)) $$ HO
  ihave H0 := (mQ_elim c ((ins m).q c)) $$ H0
  ihave H1 := (mK_elim c ((ins m).k c)) $$ H1
  ihave H2 := (mV_elim c ((ins m).v c)) $$ H2
  ihave H3 := (mO_elim c ((dat m c).before 3 t0_0 d3)) $$ H3
  iapply (wp_body (ins m) K c)
  isplitr; · iexact HE
  isplitr; · iexact HB
  isplitr; · iexact HR
  isplitl [H0 H1 H2 H3 Hk Hv]
  · unfold wholes
    isplitl [H0]; · iexact H0
    isplitl [H1]; · iexact H1
    isplitl [H2]; · iexact H2
    isplitl [H3]; · unfold ptE; iexists _; iexact H3
    isplitl [Hk] <;> iassumption
  isplitl [Ht]; · iexact Ht
  isplitl [HO]; · iexact HO
  unfold wholesPost
  iintro ⟨⟨H0, H1, H2, H3, Hk, Hv⟩, Hs, Hz, HO⟩
  isplitl [Hz Hs Hk Hv Hp]
  · isplitl [Hz]; · iexact Hz
    isplitl [Hs]; · iexact Hs
    isplitl [Hk Hv]; · isplitl [Hk] <;> iassumption
    iexact Hp
  isplitl [HO]; · iapply (owesAt_intro m c t0_0.succ 0 (owed_last m c)); iexact HO
  isplitl [H0]; · iapply (mQ_intro c ((ins m).q c)); iexact H0
  isplitl [H1]; · iapply (mK_intro c ((ins m).k c)); iexact H1
  isplitl [H2]; · iapply (mV_intro c ((ins m).v c)); iexact H2
  iapply (mO_intro c (res (ins m) c)); iexact H3

end Cert.KernelIdealProof
-- ==== Proof.KernelIdeal.Record.lean ====
/-
  The record of the kernel's region: entered from what the launch kept for it, left with the result in its array and every
  counter at zero.
-/
module

public import proofs.«01_k».proof.Proof.KernelIdeal.Region

@[expose] public section

set_option maxRecDepth 16384

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

local notation "𝕄" => MT nD τ sig Unit (Elt F) ℕ UU ℕ

variable (m : (ℓ : Loc nD τ sig) → Buf (Elt F) ℓ)

theorem osem_facts : Pipeline.OwnSemFacts spec0 osem := by decide +kernel

/-! ## Opening the cells -/

theorem open_invs (K : Key → ℕ) (c : Dev nD) :
    iprop(invs (ins m) K ∗ bigSep Finset.univ (fun kt : Fin 4 × Fin 10 => openTok ER ((c : Thread nD τ), osem kt)))
      ⊢ (bigSep Finset.univ fun kt : Fin 4 × Fin 10 =>
          iprop(cellInv ER (rd (ins m)) (K (c, some (kt.2, kt.1))) ((c : Thread nD τ), osem kt) ∗ openTok ER ((c : Thread nD τ), osem kt)) : sProp 𝕄) :=
  bigSep_with_persistent fun kt _ => by
    iintro ⟨#H, Ho⟩
    isplitr
    · iapply (invs_cell (ins m) K c kt.2 kt.1); iexact H
    iexact Ho

theorem opened_split (c : Dev nD) :
    (bigSep Finset.univ fun kt : Fin 4 × Fin 10 => iprop(atPos ER ((c : Thread nD τ), osem kt) 0 ∅ 0 ∗ reached ER ((c : Thread nD τ), osem kt) 0) : sProp 𝕄)
      ⊢ iprop(bigSep Finset.univ (fun k => aTok (F := F) c k) ∗ bigSep Finset.univ (fun k => rch (F := F) c k)) := by
  rw [bigSep_sep', bigSep_univ_prod, bigSep_univ_prod]
  exact Entails.refl _

theorem hopen (c : Dev nD) : iprop(Tk m c ∗ Pipeline.ownSems0 osem c ∗ levAts L lv) ⊢ (|={Set.univ}=> Xk m c : sProp 𝕄) := by
  unfold Tk Xk Pipeline.ownSems0
  iintro ⟨⟨⟨%K, #HI⟩, #HB, Ho, Hd, Hc, Hb⟩, Hs, #HL⟩
  ihave Hio := (open_invs m K c) $$ [Ho]
  · isplitr; · iexact HI
    iexact Ho
  imod (Rounds.cells_open ER (rd (ins m)) Finset.univ (fun kt : Fin 4 × Fin 10 => ((c : Thread nD τ), osem kt))
    (fun kt => K (c, some (kt.2, kt.1))) (fun _ _ => Set.mem_univ _)) $$ [Hio Hs] with Hat
  · isplitl [Hio]; · iexact Hio
    iexact Hs
  ihave Hat := (opened_split c) $$ Hat
  icases Hat with ⟨Ha, #Hr⟩
  ihave Ht := (tok_splits c) $$ [Hd Ha Hc]
  · isplitl [Hd]; · iexact Hd
    isplitl [Ha]; · iexact Ha
    iexact Hc
  icases Ht with ⟨H1, H2, H3⟩
  imodintro
  isplitr
  · iexists K; unfold env
    isplitr; · iexact HI
    iexact HL
  isplitr; · iexact HB
  isplitr; · iexact Hr
  unfold tokens
  isplitl [H1]; · iexact H1
  isplitl [H2]; · iexact H2
  isplitl [H3]; · iexact H3
  iexact Hb

/-! ## Entering and leaving -/

theorem scr_eq (c : Dev nD) : (Pipeline.scopedRest (Ix := Unit) (Name := ℕ) (U := UU) (Lvl := ℕ) (Val := Elt F) spec0 c : sProp 𝕄) = scr (F := F) c := by
  have hK : mKr.view.set = Finset.univ := View.set_whole _
  have hV : mVr.view.set = Finset.univ := View.set_whole _
  rw [scopedRest0_eq]
  unfold scr ptE ptS
  rw [hK, hV]

theorem hin (c : Dev nD) : iprop(Pipeline.scopedRest spec0 c ∗ (∃ r, prngReg c r) ∗ StableHlo.held (c : Thread nD τ) ∅ (V3 m c) ∗ Xk m c)
    ⊢ (dat m c).Φ 0 := by
  rw [show (dat m c).Φ 0 = iprop(Xk m c ∗ scr (F := F) c ∗ ∃ r, prngReg c r) from rfl, scr_eq]
  iintro ⟨Hs, Hp, -, HX⟩
  isplitl [HX]; · iexact HX
  isplitl [Hs]; · iexact Hs
  iexact Hp

theorem sems_back (c : Dev nD) : (bigSep Finset.univ fun k => finSem (F := F) c k) ⊢ (Pipeline.ownSems0 osem c : sProp 𝕄) := by
  unfold Pipeline.ownSems0
  rw [bigSep_univ_prod]
  exact bigSep_mono fun k _ => by
    rw [bigSep_ten]; exact Entails.refl _

theorem hout (c : Dev nD) : (dat m c).Φ (Fin.last cfg0.N)
    ⊢ iprop(Pipeline.scopedRest spec0 c ∗ (∃ r, prngReg c r) ∗ StableHlo.held (c : Thread nD τ) ∅ (V4 m (outs m) c) ∗ Pipeline.ownSems0 osem c ∗ Yk (F := F) c) := by
  rw [show (dat m c).Φ (Fin.last cfg0.N) = iprop(Yk (F := F) c ∗ (bigSep Finset.univ fun k => finSem (F := F) c k) ∗ scr (F := F) c ∗ ∃ r, prngReg c r)
    from rfl, scr_eq]
  iintro ⟨HY, Hs, Hr, Hp⟩
  isplitl [Hr]; · iexact Hr
  isplitl [Hp]; · iexact Hp
  isplitr
  · unfold StableHlo.held; rw [bigSep_empty]; iempintro
  isplitl [Hs]; · iapply (sems_back c); iexact Hs
  iexact HY

/-! ## The levels, the arrays, the shares -/

theorem Above.bar (c : Dev nD) (a : ℕ) : Above 0 (tallyAt (barCell c) () a) := fun g u hg => by
  rw [tallyAt_apply] at hg
  by_cases hh : g = barCell c ∧ u = ()
  · rw [hh.1, L_tc]; exact ⟨Finset.mem_singleton_self _, Nat.one_pos⟩
  · rw [if_neg hh] at hg; exact absurd hg (Nat.lt_irrefl 0)
theorem O₀_above (c : Dev nD) : Above 0 (O₀ c) :=
  ((((X0_above c).mono (by decide)).add (.bar _ _)).add (.bar _ _)).add (.bar _ _)

theorem owed_above (c : Dev nD) (t : Fin (cfg0.N + 1)) : Above 0 ((dat m c).owed t) := by
  show Above 0 (if t.val = 0 then O₀ c else 0)
  split
  · exact O₀_above c
  · exact .zero _

theorem lv_staging : ∀ (w : Fin 4) (s : Fin (spec0 w).nbuf), lvT (kindOf ((spec0 w).sem s)) (chunkOf ((spec0 w).sem s)) = 0 := by decide +kernel

theorem cut : Pipeline.LevelCutOwed (pcfgs (F := F)) adm (pdats m) () L lv 0 (fun _ => 0) where
  hι c w s := by rw [L_tc]; exact Finset.mem_singleton_self _
  hιb c w s := le_of_eq (lv_staging w s)
  hD c t g i h := owed_above m c t g i h

theorem share_full (c : Dev nD) (w : Fin 4) : (dat m c).share w = fullShare := by
  unfold Dat.share; split <;> rfl

theorem outs_v35 (c : Dev nD) : outs m 4 main_v35 c = res (ins m) c := rfl

theorem V4_of_ne (c : Dev nD) (b : DevRef τ sig) (h : b ≠ Proc.devRef .tc main_v35) : V4 m (outs m) c b = V3 m c b :=
  Function.update_of_ne h ..
theorem V4_v35 (c : Dev nD) : V4 m (outs m) c main_v35 = res (ins m) c := Function.update_self ..

theorem arr_last0 (c : Dev nD) : (dat m c).arrAt 0 cfg0.N = V4 m (outs m) c main_v28 := by
  rw [V4_of_ne m c main_v28 (by decide)]; exact (dat m c).arrAt_in 0 rfl _
theorem arr_last1 (c : Dev nD) : (dat m c).arrAt 1 cfg0.N = V4 m (outs m) c main_v31 := by
  rw [V4_of_ne m c main_v31 (by decide)]; exact (dat m c).arrAt_in 1 rfl _
theorem arr_last2 (c : Dev nD) : (dat m c).arrAt 2 cfg0.N = V4 m (outs m) c main_v34 := by
  rw [V4_of_ne m c main_v34 (by decide)]; exact (dat m c).arrAt_in 2 rfl _
theorem arr_last3 (c : Dev nD) : (dat m c).arrAt 3 cfg0.N = V4 m (outs m) c main_v35 := by
  rw [V4_v35]; exact arr3 m c

theorem arr_last (c : Dev nD) (w : Fin 4) : (dat m c).arrAt w cfg0.N = V4 m (outs m) c (Proc.devRef .tc (Pipeline.arrRef spec0 w)) :=
  match w with
  | 0 => arr_last0 m c
  | 1 => arr_last1 m c
  | 2 => arr_last2 m c
  | 3 => arr_last3 m c
  | ⟨_ + 4, h⟩ => absurd h (Nat.not_lt.2 (Nat.le_add_left _ _))

theorem v35_mem : (Proc.devRef (τ := τ) .tc main_v35) ∈ Pipeline.arrRefs (τ := τ) spec0 := by decide

/-- The unscoped buffers no window is over. -/
abbrev rest : Finset (DevRef τ sig) := Pipeline.ucRefs τ sig \ Pipeline.arrRefs (τ := τ) spec0

theorem rest_eq (c : Dev nD) (b : DevRef τ sig) (hb : b ∈ rest \ ∅) : V4 m (outs m) c b = V3 m c b := by
  have hb' := (Finset.mem_sdiff.mp (Finset.mem_sdiff.mp hb).1).2
  exact Function.update_of_ne (fun e => hb' (by rw [e]; exact v35_mem)) ..

theorem kit : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

set_option backward.isDefEq.respectTransparency.types false in
/-- The region: entered at `V3` owing `O₀`, left at `V4` owing nothing. -/
def reg : Pipeline.RegionSeg (pcfgs (F := F)) adm (pdats m) () defs₀ 𝒱₀ L lv 0 :=
  Pipeline.RegionSeg.ofTalk (pcfgs (F := F)) adm (pdats m) () defs₀ 𝒱₀ L lv 0 osem osem_facts
    ∅ rest (Finset.empty_subset _) kit rfl (fun c => (body m c).loose)
    (fun _ => 0) O₀ (fun c => (owed_first m c).trans (zero_add _).symm) (owed_last m) (fun _ => rfl) (share_full m)
    (V3 m) (V4 m (outs m)) (rest_eq m)
    (Tk m) (Yk (F := F)) (Xk m) (Yk (F := F)) (hopen m) (hin m) (hout m)
    (fun c => by iintro H; imodintro; iexact H)
    (fun _ => 0) (cut m) (fun _ => iprop(emp))
    (fun _ _ => rfl) (arr_last m)

/-- What rides along up to the region, and after it. -/
def E0 (c : Dev nD) : sProp 𝕄 := iprop(Tk m c ∗ dues (F := F) c (O₀ c) ∗ ∃ r, prngReg c r)
def E1 (c : Dev nD) : sProp 𝕄 := iprop(Yk (F := F) c ∗ dues (F := F) c 0)

theorem uc_split (c : Dev nD) (W : Valuation τ sig (Elt F)) :
    (StableHlo.held (c : Thread nD τ) (Pipeline.ucRefs τ sig) W : sProp 𝕄)
      = iprop(StableHlo.held (c : Thread nD τ) (Pipeline.arrRefs (τ := τ) spec0) W ∗ StableHlo.held (c : Thread nD τ) rest W) :=
  StableHlo.held_sub_split (c : Thread nD τ) (by decide) W

theorem reg_pre (c : Dev nD) : iprop(StableHlo.held (c : Thread nD τ) (Pipeline.ucRefs τ sig) (V3 m c) ∗ E0 m c) ⊢ (reg m).pre c := by
  show _ ⊢ iprop(StableHlo.held (c : Thread nD τ) (Pipeline.arrRefs (τ := τ) spec0) (V3 m c) ∗ (∃ r, prngReg c r)
    ∗ (StableHlo.held (c : Thread nD τ) rest (V3 m c) ∗ emp) ∗ Tk m c ∗ ∃ Wd, owes (c : Thread nD τ) (0 + O₀ c) Wd)
  rw [zero_add, uc_split]
  unfold E0 dues
  iintro ⟨⟨Ha, Hr⟩, HT, HO, Hp⟩
  isplitl [Ha]; · iexact Ha
  isplitl [Hp]; · iexact Hp
  isplitl [Hr]
  · isplitl [Hr]; · iexact Hr
    iempintro
  isplitl [HT]; · iexact HT
  iexact HO

theorem reg_post (c : Dev nD) : (reg m).post c ⊢ iprop(StableHlo.held (c : Thread nD τ) (Pipeline.ucRefs τ sig) (V4 m (outs m) c) ∗ E1 (F := F) c) := by
  show iprop(StableHlo.held (c : Thread nD τ) (Pipeline.arrRefs (τ := τ) spec0) (V4 m (outs m) c) ∗ (∃ r, prngReg c r)
    ∗ (StableHlo.held (c : Thread nD τ) rest (V4 m (outs m) c) ∗ emp) ∗ Yk (F := F) c ∗ ∃ Wd, owes (c : Thread nD τ) (0 : CellTallies nD τ sig Unit) Wd) ⊢ _
  rw [uc_split]
  unfold E1 dues
  iintro ⟨Ha, -, ⟨Hr, -⟩, HY, HO⟩
  isplitl [Ha Hr]; · isplitl [Ha] <;> iassumption
  isplitl [HY]; · iexact HY
  iexact HO

end Cert.KernelIdealProof
-- ==== Proof.KernelIdeal.Launch.lean ====
/-
  The launch: every cell's record made, the rights and the duties dealt to the devices, the whole program run.
-/
module

public import proofs.«01_k».proof.Proof.KernelIdeal.Record
public import Idealize.ShloMosaic.Lib.Quiescent

@[expose] public section

set_option maxRecDepth 16384

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf Seg)

variable {F : FTy → Type} [FloatOps F]

local notation "𝕄" => MT nD τ sig Unit (Elt F) ℕ UU ℕ

variable (m : (ℓ : Loc nD τ sig) → Buf (Elt F) ℓ) (ρ : Dev nD → PrngReg)

/-! ## The cells and the tokens -/

def barEmb : Dev nD ↪ GSem nD τ sig := ⟨fun c => barCell c, fun _ _ h => congrArg (fun g : GSem nD τ sig => g.1.1) h⟩
theorem osem_inj : Function.Injective osem := by decide +kernel
theorem osem_ne_bar : ∀ kt, osem kt ≠ .reg barS := by decide +kernel
def scEmb : Dev nD × (Fin 4 × Fin 10) ↪ GSem nD τ sig :=
  ⟨fun ck => ((ck.1 : Thread nD τ), osem ck.2), fun _ _ h =>
    Prod.ext (congrArg (fun g : GSem nD τ sig => g.1.1) h) (osem_inj (congrArg Prod.snd h))⟩

/-- The barriers' cells; the transfers' cells. -/
abbrev barCells : Finset (GSem nD τ sig) := Finset.univ.map barEmb
abbrev scCells : Finset (GSem nD τ sig) := Finset.univ.map scEmb

theorem disjoint_cells : Disjoint (barCells : Finset (GSem nD τ sig)) scCells := by
  rw [Finset.disjoint_left]
  rintro g h₁ h₂
  obtain ⟨c, -, rfl⟩ := Finset.mem_map.mp h₁
  obtain ⟨ck, -, h⟩ := Finset.mem_map.mp h₂
  exact osem_ne_bar ck.2 (congrArg Prod.snd h)

/-- The duties: three of each barrier, one of each other cell. -/
def scToks : Finset (GSem nD τ sig × ℕ × Fin 3) :=
  Finset.univ.map ⟨fun ck : Dev nD × (Fin 4 × Fin 10) => (scEmb ck, 0, 0), fun _ _ h => scEmb.injective (congrArg Prod.fst h)⟩
def barToks : Finset (GSem nD τ sig × ℕ × Fin 3) :=
  Finset.univ.map ⟨fun cd : Dev nD × Fin 3 => (barEmb cd.1, 0, cd.2), fun _ _ h =>
    Prod.ext (barEmb.injective (congrArg Prod.fst h)) (congrArg (fun t : GSem nD τ sig × ℕ × Fin 3 => t.2.2) h)⟩
theorem disjoint_toks : Disjoint scToks barToks := by
  rw [Finset.disjoint_left]
  rintro g h₁ h₂
  obtain ⟨ck, -, rfl⟩ := Finset.mem_map.mp h₁
  obtain ⟨cd, -, h⟩ := Finset.mem_map.mp h₂
  exact osem_ne_bar ck.2 (congrArg (fun t : GSem nD τ sig × ℕ × Fin 3 => t.1.2) h).symm
abbrev toks : Finset (GSem nD τ sig × ℕ × Fin 3) := scToks ∪ barToks

/-- What the launch starts from: the pipeline's own part and the protocol's. -/
def u₀ : UU :=
  (initOf (Pipeline.cells (Pipeline.pin (pcfgs (F := F)) adm) cellOf_inj) (Pipeline.launchToks (Pipeline.pin (pcfgs (F := F)) adm) cellOf_inj),
    launchOf barCells scCells toks)

/-- The protocol's part, held by device 0 until it is dealt. -/
def startAll : sProp 𝕄 := BI.own (ER (launchOf barCells scCells toks))
def G (c : Dev nD) : sProp 𝕄 := if c = 0 then startAll (F := F) else iprop(emp)
theorem bigSep_G : bigSep Finset.univ (G (F := F)) = startAll (F := F) := by
  rw [bigSep_univ_at _ (0 : Dev nD), bigSep_congr (s := Finset.univ.erase (0 : Dev nD)) (Ψ := fun _ => (BI.emp : sProp 𝕄))
      fun c hc => by unfold G; rw [if_neg (Finset.ne_of_mem_erase hc)]; rfl, BI.bigSep_emp_const]
  unfold G; rw [if_pos rfl]
  exact BI.equiv_iff.mp sep_emp

/-! ## The permutations of the devices -/

def pxE : Dev nD ≃ Dev nD := ⟨px, px, px_px, px_px⟩
def rightE : Dev nD ≃ Dev nD := ⟨right, left, left_right, right_left⟩
def leftE : Dev nD ≃ Dev nD := ⟨left, right, right_left, left_right⟩
theorem tgt_bij : ∀ t : Fin 10, ∃ e : Dev nD ≃ Dev nD, ∀ c, e c = tgt c t
  | 0 => ⟨.refl _, fun _ => rfl⟩
  | 1 => ⟨.refl _, fun _ => rfl⟩
  | 2 => ⟨pxE, fun _ => rfl⟩
  | 3 => ⟨pxE, fun _ => rfl⟩
  | 4 => ⟨.refl _, fun _ => rfl⟩
  | 5 => ⟨.refl _, fun _ => rfl⟩
  | 6 => ⟨.refl _, fun _ => rfl⟩
  | 7 => ⟨rightE, fun _ => rfl⟩
  | 8 => ⟨rightE, fun _ => rfl⟩
  | 9 => ⟨leftE, fun _ => rfl⟩

/-! ## Dealing the tokens -/

theorem bigSep_swap {A B : Type} [Fintype A] [Fintype B] (Φ : A → B → sProp 𝕄) :
    (bigSep Finset.univ fun a => bigSep Finset.univ fun b => Φ a b) = bigSep Finset.univ fun b => bigSep Finset.univ fun a => Φ a b := by
  rw [← bigSep_univ_prod fun ab : A × B => Φ ab.1 ab.2, ← bigSep_univ_prod fun ba : B × A => Φ ba.2 ba.1,
    bigSep_univ_equiv (Equiv.prodComm A B) fun ba : B × A => Φ ba.2 ba.1]
  rfl

theorem scToks_deal : bigSep scToks (fun x => (dutyTok ER x.1 x.2.1 x.2.2 : sProp 𝕄))
    = bigSep Finset.univ fun c : Dev nD => bigSep Finset.univ fun k => dTok (F := F) c k := by
  unfold scToks dTok
  rw [bigSep_map, bigSep_univ_prod]
  show (bigSep Finset.univ fun c : Dev nD => bigSep Finset.univ fun kt : Fin 4 × Fin 10 => (dutyTok ER (cell c kt.2 kt.1) 0 0 : sProp 𝕄)) = _
  rw [bigSep_swap, bigSep_congr (Ψ := fun kt : Fin 4 × Fin 10 => bigSep Finset.univ fun c : Dev nD => (dutyTok ER (cell (tgt c kt.2) kt.2 kt.1) 0 0 : sProp 𝕄))
    fun kt _ => by
      obtain ⟨e, he⟩ := tgt_bij kt.2
      rw [bigSep_univ_equiv e fun c : Dev nD => (dutyTok ER (cell c kt.2 kt.1) 0 0 : sProp 𝕄)]
      exact bigSep_congr fun c _ => by rw [he], ← bigSep_swap]
  exact bigSep_congr fun c _ => bigSep_univ_prod _

/-- The duties a device pays at the barriers of the three devices it signals. -/
def bTok (c : Dev nD) : sProp 𝕄 := iprop(dutyTok ER (barCell (px c)) 0 0 ∗ dutyTok ER (barCell (left c)) 0 1 ∗ dutyTok ER (barCell (right c)) 0 2)

theorem barToks_deal : bigSep barToks (fun x => (dutyTok ER x.1 x.2.1 x.2.2 : sProp 𝕄)) = bigSep Finset.univ fun c : Dev nD => bTok (F := F) c := by
  unfold barToks bTok
  rw [bigSep_map, bigSep_univ_prod]
  show (bigSep Finset.univ fun c : Dev nD => bigSep Finset.univ fun d : Fin 3 => (dutyTok ER (barCell c) 0 d : sProp 𝕄)) = _
  rw [bigSep_congr fun c _ => bigSep_three fun d : Fin 3 => (dutyTok ER (barCell c) 0 d : sProp 𝕄), bigSep_sep', bigSep_sep',
    bigSep_univ_equiv pxE (fun c : Dev nD => (dutyTok ER (barCell c) 0 0 : sProp 𝕄)),
    bigSep_univ_equiv leftE (fun c : Dev nD => (dutyTok ER (barCell c) 0 1 : sProp 𝕄)),
    bigSep_univ_equiv rightE (fun c : Dev nD => (dutyTok ER (barCell c) 0 2 : sProp 𝕄)), bigSep_sep', bigSep_sep']
  rfl

theorem toks_deal : bigSep toks (fun x => (dutyTok ER x.1 x.2.1 x.2.2 : sProp 𝕄))
    = bigSep Finset.univ fun c : Dev nD => iprop(bigSep Finset.univ (fun k => dTok (F := F) c k) ∗ bTok (F := F) c) := by
  rw [bigSep_sep', ← scToks_deal, ← barToks_deal]
  exact BI.bigSep_union disjoint_toks

/-! ## The launch credit -/

/-- What all devices together owe a cell, when device `d` owes it `a` exactly if the cell is `e d`'s. -/
theorem sum_cell (e : Dev nD ≃ Dev nD) (c : Dev nD) (t t' : Fin 10) (k k' : Fin 4) (a : ℕ) :
    (∑ d, (tallyAt (cell (e d) t' k') () a : CellTallies nD τ sig Unit) (cell c t k) ()) = if t = t' ∧ k = k' then a else 0 := by
  by_cases h : t = t' ∧ k = k'
  · obtain ⟨rfl, rfl⟩ := h
    rw [if_pos ⟨rfl, rfl⟩, Finset.sum_eq_single (e.symm c)]
    · rw [Equiv.apply_symm_apply, tallyAt_apply, if_pos ⟨rfl, rfl⟩]
    · intro d _ hd
      rw [tallyAt_apply, if_neg]
      exact fun hh => hd (by rw [show c = e d from congrArg (fun g : GSem nD τ sig => g.1.1) hh.1, Equiv.symm_apply_apply])
    · exact fun hn => absurd (Finset.mem_univ _) hn
  · rw [if_neg h]
    refine Finset.sum_eq_zero fun d _ => ?_
    rw [tallyAt_apply, if_neg]
    intro hh
    have h2 : (SemLoc.dma (dsem t k) : SemLoc sig) = .dma (dsem t' k') := congrArg Prod.snd hh.1
    injection h2 with h3
    exact h ⟨by rw [← kindOf_dsem t k, h3, kindOf_dsem], by rw [← chunkOf_dsem t k, h3, chunkOf_dsem]⟩

theorem sum_cell_bar (f : Dev nD → Dev nD) (c : Dev nD) (t : Fin 10) (k : Fin 4) (a : ℕ) :
    (∑ d, (tallyAt (cell (f d) t k) () a : CellTallies nD τ sig Unit) (barCell c) ()) = 0 :=
  Finset.sum_eq_zero fun d _ => by
    rw [tallyAt_apply, if_neg]
    intro hh
    have h2 : (SemLoc.reg barS : SemLoc sig) = .dma (dsem t k) := congrArg Prod.snd hh.1
    nomatch h2
theorem sum_bar_cell (f : Dev nD → Dev nD) (c : Dev nD) (t : Fin 10) (k : Fin 4) (a : ℕ) :
    (∑ d, (tallyAt (barCell (f d)) () a : CellTallies nD τ sig Unit) (cell c t k) ()) = 0 :=
  Finset.sum_eq_zero fun d _ => by
    rw [tallyAt_apply, if_neg]
    intro hh
    have h2 : (SemLoc.dma (dsem t k) : SemLoc sig) = .reg barS := congrArg Prod.snd hh.1
    nomatch h2
theorem sum_bar (e : Dev nD ≃ Dev nD) (c : Dev nD) (a : ℕ) :
    (∑ d, (tallyAt (barCell (e d)) () a : CellTallies nD τ sig Unit) (barCell c) ()) = a := by
  rw [Finset.sum_eq_single (e.symm c)]
  · rw [Equiv.apply_symm_apply, tallyAt_apply, if_pos ⟨rfl, rfl⟩]
  · intro d _ hd
    rw [tallyAt_apply, if_neg]
    exact fun hh => hd (by rw [show c = e d from congrArg (fun g : GSem nD τ sig => g.1.1) hh.1, Equiv.symm_apply_apply])
  · exact fun hn => absurd (Finset.mem_univ _) hn

/-- What all devices together owe `g`, of the dues a family of devices has. -/
def tot (O : Dev nD → CellTallies nD τ sig Unit) (g : GSem nD τ sig) : ℕ := ∑ d, O d g ()
theorem tot_add (O O' : Dev nD → CellTallies nD τ sig Unit) (g : GSem nD τ sig) : tot (fun d => O d + O' d) g = tot O g + tot O' g := by
  unfold tot; rw [← Finset.sum_add_distrib]; rfl
theorem tot_zero (g : GSem nD τ sig) : tot (fun _ => 0) g = 0 := Finset.sum_eq_zero fun _ _ => rfl

/-- One unit of the dues to the cell `(t, k)` out of the kind and chunk `(t', k')`. -/
def hit (t t' : Fin 10) (k k' : Fin 4) : ℕ := if t = t' ∧ k = k' then N else 0

theorem tot_chunk (k' : Fin 4) (O : Dev nD → CellTallies nD τ sig Unit) (c : Dev nD) (t : Fin 10) (k : Fin 4) :
    tot (fun d => chunkDue d k' (O d)) (cell c t k) = tot O (cell c t k) + (hit t 8 k k' + hit t 9 k k' + hit t 7 k k') := by
  unfold chunkDue
  rw [tot_add, tot_add, tot_add]
  have h8 : tot (fun d => tallyAt (cell (right d) 8 k') () N) (cell c t k) = hit t 8 k k' := sum_cell rightE c t 8 k k' N
  have h9 : tot (fun d => tallyAt (cell (left d) 9 k') () N) (cell c t k) = hit t 9 k k' := sum_cell leftE c t 9 k k' N
  have h7 : tot (fun d => tallyAt (cell (right d) 7 k') () N) (cell c t k) = hit t 7 k k' := sum_cell rightE c t 7 k k' N
  rw [h8, h9, h7]; ring
theorem tot_x (k' : Fin 4) (O : Dev nD → CellTallies nD τ sig Unit) (c : Dev nD) (t : Fin 10) (k : Fin 4) :
    tot (fun d => xDue d k' (O d)) (cell c t k) = tot O (cell c t k) + (hit t 3 k k' + hit t 2 k k') := by
  unfold xDue
  rw [tot_add, tot_add]
  have h3 : tot (fun d => tallyAt (cell (px d) 3 k') () N) (cell c t k) = hit t 3 k k' := sum_cell pxE c t 3 k k' N
  have h2 : tot (fun d => tallyAt (cell (px d) 2 k') () N) (cell c t k) = hit t 2 k k' := sum_cell pxE c t 2 k k' N
  rw [h3, h2]; ring
theorem tot_chunk_bar (k' : Fin 4) (O : Dev nD → CellTallies nD τ sig Unit) (c : Dev nD) :
    tot (fun d => chunkDue d k' (O d)) (barCell c) = tot O (barCell c) := by
  unfold chunkDue
  rw [tot_add, tot_add, tot_add]
  have h8 : tot (fun d => tallyAt (cell (right d) 8 k') () N) (barCell c) = 0 := sum_cell_bar right c 8 k' N
  have h9 : tot (fun d => tallyAt (cell (left d) 9 k') () N) (barCell c) = 0 := sum_cell_bar left c 9 k' N
  have h7 : tot (fun d => tallyAt (cell (right d) 7 k') () N) (barCell c) = 0 := sum_cell_bar right c 7 k' N
  rw [h8, h9, h7, Nat.add_zero]
theorem tot_x_bar (k' : Fin 4) (O : Dev nD → CellTallies nD τ sig Unit) (c : Dev nD) :
    tot (fun d => xDue d k' (O d)) (barCell c) = tot O (barCell c) := by
  unfold xDue
  rw [tot_add, tot_add]
  have h3 : tot (fun d => tallyAt (cell (px d) 3 k') () N) (barCell c) = 0 := sum_cell_bar px c 3 k' N
  have h2 : tot (fun d => tallyAt (cell (px d) 2 k') () N) (barCell c) = 0 := sum_cell_bar px c 2 k' N
  rw [h3, h2, Nat.add_zero]

/-- The kinds that land on another device. -/
def lands (t : Fin 10) : Prop := t = 2 ∨ t = 3 ∨ t = 7 ∨ t = 8 ∨ t = 9
instance (t : Fin 10) : Decidable (lands t) := by unfold lands; infer_instance

theorem hits (n : ℕ) : ∀ (t : Fin 10) (k : Fin 4), lands t →
    ((fun k' => (if t = 8 ∧ k = k' then n else 0) + (if t = 9 ∧ k = k' then n else 0) + (if t = 7 ∧ k = k' then n else 0)
      + ((if t = 3 ∧ k = k' then n else 0) + (if t = 2 ∧ k = k' then n else 0))) 0
    + (fun k' => (if t = 8 ∧ k = k' then n else 0) + (if t = 9 ∧ k = k' then n else 0) + (if t = 7 ∧ k = k' then n else 0)
      + ((if t = 3 ∧ k = k' then n else 0) + (if t = 2 ∧ k = k' then n else 0))) 1
    + (fun k' => (if t = 8 ∧ k = k' then n else 0) + (if t = 9 ∧ k = k' then n else 0) + (if t = 7 ∧ k = k' then n else 0)
      + ((if t = 3 ∧ k = k' then n else 0) + (if t = 2 ∧ k = k' then n else 0))) 2
    + (fun k' => (if t = 8 ∧ k = k' then n else 0) + (if t = 9 ∧ k = k' then n else 0) + (if t = 7 ∧ k = k' then n else 0)
      + ((if t = 3 ∧ k = k' then n else 0) + (if t = 2 ∧ k = k' then n else 0))) 3) = n := by
  rintro t k (rfl | rfl | rfl | rfl | rfl) <;> fin_cases k <;> simp

theorem owed_cell (c : Dev nD) (t : Fin 10) (k : Fin 4) (ht : lands t) : tot O₀ (cell c t k) = N := by
  have hb1 : tot (fun d => tallyAt (barCell (right d)) () 1) (cell c t k) = 0 := sum_bar_cell right c t k 1
  have hb2 : tot (fun d => tallyAt (barCell (left d)) () 1) (cell c t k) = 0 := sum_bar_cell left c t k 1
  have hb3 : tot (fun d => tallyAt (barCell (px d)) () 1) (cell c t k) = 0 := sum_bar_cell px c t k 1
  have h := hits N t k ht
  show tot (fun d => ((X0 d + tallyAt (barCell (right d)) () 1) + tallyAt (barCell (left d)) () 1) + tallyAt (barCell (px d)) () 1) _ = _
  rw [tot_add, tot_add, tot_add, hb1, hb2, hb3]
  unfold X0 X1 X2 X3 D0 D1 D2 D3
  rw [tot_x, tot_x, tot_x, tot_x, tot_chunk, tot_chunk, tot_chunk, tot_chunk, tot_zero]
  unfold hit
  dsimp only at h
  omega

theorem owed_bar (c : Dev nD) : tot O₀ (barCell c) = 3 := by
  have hb1 : tot (fun d => tallyAt (barCell (right d)) () 1) (barCell c) = 1 := sum_bar rightE c 1
  have hb2 : tot (fun d => tallyAt (barCell (left d)) () 1) (barCell c) = 1 := sum_bar leftE c 1
  have hb3 : tot (fun d => tallyAt (barCell (px d)) () 1) (barCell c) = 1 := sum_bar pxE c 1
  show tot (fun d => ((X0 d + tallyAt (barCell (right d)) () 1) + tallyAt (barCell (left d)) () 1) + tallyAt (barCell (px d)) () 1) _ = _
  rw [tot_add, tot_add, tot_add, hb1, hb2, hb3]
  unfold X0 X1 X2 X3 D0 D1 D2 D3
  rw [tot_x_bar, tot_x_bar, tot_x_bar, tot_x_bar, tot_chunk_bar, tot_chunk_bar, tot_chunk_bar, tot_chunk_bar, tot_zero]

theorem launch_at (g : GSem nD τ sig) (a : ℕ) (h : tot O₀ g = a) :
    tallyOn g (launchCredit (Pipeline.owing O₀) 0 g) = (tallyAt g () a : CellTallies nD τ sig Unit) := by
  unfold tallyAt; refine congrArg _ (Finsupp.ext fun u => ?_); cases u
  rw [Pipeline.launchCredit_owing, Finsupp.single_eq_same]; exact h

/-- Its kind's credit, if the kind lands on another device. -/
def credOf (c : Dev nD) (kt : Fin 4 × Fin 10) : sProp 𝕄 := cred (tallyOn (cell c kt.2 kt.1) (launchCredit (Pipeline.owing O₀) 0 (cell c kt.2 kt.1)))

theorem credOf_lands (c : Dev nD) (k : Fin 4) (t : Fin 10) (ht : lands t) : credOf (F := F) c (k, t) = cred (tallyAt (cell c t k) () N) := by
  unfold credOf; rw [launch_at _ N (owed_cell c t k ht)]

theorem credOf_chunk (c : Dev nD) (k : Fin 4) : (bigSep Finset.univ fun t => credOf (F := F) c (k, t)) ⊢ cTok (F := F) c k := by
  rw [bigSep_ten, credOf_lands c k 2 (by decide), credOf_lands c k 3 (by decide), credOf_lands c k 7 (by decide), credOf_lands c k 8 (by decide),
    credOf_lands c k 9 (by decide)]
  unfold cTok
  iintro ⟨-, -, H2, H3, -, -, -, H7, H8, H9⟩
  isplitl [H2]; · iexact H2
  isplitl [H3]; · iexact H3
  isplitl [H7]; · iexact H7
  isplitl [H8] <;> iassumption

def semEmb : Fin 4 × Fin 10 ↪ SemLoc sig := ⟨osem, osem_inj⟩

theorem cred_split (Φ : SemLoc sig → sProp 𝕄) : bigSep Finset.univ Φ
    ⊢ iprop(Φ (.reg barS) ∗ bigSep Finset.univ fun kt : Fin 4 × Fin 10 => Φ (osem kt)) := by
  rw [bigSep_univ_at _ (SemLoc.reg barS)]
  refine sep_mono_right ?_
  have hs : (Finset.univ.map semEmb : Finset (SemLoc sig)) ⊆ Finset.univ.erase (SemLoc.reg barS) := fun s hs => by
    obtain ⟨kt, -, rfl⟩ := Finset.mem_map.mp hs
    exact Finset.mem_erase.mpr ⟨osem_ne_bar kt, Finset.mem_univ _⟩
  rw [BI.bigSep_sdiff_split hs, bigSep_map]
  show iprop((bigSep Finset.univ fun kt : Fin 4 × Fin 10 => Φ (osem kt)) ∗ _) ⊢ _
  iintro ⟨H, -⟩
  iexact H

theorem creds (c : Dev nD) : (Pipeline.launchCred O₀ c : sProp 𝕄)
    ⊢ iprop(cred (tallyAt (barCell c) () 3) ∗ bigSep Finset.univ fun k => cTok (F := F) c k) := by
  unfold Pipeline.launchCred
  refine (cred_split _).trans ?_
  rw [launch_at _ 3 (owed_bar c)]
  refine sep_mono_right ?_
  rw [bigSep_univ_prod]
  exact bigSep_mono fun k _ => credOf_chunk c k

/-! ## The records -/

theorem key_mem : ∀ ck : Key, kcell ck ∈ (barCells ∪ scCells : Finset (GSem nD τ sig))
  | (c, none) => Finset.mem_union_left _ (Finset.mem_map_of_mem barEmb (Finset.mem_univ c))
  | (c, some tk) => Finset.mem_union_right _ (Finset.mem_map_of_mem scEmb (Finset.mem_univ (c, (tk.2, tk.1))))

def records (κ : GSem nD τ sig → ℕ) : sProp 𝕄 :=
  iprop((bigSep (barCells ∪ scCells) fun g => cellInv ER (rd (ins m)) (κ g) g) ∗ bigSep barCells fun g => reached ER g 0)
instance records_persistent (κ : GSem nD τ sig → ℕ) : BI.Persistent (records m κ) := by unfold records; infer_instance

theorem inv_at (κ : GSem nD τ sig → ℕ) (ck : Key) :
    (bigSep (barCells ∪ scCells) fun g => (cellInv ER (rd (ins m)) (κ g) g : sProp 𝕄)) ⊢ cellInv ER (rd (ins m)) (κ (kcell ck)) (kcell ck) :=
  bigSep_elim (key_mem ck)
theorem reached_at (c : Dev nD) : (bigSep barCells fun g => (reached ER g 0 : sProp 𝕄)) ⊢ reached ER (barCell c) 0 :=
  bigSep_elim (Finset.mem_map_of_mem barEmb (Finset.mem_univ c))

theorem emp_all : (BI.emp : sProp 𝕄) = bigSep Finset.univ fun _ : Key => (BI.emp : sProp 𝕄) := (BI.bigSep_emp_const _).symm

theorem invs_all (κ : GSem nD τ sig → ℕ) : records m κ ⊢ invs (ins m) (fun ck => κ (kcell ck)) := by
  unfold invs
  have h : iprop(records m κ ∗ bigSep Finset.univ fun _ : Key => (BI.emp : sProp 𝕄))
      ⊢ (bigSep Finset.univ fun ck : Key => cellInv ER (rd (ins m)) (κ (kcell ck)) (kcell ck) : sProp 𝕄) :=
    bigSep_with_persistent fun ck _ => by
      unfold records
      iintro ⟨⟨#HI, -⟩, -⟩
      iapply (inv_at m κ ck); iexact HI
  rw [← emp_all] at h
  iintro #H
  iapply h
  isplitr; · iexact H
  iempintro

/-- What is dealt to device `c`. -/
def dealt (c : Dev nD) : sProp 𝕄 :=
  iprop(atPos ER (barCell c) 0 ∅ 0 ∗ bigSep Finset.univ (fun kt : Fin 4 × Fin 10 => openTok ER ((c : Thread nD τ), osem kt))
    ∗ (bigSep Finset.univ (fun k => dTok (F := F) c k) ∗ bTok (F := F) c))
/-- What device `c` holds at launch beside it. -/
def bundle (c : Dev nD) : sProp 𝕄 :=
  iprop(StableHlo.held (c : Thread nD τ) (Pipeline.ucRefs τ sig) (V0 m c)
    ∗ (cred (tallyAt (barCell c) () 3) ∗ bigSep Finset.univ fun k => cTok (F := F) c k)
    ∗ owes (c : Thread nD τ) (O₀ c) ∅ ∗ ∃ r, prngReg c r)

def T₀ (c : Dev nD) : sProp 𝕄 := iprop(StableHlo.held (c : Thread nD τ) (Pipeline.ucRefs τ sig) (V0 m c) ∗ E0 m c)
def Tₙ (c : Dev nD) : sProp 𝕄 := iprop(StableHlo.held (c : Thread nD τ) (Pipeline.ucRefs τ sig) (V5 m (outs m) c) ∗ Yk (F := F) c)

theorem T₀_intro (κ : GSem nD τ sig → ℕ) (c : Dev nD) : iprop(records m κ ∗ (dealt (F := F) c ∗ bundle m c)) ⊢ T₀ m c := by
  unfold bundle T₀ E0 dealt Tk barTok bTok dues barRch
  iintro ⟨#HR, ⟨Ha, Ho, Hd, Hb1, Hb2, Hb3⟩, Hh, ⟨Hc3, Hc⟩, HO, Hp⟩
  isplitl [Hh]; · iexact Hh
  isplitr [HO Hp]
  · isplitr
    · iexists (fun ck => κ (kcell ck)); iapply (invs_all m κ); iexact HR
    isplitr
    · unfold records
      icases HR with ⟨-, #HR⟩
      isplitr; · iapply (reached_at (F := F) (px c)); iexact HR
      isplitr; · iapply (reached_at (F := F) (left c)); iexact HR
      iapply (reached_at (F := F) (right c)); iexact HR
    isplitl [Ho]; · iexact Ho
    isplitl [Hd]; · iexact Hd
    isplitl [Hc]; · iexact Hc
    isplitl [Hb1]; · iexact Hb1
    isplitl [Hb2]; · iexact Hb2
    isplitl [Hb3]; · iexact Hb3
    isplitl [Ha] <;> iassumption
  isplitl [HO]; · iexists ∅; iexact HO
  iexact Hp

theorem unscopedSems0_eq (c : Dev nD) : (unscopedSems0 c : sProp 𝕄) = semVal (barCell c) 0 := by
  unfold unscopedSems0
  rw [show (Finset.univ.filter fun sm : SemLoc sig => ¬ sm.isScoped .tc) = {SemLoc.reg barS} from by decide +kernel, BI.bigSep_singleton]

/-- A core's holdings at launch. -/
def atLaunch (c : Dev nD) : sProp 𝕄 :=
  iprop(unscopedBufs c (fun b => m ((c : Thread nD τ).loc b)) ∗ unscopedSems0 c
    ∗ owes (c : Thread nD τ) (O₀ c) ∅ ∗ Pipeline.launchCred O₀ c ∗ prngReg c (ρ c) ∗ G (F := F) c)

theorem atLaunch_split (c : Dev nD) : atLaunch m ρ c ⊢ iprop(bundle m c ∗ (semVal (barCell c) 0 ∗ G (F := F) c)) := by
  unfold atLaunch
  rw [show (unscopedBufs c (fun b => m ((c : Thread nD τ).loc b)) : sProp 𝕄) = StableHlo.held (c : Thread nD τ) (Pipeline.ucRefs τ sig) (V0 m c)
    from Pipeline.unscopedBufs_held c (V0 m c), unscopedSems0_eq]
  unfold bundle
  iintro ⟨Hh, Hus, HO, Hcr, Hp, HG⟩
  ihave Hc := (creds (F := F) c) $$ Hcr
  isplitl [Hh Hc HO Hp]
  · isplitl [Hh]; · iexact Hh
    isplitl [Hc]; · iexact Hc
    isplitl [HO]; · iexact HO
    iexists (ρ c); iexact Hp
  isplitl [Hus] <;> iassumption

theorem launch_split : bigSep Finset.univ (atLaunch m ρ)
    ⊢ iprop(bigSep Finset.univ (bundle m) ∗ bigSep Finset.univ (fun c : Dev nD => (semVal (barCell c) 0 : sProp 𝕄)) ∗ startAll (F := F)) := by
  rw [← bigSep_G, ← bigSep_sep', ← bigSep_sep']
  exact bigSep_mono fun c _ => atLaunch_split m ρ c

theorem bar_vals : bigSep Finset.univ (fun c : Dev nD => (semVal (barCell c) 0 : sProp 𝕄)) ⊢ bigSep barCells (fun g => (semVal g 0 : sProp 𝕄)) :=
  Entails.of_eq (bigSep_map (s := Finset.univ) barEmb (Φ := fun g : GSem nD τ sig => (semVal g 0 : sProp 𝕄))).symm

theorem dealt_all : iprop(bigSep barCells (fun g => (atPos ER g 0 ∅ 0 : sProp 𝕄)) ∗ bigSep scCells (fun g => (openTok ER g : sProp 𝕄))
      ∗ bigSep toks (fun x => (dutyTok ER x.1 x.2.1 x.2.2 : sProp 𝕄)))
    ⊢ bigSep Finset.univ (dealt (F := F)) := by
  rw [toks_deal, bigSep_map, bigSep_map, bigSep_univ_prod, ← bigSep_sep', ← bigSep_sep']
  exact Entails.refl _

theorem T₀_all (κ : GSem nD τ sig → ℕ) : iprop(records m κ ∗ bigSep Finset.univ (dealt (F := F)) ∗ bigSep Finset.univ (bundle m)) ⊢ bigSep Finset.univ (T₀ m) := by
  rw [← bigSep_sep']
  exact bigSep_with_persistent (R := records m κ) (Φ := fun c => iprop(dealt (F := F) c ∗ bundle m c)) fun c _ => T₀_intro m κ c

theorem init : iprop(bigSep Finset.univ (atLaunch m ρ) ∗ levAts L lv) ⊢ (|={Set.univ}=> bigSep Finset.univ (T₀ m) : sProp 𝕄) := by
  iintro ⟨H, -⟩
  ihave H := (launch_split m ρ) $$ H
  icases H with ⟨HB, Hv, HG⟩
  ihave Hv := (bar_vals (F := F)) $$ Hv
  unfold startAll
  imod (Rounds.fund_launch ER (rd (ins m)) disjoint_cells (fun g _ h => h) toks) $$ [Hv HG] with ⟨%κ, -, #Hinv, #Hr, Hat, Hopen, Htok⟩
  · isplitl [Hv] <;> iassumption
  imodintro
  iapply (T₀_all m κ)
  isplitr
  · unfold records
    isplitr; · iexact Hinv
    iexact Hr
  isplitl [Hat Hopen Htok]
  · iapply (dealt_all (F := F))
    isplitl [Hat]; · iexact Hat
    isplitl [Hopen] <;> iassumption
  iexact HB

/-! ## The run -/

theorem unscoped_eq : ∀ sm : SemLoc sig, sm.isScoped .tc = false → sm = .reg barS := by decide +kernel

theorem uc_mem (r : Ref sig .tc) (h : (Proc.devRef (τ := τ) .tc r).isScoped = false) : Proc.devRef (τ := τ) .tc r ∈ Pipeline.ucRefs τ sig :=
  Finset.mem_filter.mpr ⟨StableHlo.devRef_mem_tcRefs r, by rw [h]; decide⟩

/-- What is read of device `c` at the end: the arguments, the result, the barrier's counter. -/
def Ends (c : Dev nD) (s : MemSt nD τ sig (Elt F)) : Prop :=
  (s.mem ((c.tc : Thread nD τ).loc main_arg0) = m ((c.tc : Thread nD τ).loc main_arg0)
    ∧ s.mem ((c.tc : Thread nD τ).loc main_arg1) = m ((c.tc : Thread nD τ).loc main_arg1)
    ∧ s.mem ((c.tc : Thread nD τ).loc main_arg2) = m ((c.tc : Thread nD τ).loc main_arg2)
    ∧ s.mem ((c.tc : Thread nD τ).loc main_v38) = V5 m (outs m) c main_v38)
  ∧ s.sem (barCell c) = 0

theorem fin_read (c : Dev nD) (s' : Phys nD τ sig (Elt F)) : iprop(Tₙ m c ∗ SI s') ⊢ (|={Set.univ}=> iprop(⌜Ends m c s'.mem⌝ ∗ SI s') : sProp 𝕄) := by
  unfold Tₙ Yk StableHlo.held
  iintro ⟨⟨Hh, Hb⟩, HSI⟩
  icombine HSI Hb gives %hb
  ihave Hr := (pointsTo_read_all (Pipeline.ucRefs τ sig) (fun b => ((c : Thread nD τ).1, b)) (V5 m (outs m) c) s') $$ [Hh HSI]
  · isplitl [Hh] <;> iassumption
  icases Hr with ⟨%h, HSI⟩
  imodintro
  isplitr
  · ipureintro
    exact ⟨⟨(h (Proc.devRef .tc main_arg0) (uc_mem main_arg0 (by decide))).trans (V5_main_arg0 m (outs m) c),
      (h (Proc.devRef .tc main_arg1) (uc_mem main_arg1 (by decide))).trans (V5_main_arg1 m (outs m) c),
      (h (Proc.devRef .tc main_arg2) (uc_mem main_arg2 (by decide))).trans (V5_main_arg2 m (outs m) c),
      h (Proc.devRef .tc main_v38) (uc_mem main_v38 (by decide))⟩, by simpa using hb⟩
  iexact HSI

theorem chain_end (c : Dev nD) : iprop(StableHlo.held (c : Thread nD τ) (Pipeline.ucRefs τ sig) (V5 m (outs m) c) ∗ E1 (F := F) c)
    ⊢ iprop(Tₙ m c ∗ ∃ W, owes (c : Thread nD τ) (0 : CellTallies nD τ sig Unit) W) := by
  unfold Tₙ E1 dues
  iintro ⟨Hh, HY, HO⟩
  isplitl [Hh HY]; · isplitl [Hh] <;> iassumption
  iexact HO

abbrev EE : Fin 2 → Dev nD → sProp 𝕄 := fun | 0 => E0 m | 1 => E1 (F := F)

theorem u₀_split : (ownU (u₀ (F := F)) : sProp 𝕄)
    ⊢ |={Set.univ}=> iprop(BI.own (EP (initOf (Pipeline.cells (Pipeline.pin (pcfgs (F := F)) adm) cellOf_inj)
        (Pipeline.launchToks (Pipeline.pin (pcfgs (F := F)) adm) cellOf_inj))) ∗ bigSep Finset.univ (G (F := F))) := by
  rw [bigSep_G]
  unfold u₀ startAll
  iintro Hu
  ihave H := (ownU_pair _ _) $$ Hu
  icases H with ⟨HP, HX⟩
  imodintro
  isplitl [HP]; · iexact HP
  iexact HX

set_option backward.isDefEq.respectTransparency.types false in
/-- From any memory with zero counters every weakly fair execution terminates; every final memory has the arguments as
    launched, every device's result at the value the host operations give it, and every counter at zero. -/
theorem run : θ_run (defs (F := F)) (onTc (τ := τ) (main (F := F))) ⟨m, fun _ => 0, ρ⟩
    (fun r => (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_v38) = V5 m (outs m) c main_v38) ∧ r.2.sem = fun _ => 0) :=
  Pipeline.θ_run_regions_kit_dev_sems (pcfgs (F := F)) adm (pdats m) () cellOf_inj EP defs₀ 𝒱₀ L lv m ρ main
    (segs m (outs m) 𝒱₀ L lv (EE m) () (pdats m) (reg m))
    (fun c Q => by
      rewrite [main_chain c, Seg.run_eq_chain,
        show (segs m (outs m) 𝒱₀ L lv (EE m) () (pdats m) (reg m) c).map Seg.prog = [StableHlo.seq (hostOps0 c), StableHlo.seq hostOps0_1,
          StableHlo.seq (hostOps0_2 c), Prog.lift (.customCall (Pipeline.entry 0) ()), StableHlo.seq hostOps1] from rfl]
      dsimp (config := { failIfUnchanged := false }) only
      exact .rfl)
    (fun c => by simp only [segs, Seg.pipes_host, Seg.pipes_region, Seg.pipes_nil]; decide) O₀ L_of_ne (G (F := F)) (u₀ (F := F)) (u₀_split (F := F))
    (T₀ := T₀ m) (Tₙ := Tₙ m)
    (hch := fun c => ⟨.rfl, .rfl, .rfl, reg_pre m c, reg_post m c, chain_end m c⟩)
    (hinit := init m ρ) (QY := Ends m) (hfin := fin_read m)
    (hQ := fun s h hs => ⟨fun c => (h c).1, sem_eq_zero hs fun c sm hsm => by
      obtain rfl := unscoped_eq sm hsm
      exact (h c).2⟩)

end Cert.KernelIdealProof
-- ==== Proof.Value.Host.lean ====
/-
  What the host operations before the launch leave for the kernel, over the extended reals.
-/
module

public import proofs.«01_k».proof.Proof.KernelIdeal.Record
public import Idealize.ShloMosaic.Lib.StableHlo.RunClose
public import Idealize.ShloMosaic.Lib.DynamicIndex
public import Idealize.ShloMosaic.Lib.ValueIdx
public import Idealize.ShloMosaic.Lib.ValueLayout
public import Idealize.ShloMosaic.Lib.Pipeline.Value

@[expose] public section

set_option maxRecDepth 16384

noncomputable section

namespace Cert.KernelIdealProof

open Cert.KernelIdeal Cert.KernelIdeal.Gen
open Idealize.ShloMosaic hiding ix4
open Idealize.ShloMosaic.ValueIdx Idealize.ShloMosaic.StableHlo
open Idealize.ShloMosaic.TcCoe

/-! ## The batch a device computes -/

/-- The floored remainder of two words, as the host's function prints it. -/
def remW (a b : IVec S_ 32) : IVec S_ 32 :=
  let z : IVec S_ 32 := constantI S_ 32 0#32
  let d : IVec S_ 32 := select (cmpi .eq b z) (constantI S_ 32 1#32) b
  let r : IVec S_ 32 := Host.remsi a d
  select (andi (cmpi .ne (cmpi .slt r z) (cmpi .slt d z)) (cmpi .ne r z)) (addi r d) r

/-- The index of the batch device `c` computes, before the wrap of negative indices. -/
def batchW (c : Dev nD) : IVec S_ 32 :=
  addi (muli (constantI S_ 32 2#32) (Host.remui (Host.divui (constantI S_ 32 (Dev.word c)) (constantI S_ 32 4#32)) (constantI S_ 32 2#32)))
    (remW (Host.remui (Host.divui (constantI S_ 32 (Dev.word c)) (constantI S_ 32 1#32)) (constantI S_ 32 4#32)) (constantI S_ 32 2#32))

/-- The index as the slices take it. -/
def wrapW (w : IVec S_ 32) : IVec S_ 32 :=
  select (cmpi .slt w (constantI S_ 32 0#32)) (addi w (constantI S_ 32 4#32)) w

/-- It is the quarter of the output that device computes. -/
theorem wrapW_batchW (c : Dev nD) : (wrapW (batchW c) (Shape.Idx.first h_S_)).toInt = (qi c).val := by
  revert c
  decide +kernel

/-- One batch of an argument block. -/
def slab (a : FVec Ideal S4x256x16x64 .f32) (w : IVec S_ 32) : FVec Ideal S1x256x16x64 .f32 :=
  Host.dynamicSlice S1x256x16x64 a
    (fun k => BitVec.toInt (![wrapW w, constantI S_ 32 0#32, constantI S_ 32 0#32, constantI S_ 32 0#32] k (Shape.Idx.first h_S_)))
    sliceFits_S4x256x16x64_S1x256x16x64

/-- The batch cut out for device `c` is its own quarter's. -/
theorem slab_apply (a : FVec Ideal S4x256x16x64 .f32) (c : Dev nD) (u : Fin 1) (s : Fin 256) (h : Fin 16) (d : Fin 64) :
    slab a (batchW c) (ix4 u s h d) = a (ix4 (qi c) s h d) := by
  have hs : S4x256x16x64.Slices ![(qi c).val, 0, 0, 0] S1x256x16x64 := ⟨rfl, fun k => by
    match k with
    | ⟨0, _⟩ => exact (qi c).isLt
    | ⟨1, _⟩ => exact Nat.le_refl 256
    | ⟨2, _⟩ => exact Nat.le_refl 16
    | ⟨3, _⟩ => exact Nat.le_refl 64⟩
  refine (congrFun (Host.dynamicSlice_eq_extractStridedSlice S1x256x16x64 a _ ![(qi c).val, 0, 0, 0] _ hs fun k => ?_) _).trans ?_
  · match k with
    | ⟨0, _⟩ => exact wrapW_batchW c
    | ⟨1, _⟩ => rfl
    | ⟨2, _⟩ => rfl
    | ⟨3, _⟩ => rfl
  · refine congrArg a (funext fun k => Fin.ext ?_)
    have hu : u.val = 0 := by omega
    match k with
    | ⟨0, _⟩ => show (qi c).val + u.val = (qi c).val; omega
    | ⟨1, _⟩ => exact Nat.zero_add _
    | ⟨2, _⟩ => exact Nat.zero_add _
    | ⟨3, _⟩ => exact Nat.zero_add _

/-! ## What the host's lines write -/

section Lines
variable (c : Dev nD) (U : Valuation τ sig (Elt Ideal))

theorem line0_v4 : after (hostOps0 c) U main_v4
    = Host.remui (Host.divui (constantI S_ 32 (Dev.word c)) (constantI S_ 32 1#32)) (constantI S_ 32 4#32) := by
  after_results
  rfl
theorem line0_c_1 : after (hostOps0 c) U main_c_1 = constantI S_ 32 2#32 := by
  after_results
theorem line1_v5 : after hostOps0_1 U main_v5 = remW (U main_v4) (U main_c_1) := by
  after_results_simp_entrywise
  simp only [TRef.ofBuf_toBuf, id]
  rfl

/-- The word the slices wrap, of what the remainder left. -/
def indexW (w : IVec S_ 32) : IVec S_ 32 :=
  addi (muli (constantI S_ 32 2#32) (Host.remui (Host.divui (constantI S_ 32 (Dev.word c)) (constantI S_ 32 4#32)) (constantI S_ 32 2#32))) w

theorem line2_v28 : after (hostOps0_2 c) U main_v28
    = shapeCast S16x256x64 (transpose S1x16x256x64 [0, 2, 1, 3] (truncf .bf16 (mulf (slab (U main_arg0) (indexW c (U main_v5)))
        (broadcastInDim S1x256x16x64 ![] bcast_S_S1x256x16x64 (constant S_ .f32 0x3E000000#32))) bitsLt_bf16_f32)
        transposes_S1x256x16x64_S1x16x256x64_0_2_1_3) shapeCasts_S1x16x256x64_S16x256x64 := by
  after_results_simp_entrywise
  rfl
theorem line2_v31 : after (hostOps0_2 c) U main_v31
    = shapeCast S16x64x256 (transpose S1x16x64x256 [0, 2, 3, 1] (truncf .bf16 (slab (U main_arg1) (indexW c (U main_v5))) bitsLt_bf16_f32)
        transposes_S1x256x16x64_S1x16x64x256_0_2_3_1) shapeCasts_S1x16x64x256_S16x64x256 := by
  after_results_simp_entrywise
  rfl
theorem line2_v34 : after (hostOps0_2 c) U main_v34
    = shapeCast S16x64x256 (transpose S1x16x64x256 [0, 2, 3, 1] (truncf .bf16 (slab (U main_arg2) (indexW c (U main_v5))) bitsLt_bf16_f32)
        transposes_S1x256x16x64_S1x16x64x256_0_2_3_1) shapeCasts_S1x16x64x256_S16x64x256 := by
  after_results_simp_entrywise
  rfl
theorem line3_v38 : after hostOps1 U main_v38
    = extf (F := Ideal) (φ := .bf16) .f32 (transpose S4x256x16x64 [0, 3, 1, 2] (shapeCast S4x16x64x256 (U main_v35) shapeCasts_S64x64x256_S4x16x64x256)
        transposes_S4x16x64x256_S4x256x16x64_0_3_1_2) bitsLt_bf16_f32 := by
  after_results
  rfl
end Lines

end Cert.KernelIdealProof

end
-- ==== Proof.Value.Softmax.lean ====
module

public import Idealize.ShloMosaic.Lib.IdealHost

@[expose] public section

/-!
The mathematics of one row of attention over the extended reals, with no program in it: a row of 512 scores read as
two halves of 256, its maximum, its normalizing sum and its weighted sum of values.
-/

noncomputable section

namespace Cert.KernelIdealProof

open Idealize.ShloMosaic
open scoped BigOperators

/-- The maximum of a finite family of extended reals, from below all of them. -/
def top {n : ℕ} (s : Fin n → EReal) : EReal := Finset.univ.fold max ⊥ s

/-- One row of attention: the values weighted by the exponentials of the scores, each divided by their sum. -/
def attend {n : ℕ} (s v : Fin n → EReal) : EReal :=
  ∑ j, v j * Ideal.div (Ideal.exp (s j - top s)) (∑ i, Ideal.exp (s i - top s))

/-- The same row computed from two halves of the keys, as the kernel does it: a common maximum, a common sum, and each
    exponential multiplied by the sum's reciprocal. -/
def attend2 {n : ℕ} (a b va vb : Fin n → EReal) : EReal :=
  (∑ j, va j * (Ideal.exp (a j - max (top a) (top b))
      * Ideal.div 1 ((∑ i, Ideal.exp (a i - max (top a) (top b))) + ∑ i, Ideal.exp (b i - max (top a) (top b)))))
    + ∑ j, vb j * (Ideal.exp (b j - max (top a) (top b))
      * Ideal.div 1 ((∑ i, Ideal.exp (a i - max (top a) (top b))) + ∑ i, Ideal.exp (b i - max (top a) (top b))))

/-- The maximum is the family's supremum. -/
theorem top_eq_sup {n : ℕ} (s : Fin n → EReal) : top s = Finset.univ.sup s := rfl

/-- Position `j` of half `x` of 512 positions. -/
def half (x : Fin 2) (j : Fin 256) : Fin 512 := ⟨256 * x.val + j.val, by omega⟩

/-- The half that is not `x`. -/
def other (x : Fin 2) : Fin 2 := ⟨1 - x.val, by omega⟩

/-- Every position lies in half `x` or in the other. -/
theorem half_cover (x : Fin 2) (i : Fin 512) : (∃ j, i = half x j) ∨ ∃ j, i = half (other x) j := by
  rcases Nat.lt_or_ge i.val 256 with h | h
  · match x with
    | 0 => exact Or.inl ⟨⟨i.val, h⟩, Fin.ext (by simp [half])⟩
    | 1 => exact Or.inr ⟨⟨i.val, h⟩, Fin.ext (by simp [half, other])⟩
  · match x with
    | 0 => exact Or.inr ⟨⟨i.val - 256, by omega⟩, Fin.ext (by simp [half, other]; omega)⟩
    | 1 => exact Or.inl ⟨⟨i.val - 256, by omega⟩, Fin.ext (by simp [half]; omega)⟩

/-- A sum over 512 positions is the sum over half `x` plus the sum over the other half, whichever half `x` is. -/
theorem sum_halves (x : Fin 2) (f : Fin 512 → EReal) :
    ∑ i, f i = (∑ j, f (half x j)) + ∑ j, f (half (other x) j) := by
  have h : ∑ i, f i = (∑ j, f (half 0 j)) + ∑ j, f (half 1 j) := by
    refine (Fin.sum_univ_add (a := 256) (b := 256) f).trans ?_
    exact congrArg₂ (· + ·) (Finset.sum_congr rfl fun j _ => congrArg f (Fin.ext (by simp [half])))
      (Finset.sum_congr rfl fun j _ => congrArg f (Fin.ext (by simp [half]; omega)))
  match x with
  | 0 => exact h
  | 1 => exact h.trans (add_comm _ _)

/-- The maximum over 512 positions is the larger of the two halves' maxima. -/
theorem top_halves (x : Fin 2) (s : Fin 512 → EReal) :
    top s = max (top fun j => s (half x j)) (top fun j => s (half (other x) j)) := by
  simp only [top_eq_sup]
  refine le_antisymm (Finset.sup_le fun i _ => ?_) (max_le ?_ ?_)
  · rcases half_cover x i with ⟨j, rfl⟩ | ⟨j, rfl⟩
    · exact le_max_of_le_left (Finset.le_sup (f := fun j => s (half x j)) (Finset.mem_univ j))
    · exact le_max_of_le_right (Finset.le_sup (f := fun j => s (half (other x) j)) (Finset.mem_univ j))
  · exact Finset.sup_le fun j _ => Finset.le_sup (f := s) (Finset.mem_univ (half x j))
  · exact Finset.sup_le fun j _ => Finset.le_sup (f := s) (Finset.mem_univ (half (other x) j))

/-- An exponential is never negative. -/
theorem exp_nonneg (a : EReal) : 0 ≤ Ideal.exp a := by
  induction a with
  | bot => exact le_refl _
  | top => exact le_top
  | coe r => exact EReal.coe_nonneg.2 (Real.exp_pos r).le

/-- The normalizing sum of a row of finite scores is not zero: the largest score contributes one. -/
theorem norm_ne_zero (s : Fin 512 → EReal) (hs : ∀ j, ∃ r : ℝ, s j = r) : ∑ i, Ideal.exp (s i - top s) ≠ 0 := by
  obtain ⟨j, -, hj⟩ := Finset.exists_mem_eq_sup Finset.univ ⟨0, Finset.mem_univ _⟩ s
  obtain ⟨r, hr⟩ := hs j
  have h1 : Ideal.exp (s j - top s) = 1 := by
    rw [top_eq_sup, hj, hr, ← EReal.coe_sub, sub_self]
    show ((Real.exp 0 : ℝ) : EReal) = 1
    rw [Real.exp_zero, EReal.coe_one]
  refine ne_of_gt (lt_of_lt_of_le (by rw [h1]; exact zero_lt_one) (Finset.single_le_sum (f := fun i => Ideal.exp (s i - top s)) (fun i _ => exp_nonneg _) (Finset.mem_univ j)))

/-- **A row of attention over 512 keys is the row computed from its two halves**, in either order, when the scores are
    finite. -/
theorem attend_halves (x : Fin 2) (s v : Fin 512 → EReal) (hs : ∀ j, ∃ r : ℝ, s j = r) :
    attend2 (fun j => s (half x j)) (fun j => s (half (other x) j)) (fun j => v (half x j)) (fun j => v (half (other x) j))
      = attend s v := by
  have hz := norm_ne_zero s hs
  have e : attend s v = ∑ j, v j * (Ideal.exp (s j - top s) * Ideal.div 1 (∑ i, Ideal.exp (s i - top s))) :=
    Finset.sum_congr rfl fun j _ => by rw [Ideal.mul_one_div hz]
  rw [e, sum_halves x (fun j => v j * _)]
  unfold attend2
  rw [← top_halves x s, ← sum_halves x fun i => Ideal.exp (s i - top s)]

/-- The pattern of one eighth. -/
theorem ofBits_eighth : Ideal.ofBits .f32 0x3E000000#32 = ((1 / 8 : ℝ) : EReal) := by
  simp [Ideal.ofBits, Ideal.ieee]
  rw [← EReal.coe_mul]
  norm_num

/-- A finite sum of reals read in the extended reals. -/
theorem coe_sum {n : ℕ} (f : Fin n → ℝ) : ((∑ i, f i : ℝ) : EReal) = ∑ i, (f i : EReal) :=
  map_sum (⟨⟨Real.toEReal, EReal.coe_zero⟩, EReal.coe_add⟩ : ℝ →+ EReal) f Finset.univ

/-- Scaling the queries before the product is scaling the product, for finite queries and keys; and the product is
    finite. -/
theorem scaled_score {n : ℕ} (q k : Fin n → EReal) (c : ℝ) (hq : ∀ e, ∃ r : ℝ, q e = r) (hk : ∀ e, ∃ r : ℝ, k e = r) :
    (∑ e, q e * c * k e = (∑ e, q e * k e) * c) ∧ ∃ r : ℝ, (∑ e, q e * k e) * c = r := by
  choose q' hq using hq
  choose k' hk using hk
  have e1 : ∑ e, q e * k e = ((∑ e, q' e * k' e : ℝ) : EReal) := by
    rw [coe_sum]; exact Finset.sum_congr rfl fun e _ => by rw [hq, hk, EReal.coe_mul]
  have e2 : ∑ e, q e * c * k e = ((∑ e, q' e * c * k' e : ℝ) : EReal) := by
    rw [coe_sum]; exact Finset.sum_congr rfl fun e _ => by rw [hq, hk, EReal.coe_mul, EReal.coe_mul]
  refine ⟨?_, _, by rw [e1, ← EReal.coe_mul]⟩
  rw [e1, e2, ← EReal.coe_mul, Finset.sum_mul]
  exact congrArg _ (Finset.sum_congr rfl fun e _ => by ring)

end Cert.KernelIdealProof

end
-- ==== Proof.Value.Block.lean ====
/-
  What a device's region reads and what its host writes at the end, index by index, of the arguments at launch.
-/
module

public import proofs.«01_k».proof.Proof.KernelIdeal.Region
public import proofs.«01_k».proof.Proof.Value.Host
public import proofs.«01_k».proof.Proof.Value.Softmax

@[expose] public section

set_option maxRecDepth 16384

noncomputable section

namespace Cert.KernelIdealProof

open Cert.KernelIdeal Cert.KernelIdeal.Gen
open Idealize.ShloMosaic hiding ix4 ix3 ix2
open Idealize.ShloMosaic.ValueIdx
open Idealize.ShloMosaic.TcCoe

variable (m : (ℓ : Loc nD τ sig) → Buf (Elt Ideal) ℓ)

/-! ## The lines' operands -/

/-- The remainder the second function leaves is the last term of the batch index. -/
theorem index_word (c : Dev nD) : indexW c (V2 m c main_v5) = batchW c := by
  have e : V2 m c main_v5 = remW (V1 m c main_v4) (V1 m c main_c_1) := line1_v5 (V1 m c)
  have e4 := line0_v4 c (V0 m c)
  have e1 := line0_c_1 c (V0 m c)
  exact congrArg (indexW c) (e.trans (congrArg₂ remW e4 e1))

/-- No line before the slices writes an argument. -/
theorem arg_kept (c : Dev nD) (r : Ref sig .tc) (h1 : r ∉ hostOps0_1_W) (h0 : r ∉ hostOps0_W) : V2 m c r = m ((c : Thread nD τ).loc r) :=
  (V2_of m c r h1).trans (V1_of m c r h0)

/-- The arguments of device `c`. -/
def argQ (c : Dev nD) : FVec Ideal S4x256x16x64 .f32 := m ((c : Thread nD τ).loc main_arg0)
def argK (c : Dev nD) : FVec Ideal S4x256x16x64 .f32 := m ((c : Thread nD τ).loc main_arg1)
def argV (c : Dev nD) : FVec Ideal S4x256x16x64 .f32 := m ((c : Thread nD τ).loc main_arg2)

/-- A batch with heads first and positions last, as the host lays keys and values out. -/
theorem tall_apply (x : FVec Ideal S1x256x16x64 .f32) (h : Fin 16) (d : Fin 64) (j : Fin 256) :
    shapeCast S16x64x256 (transpose S1x16x64x256 [0, 2, 3, 1] (truncf .bf16 x bitsLt_bf16_f32)
      transposes_S1x256x16x64_S1x16x64x256_0_2_3_1) shapeCasts_S1x16x64x256_S16x64x256 (ix3 h d j) = x (ix4 0 j h d) := by
  refine (shapeCast_1abc_abc_apply _ _ h d j).trans ?_
  exact transpose_apply _ _ _ _ (ix4 (0 : Fin 1) j h d) fun b => by
    match b with
    | ⟨0, _⟩ => rfl
    | ⟨1, _⟩ => rfl
    | ⟨2, _⟩ => rfl
    | ⟨3, _⟩ => rfl

/-- The keys device `c`'s region reads. -/
theorem keys_apply (c : Dev nD) (h : Fin 16) (e : Fin 64) (j : Fin 256) :
    (ins m).k c (ix3 h e j) = argK m c (ix4 (qi c) j h e) := by
  refine (congrFun (line2_v31 c (V2 m c)) (ix3 h e j)).trans ((tall_apply _ h e j).trans ?_)
  rw [index_word, slab_apply]
  exact congrFun (arg_kept m c main_arg1 (by decide) (by decide)) _

/-- The values device `c`'s region reads. -/
theorem vals_apply (c : Dev nD) (h : Fin 16) (d : Fin 64) (j : Fin 256) :
    (ins m).v c (ix3 h d j) = argV m c (ix4 (qi c) j h d) := by
  refine (congrFun (line2_v34 c (V2 m c)) (ix3 h d j)).trans ((tall_apply _ h d j).trans ?_)
  rw [index_word, slab_apply]
  exact congrFun (arg_kept m c main_arg2 (by decide) (by decide)) _

/-- The queries device `c`'s region reads: an eighth of the argument's. -/
theorem queries_apply (c : Dev nD) (h : Fin 16) (i : Fin 256) (e : Fin 64) :
    (ins m).q c (ix3 h i e) = argQ m c (ix4 (qi c) i h e) * ((1 / 8 : ℝ) : EReal) := by
  refine (congrFun (line2_v28 c (V2 m c)) (ix3 h i e)).trans ((shapeCast_1abc_abc_apply _ _ h i e).trans ?_)
  refine (transpose_apply _ _ _ _ (ix4 (0 : Fin 1) i h e) fun b => by
    match b with
    | ⟨0, _⟩ => rfl
    | ⟨1, _⟩ => rfl
    | ⟨2, _⟩ => rfl
    | ⟨3, _⟩ => rfl).trans ?_
  refine congrArg₂ (fun a b : EReal => a * b) ?_ ofBits_eighth
  rw [index_word, slab_apply]
  exact congrFun (arg_kept m c main_arg0 (by decide) (by decide)) _

/-! ## The end -/

/-- What the host leaves in the output, of what the region left. -/
theorem output_apply (U : Valuation τ sig (Elt Ideal)) (o : FVec Ideal S64x64x256 .bf16) (ho : U main_v35 = o)
    (b : Fin 4) (i : Fin 256) (h : Fin 16) (d : Fin 64) :
    (StableHlo.after hostOps1 U main_v38 : FVec Ideal S4x256x16x64 .f32) (ix4 b i h d) = o (ix3 ⟨16 * b.val + h.val, by omega⟩ d i) := by
  have e : (StableHlo.after hostOps1 U main_v38 : FVec Ideal S4x256x16x64 .f32) (ix4 b i h d)
      = transpose S4x256x16x64 [0, 3, 1, 2] (shapeCast S4x16x64x256 o shapeCasts_S64x64x256_S4x16x64x256)
          transposes_S4x16x64x256_S4x256x16x64_0_3_1_2 (ix4 b i h d) := by
    rw [← ho]
    exact congrFun (line3_v38 U) (ix4 b i h d)
  refine e.trans ((transpose_apply _ _ _ _ (ix4 b h d i) fun a => by
    match a with
    | ⟨0, _⟩ => rfl
    | ⟨1, _⟩ => rfl
    | ⟨2, _⟩ => rfl
    | ⟨3, _⟩ => rfl).trans (shapeCast_apply _ _ _ (ix3 (⟨16 * b.val + h.val, by omega⟩ : Fin 64) d i) ?_))
  rw [Shape.rowMajor_val_four, Shape.rowMajor_val_three]
  show (((16 * b.val + h.val) * 64 + d.val) * 256 + i.val) = ((b.val * 16 + h.val) * 64 + d.val) * 256 + i.val
  omega

end Cert.KernelIdealProof

end
-- ==== Proof.Value.Head.lean ====
/-
  What one head's trip stores, over the extended reals: a row of attention from the two halves of the keys.
-/
module

public import proofs.«01_k».proof.Proof.KernelIdeal.Sched
public import proofs.«01_k».proof.Proof.Value.Softmax
public import Idealize.ShloMosaic.Lib.MatmulPlain
public import Idealize.ShloMosaic.Lib.ValueIdx
public import Idealize.ShloMosaic.Lib.ValueLayout
public import Idealize.ShloMosaic.Lib.ValueLayoutCasts

@[expose] public section

set_option maxRecDepth 16384

noncomputable section

namespace Cert.KernelIdealProof

open Cert.KernelIdeal Cert.KernelIdeal.Gen
open Idealize.ShloMosaic Idealize.ShloMosaic.ValueIdx
open scoped BigOperators

/-- The score of query row `i` against key column `j`. -/
def score (q : Vec Ideal S1x256x64 .bf16) (k : Vec Ideal S1x64x256 .bf16) (i j : Fin 256) : EReal :=
  ∑ e : Fin 64, q (ix3 0 i e) * k (ix3 0 e j)

variable (q : Vec Ideal S1x256x64 .bf16) (kl ko vl vo : Vec Ideal S1x64x256 .bf16)

/-- A product of queries with keys is the table of scores. -/
theorem pay2_apply (i j : Fin 256) : k0_pay2 (F := Ideal) q kl (ix2 i j) = score q kl i j := by
  refine (Ideal.matmul_plain_apply (M := 256) (K := 64) (N := 256) none (k0_pay1 (F := Ideal) q)
    (shapeCast S64x256 kl shapeCasts_S1x64x256_S64x256) (constant S256x256 .f32 0x00000000#32) i j).trans ?_
  rw [constant_apply, Ideal.ofBits_zero_f32, zero_add]
  exact Finset.sum_congr rfl fun e _ => congrArg₂ (· * ·)
    (shapeCast_1ab_ab_apply q shapeCasts_S1x256x64_S256x64 i e) (shapeCast_1ab_ab_apply kl shapeCasts_S1x64x256_S64x256 e j)

/-- The second product is the same with the other half's keys. -/
theorem pay3_apply (i j : Fin 256) : k0_pay3 (F := Ideal) q ko (ix2 i j) = score q ko i j := pay2_apply q ko i j

/-- The row maximum of a square table. -/
theorem rowMax_apply (x : FVec Ideal S256x256 .f32) (i : Fin 256) :
    multiReduction .maximumf [1] S256 x 0xFF800000#32 reduces_S256x256_S256 (.inl rfl) rfl (ix1 i) = top fun j => x (ix2 i j) := by
  refine (Ideal.multiReduction_maximumf_single (a := (1 : Fin S256x256.rank)) x _ reduces_S256x256_S256 (.inl rfl) rfl (ix1 i)).trans ?_
  have e : (FloatOps.ofBits (F := Ideal) .f32 0xFF800000#32 : EReal) = ⊥ := by
    show Ideal.ofBits .f32 0xFF800000#32 = ⊥
    simp [Ideal.ofBits, Ideal.ieee]
  refine (congrArg (fun b : EReal => Finset.univ.fold max b _) e).trans ?_
  refine congrArg (fun f => Finset.univ.fold max ⊥ f) (funext fun j => congrArg x ?_)
  exact (eq_ix2 _).trans (congrArg₂ ix2 (Fin.ext rfl) (Fin.ext rfl))

/-- The row sum of a square table. -/
theorem rowSum_apply (x : FVec Ideal S256x256 .f32) (i : Fin 256) :
    multiReduction .add [1] S256 x 0x00000000#32 reduces_S256x256_S256 (.inl rfl) rfl (ix1 i) = ∑ j : Fin 256, x (ix2 i j) := by
  refine (Ideal.multiReduction_add_single (a := (1 : Fin S256x256.rank)) x _ reduces_S256x256_S256 (.inl rfl) rfl (ix1 i)).trans ?_
  refine Finset.sum_congr rfl fun j _ => congrArg x ?_
  exact (eq_ix2 _).trans (congrArg₂ ix2 (Fin.ext rfl) (Fin.ext rfl))

/-- A column laid along every column of a square table. -/
theorem bcastCol_apply (x : FVec Ideal S256x1 .f32) (i j : Fin 256) :
    broadcastTo S256x256 x broadcasts_S256x1_S256x256 (ix2 i j) = x (ix2 i 0) :=
  broadcastTo_apply x _ _ _ fun a => by
    match a with
    | ⟨0, _⟩ => rfl
    | ⟨1, _⟩ => rfl

/-- The common maximum of a query row over both halves. -/
theorem pay4_apply (i : Fin 256) (u : Fin 1) : k0_pay4 (F := Ideal) q kl ko (ix2 i u) = max (top (score q kl i)) (top (score q ko i)) := by
  refine congrArg₂ max ?_ ?_
  · refine (shapeCast_a_a1_apply _ shapeCasts_S256_S256x1 i u).trans ((rowMax_apply _ i).trans ?_)
    exact congrArg top (funext fun j => pay2_apply q kl i j)
  · refine (shapeCast_a_a1_apply _ shapeCasts_S256_S256x1 i u).trans ((rowMax_apply _ i).trans ?_)
    exact congrArg top (funext fun j => pay3_apply q ko i j)

/-- The exponentials of the near half's scores. -/
theorem pay5_apply (i j : Fin 256) : k0_pay5 (F := Ideal) q kl ko (ix2 i j)
    = Ideal.exp (score q kl i j - max (top (score q kl i)) (top (score q ko i))) :=
  congrArg Ideal.exp (congrArg₂ (· - ·) (pay2_apply q kl i j) ((bcastCol_apply _ i j).trans (pay4_apply q kl ko i 0)))

/-- The exponentials of the other half's scores. -/
theorem pay6_apply (i j : Fin 256) : k0_pay6 (F := Ideal) q kl ko (ix2 i j)
    = Ideal.exp (score q ko i j - max (top (score q kl i)) (top (score q ko i))) :=
  congrArg Ideal.exp (congrArg₂ (· - ·) (pay3_apply q ko i j) ((bcastCol_apply _ i j).trans (pay4_apply q kl ko i 0)))

/-- The reciprocal of a query row's normalizing sum over both halves. -/
theorem pay7_apply (i : Fin 256) (u : Fin 1) : k0_pay7 (F := Ideal) q kl ko (ix2 i u)
    = Ideal.div 1 ((∑ j, Ideal.exp (score q kl i j - max (top (score q kl i)) (top (score q ko i))))
        + ∑ j, Ideal.exp (score q ko i j - max (top (score q kl i)) (top (score q ko i)))) := by
  refine congrArg₂ Ideal.div Ideal.ofBits_one_f32 (congrArg₂ (· + ·) ?_ ?_)
  · refine (shapeCast_a_a1_apply _ shapeCasts_S256_S256x1 i u).trans ((rowSum_apply _ i).trans ?_)
    exact Finset.sum_congr rfl fun j _ => pay5_apply q kl ko i j
  · refine (shapeCast_a_a1_apply _ shapeCasts_S256_S256x1 i u).trans ((rowSum_apply _ i).trans ?_)
    exact Finset.sum_congr rfl fun j _ => pay6_apply q kl ko i j

/-- Values times transposed weights. -/
theorem weigh_apply (v : Vec Ideal S1x64x256 .bf16) (p : FVec Ideal S256x256 .bf16) (d : Fin 64) (i : Fin 256) :
    matmul dot_S64x256_S256x256_S64x256_1_1_0_0_n_n none (shapeCast S64x256 v shapeCasts_S1x64x256_S64x256 : FVec Ideal S64x256 .bf16) p
        (constant S64x256 .f32 0x00000000#32) (ix2 d i) = ∑ j : Fin 256, v (ix3 0 d j) * p (ix2 i j) := by
  refine (Ideal.matmul_transposedRhs_apply (M := 64) (K := 256) (N := 256) none
    (shapeCast S64x256 v shapeCasts_S1x64x256_S64x256 : FVec Ideal S64x256 .bf16) p (constant S64x256 .f32 0x00000000#32) d i).trans ?_
  rw [constant_apply, Ideal.ofBits_zero_f32, zero_add]
  exact Finset.sum_congr rfl fun j _ => congrArg (· * _) (shapeCast_1ab_ab_apply v shapeCasts_S1x64x256_S64x256 d j)

/-- **What one head's trip stores at feature `d` of query row `i`: the row of attention from the two halves.** -/
theorem rowv_apply (d : Fin 64) (i : Fin 256) : rowv (F := Ideal) q kl ko vl vo (ix3 0 d i)
    = attend2 (score q kl i) (score q ko i) (fun j => vl (ix3 0 d j)) fun j => vo (ix3 0 d j) := by
  unfold rowv k0_pay37
  refine (shapeCast_ab_1ab_apply (a := 64) (b := 256) _ shapeCasts_S64x256_S1x64x256 0 d i).trans ?_
  refine congrArg₂ (fun a b : EReal => a + b) ?_ ?_
  · refine (weigh_apply vl _ d i).trans (Finset.sum_congr rfl fun j _ => congrArg (_ * ·) ?_)
    exact congrArg₂ (· * ·) (pay5_apply q kl ko i j) ((bcastCol_apply _ i j).trans (pay7_apply q kl ko i 0))
  · refine (weigh_apply vo _ d i).trans (Finset.sum_congr rfl fun j _ => congrArg (_ * ·) ?_)
    exact congrArg₂ (· * ·) (pay6_apply q kl ko i j) ((bcastCol_apply _ i j).trans (pay7_apply q kl ko i 0))

end Cert.KernelIdealProof

end
-- ==== Proof.Value.Reference.lean ====
/-
  What the reference computes at an index, over the extended reals: a row of attention over all 512 keys.
-/
module

public import proofs.«01_k».proof.Proof.Gen.ReferenceIdeal.Run
public import proofs.«01_k».proof.Proof.Value.Softmax
public import Idealize.ShloMosaic.Lib.ValueIdx
public import Idealize.ShloMosaic.Lib.ValueLayout
public import Idealize.ShloMosaic.Lib.KernelVsHost
public import Idealize.ShloMosaic.Lib.Pipeline.Value

@[expose] public section

set_option maxRecDepth 16384

noncomputable section

namespace Cert.ReferenceIdealProof

open Cert.ReferenceIdeal Cert.ReferenceIdeal.Gen Cert.KernelIdealProof
open Idealize.ShloMosaic Idealize.ShloMosaic.ValueIdx
open scoped BigOperators

variable (q k v : FVec Ideal S4x512x16x64 .f32)

/-- The scaled scores, as the reference prints them. -/
def scores : FVec Ideal S4x16x512x512 .f32 :=
  mulf (Host.dotGeneral dot_S4x512x16x64_S4x512x16x64_S4x16x512x512_3_3_1_1_02_02 none q k)
    (broadcastInDim S4x16x512x512 ![] bcast_S_S4x16x512x512 (constant S_ .f32 0x3E000000#32))

/-- A number per row laid along the row, as the reference prints it. -/
def spread (x : FVec Ideal S4x16x512 .f32) : FVec Ideal S4x16x512x512 .f32 :=
  broadcastInDim S4x16x512x512 ![0, 1, 2, 3] bcast_S4x16x512x1_S4x16x512x512_0_1_2_3
    (broadcastInDim S4x16x512x1 ![0, 1, 2] bcast_S4x16x512_S4x16x512x1_0_1_2 x)

/-- The exponentials of the scores less their row's maximum, as the reference prints them. -/
def exps : FVec Ideal S4x16x512x512 .f32 :=
  Host.exp (subf (scores q k) (spread (Host.reduce FloatOps.maximumf (scores q k) (constant S_ .f32 0xFF800000#32)
    reducesTo_S4x16x512x512_S4x16x512_d3 h_S_)))

/-- The reference's result, as it prints it. -/
def result : FVec Ideal S4x512x16x64 .f32 :=
  transpose S4x512x16x64 [0, 3, 1, 2]
    (Host.dotGeneral dot_S4x512x16x64_S4x16x512x512_S4x16x64x512_1_3_3_2_02_01 none v
      (Host.divf (exps q k) (spread (Host.reduceAdd (exps q k) (constant S_ .f32 0x00000000#32)
        reducesTo_S4x16x512x512_S4x16x512_d3 h_S_))))
    transposes_S4x16x64x512_S4x512x16x64_0_3_1_2

/-- The scaled score of batch `b`, head `h`, query `i`, key `j`. -/
def score (b : Fin 4) (h : Fin 16) (i j : Fin 512) : EReal :=
  (∑ e : Fin 64, q (ix4 b i h e) * k (ix4 b j h e)) * ((1 / 8 : ℝ) : EReal)

theorem scores_apply (b : Fin 4) (h : Fin 16) (i j : Fin 512) : scores q k (ix4 b h i j) = score q k b h i j := by
  refine congrArg₂ (fun a b : EReal => a * b) ?_ ofBits_eighth
  let D := dot_S4x512x16x64_S4x512x16x64_S4x16x512x512_3_3_1_1_02_02
  refine (Ideal.dotGeneral_apply D none _ q k (ix4 b h i j)).trans ?_
  rw [← Equiv.sum_comp (contrEquiv1 D 64 rfl rfl).symm]
  refine Finset.sum_congr rfl fun e _ => ?_
  have he := contrEquiv1_symm_val D 64 rfl rfl e
  refine congrArg₂ (fun a b : EReal => a * b) (congrArg q ?_) (congrArg k ?_)
  · funext a; apply Fin.ext
    match a with
    | ⟨0, _⟩ => rfl
    | ⟨1, _⟩ => rfl
    | ⟨2, _⟩ => rfl
    | ⟨3, _⟩ => exact he
  · funext a; apply Fin.ext
    match a with
    | ⟨0, _⟩ => rfl
    | ⟨1, _⟩ => rfl
    | ⟨2, _⟩ => rfl
    | ⟨3, _⟩ => exact he

theorem spread_apply (x : FVec Ideal S4x16x512 .f32) (b : Fin 4) (h : Fin 16) (i j : Fin 512) :
    spread x (ix4 b h i j) = x (ix3 b h i) := by
  refine (broadcastInDim_apply _ _ _ _ (ix4 b h i (0 : Fin 1)) fun a => ?_).trans
    (broadcastInDim_apply _ _ _ _ (ix3 b h i) fun a => ?_)
  · match a with
    | ⟨0, _⟩ => rfl
    | ⟨1, _⟩ => rfl
    | ⟨2, _⟩ => rfl
    | ⟨3, _⟩ => rfl
  · match a with
    | ⟨0, _⟩ => rfl
    | ⟨1, _⟩ => rfl
    | ⟨2, _⟩ => rfl

/-- The last axis is the one a row reduction drops. -/
theorem reduces_last : S4x16x512x512.Reduces [3] S4x16x512 := by decide

theorem lift_last (b : Fin 4) (h : Fin 16) (i j : Fin 512) : reduces_last.lift (ix3 b h i) j = ix4 b h i j := by
  funext a; apply Fin.ext
  match a with
  | ⟨0, _⟩ => rfl
  | ⟨1, _⟩ => rfl
  | ⟨2, _⟩ => rfl
  | ⟨3, _⟩ => rfl

theorem rowMax_apply (x : FVec Ideal S4x16x512x512 .f32) (b : Fin 4) (h : Fin 16) (i : Fin 512) :
    Host.reduce FloatOps.maximumf x (constant S_ .f32 0xFF800000#32) reducesTo_S4x16x512x512_S4x16x512_d3 h_S_ (ix3 b h i)
      = top fun j => x (ix4 b h i j) := by
  refine (congrFun (hostReduce_maximumf_eq_multiReduction x _ reducesTo_S4x16x512x512_S4x16x512_d3 h_S_ reduces_last (.inl rfl) rfl) _).trans ?_
  refine (Ideal.multiReduction_maximumf_single (a := (3 : Fin S4x16x512x512.rank)) x _ reduces_last (.inl rfl) rfl (ix3 b h i)).trans ?_
  have e : (FloatOps.ofBits (F := Ideal) .f32 0xFF800000#32 : EReal) = ⊥ := by
    show Ideal.ofBits .f32 0xFF800000#32 = ⊥
    simp [Ideal.ofBits, Ideal.ieee]
  refine (congrArg (fun b : EReal => Finset.univ.fold max b _) e).trans ?_
  exact congrArg (fun f => Finset.univ.fold max ⊥ f) (funext fun j => congrArg x (lift_last b h i j))

theorem rowSum_apply (x : FVec Ideal S4x16x512x512 .f32) (b : Fin 4) (h : Fin 16) (i : Fin 512) :
    Host.reduceAdd x (constant S_ .f32 0x00000000#32) reducesTo_S4x16x512x512_S4x16x512_d3 h_S_ (ix3 b h i)
      = ∑ j : Fin 512, x (ix4 b h i j) := by
  refine (Ideal.hostReduceAdd_single (a := (3 : Fin S4x16x512x512.rank)) reducesTo_S4x16x512x512_S4x16x512_d3 reduces_last x _ (ix3 b h i)).trans ?_
  refine (congrArg (fun z : EReal => z + _) Ideal.ofBits_zero_f32).trans ((zero_add _).trans ?_)
  exact Finset.sum_congr rfl fun j _ => congrArg x (lift_last b h i j)

theorem exps_apply (b : Fin 4) (h : Fin 16) (i j : Fin 512) :
    exps q k (ix4 b h i j) = Ideal.exp (score q k b h i j - top (score q k b h i)) := by
  refine congrArg Ideal.exp (congrArg₂ (fun a b : EReal => a - b) (scores_apply q k b h i j) ?_)
  refine (spread_apply _ b h i j).trans ((rowMax_apply _ b h i).trans ?_)
  exact congrArg top (funext fun j => scores_apply q k b h i j)

/-- **The reference's result at batch `b`, position `i`, head `h`, feature `d`: the row of attention over all keys.** -/
theorem result_apply (b : Fin 4) (i : Fin 512) (h : Fin 16) (d : Fin 64) :
    result q k v (ix4 b i h d) = attend (score q k b h i) fun j => v (ix4 b j h d) := by
  unfold result
  refine (transpose_apply _ _ _ _ (ix4 b h d i) fun a => ?_).trans ?_
  · match a with
    | ⟨0, _⟩ => rfl
    | ⟨1, _⟩ => rfl
    | ⟨2, _⟩ => rfl
    | ⟨3, _⟩ => rfl
  let D := dot_S4x512x16x64_S4x16x512x512_S4x16x64x512_1_3_3_2_02_01
  refine (Ideal.dotGeneral_apply D none _ v _ (ix4 b h d i)).trans ?_
  rw [← Equiv.sum_comp (contrEquiv1 D 512 rfl rfl).symm]
  refine Finset.sum_congr rfl fun j _ => ?_
  have hj := contrEquiv1_symm_val D 512 rfl rfl j
  have el : D.lhsIdx (ix4 b h d i) ((contrEquiv1 D 512 rfl rfl).symm j) = ix4 b j h d := by
    funext a; apply Fin.ext
    match a with
    | ⟨0, _⟩ => rfl
    | ⟨1, _⟩ => exact hj
    | ⟨2, _⟩ => rfl
    | ⟨3, _⟩ => rfl
  have er : D.rhsIdx (ix4 b h d i) ((contrEquiv1 D 512 rfl rfl).symm j) = ix4 b h i j := by
    funext a; apply Fin.ext
    match a with
    | ⟨0, _⟩ => rfl
    | ⟨1, _⟩ => rfl
    | ⟨2, _⟩ => rfl
    | ⟨3, _⟩ => exact hj
  rw [el, er]
  refine congrArg (fun z : EReal => v (ix4 b j h d) * z) (congrArg₂ Ideal.div (exps_apply q k b h i j) ?_)
  refine (spread_apply _ b h i j).trans ((rowSum_apply _ b h i).trans ?_)
  exact Finset.sum_congr rfl fun j _ => exps_apply q k b h i j

end Cert.ReferenceIdealProof

end
-- ==== Proof.Value.Equal.lean ====
/-
  The kernel computes its block of the reference's result, wherever the queries and keys are finite.
-/
module

public import proofs.«01_k».proof.Proof.KernelIdeal.Record
public import proofs.«01_k».proof.Proof.Value.Block
public import proofs.«01_k».proof.Proof.Value.Head
public import proofs.«01_k».proof.Proof.Value.Reference
public import Idealize.ShloMosaic.Lib.Layout

@[expose] public section

set_option maxRecDepth 16384

noncomputable section

namespace Cert.KernelIdealProof

open Cert.KernelIdeal Cert.KernelIdeal.Gen
open Idealize.ShloMosaic hiding ix4 ix3 ix2
open Idealize.ShloMosaic.ValueIdx
open Idealize.ShloMosaic.TcCoe
open scoped BigOperators

/-! ## Devices and blocks -/

/-- Which half of the sequence device `c` holds. -/
def side (c : Dev nD) : Fin 2 := ⟨c.val / 8, Nat.div_lt_of_lt_mul c.isLt⟩

theorem qi_owner : ∀ (c : Dev nD) (b : Fin 4), qi (owner c b) = b := by decide +kernel
theorem qi_px : ∀ c : Dev nD, qi (px c) = qi c := by decide +kernel
theorem side_owner : ∀ (c : Dev nD) (b : Fin 4), side (owner c b) = side c := by decide +kernel
theorem side_px : ∀ c : Dev nD, side (px c) = other (side c) := by decide +kernel

/-- Device `c`'s block of a whole array. -/
def share (c : Dev nD) (f : FVec Ideal ⟨4, ![4, 512, 16, 64]⟩ .f32) : FVec Ideal S4x256x16x64 .f32 :=
  Layout.blockN ⟨4, ![4, 256, 16, 64]⟩ ⟨4, ![4, 512, 16, 64]⟩ (Layout.meshBlock [2, 2, 4] ![[], [0], [], []] c) f

theorem mesh_side : ∀ c : Dev nD, Layout.meshLin [2, 2, 4] c.val [0] = c.val / 8 := by decide +kernel

/-- It is the half of the sequence the device's side names. -/
theorem share_apply (c : Dev nD) (f : FVec Ideal ⟨4, ![4, 512, 16, 64]⟩ .f32) (b : Fin 4) (s : Fin 256) (h : Fin 16) (d : Fin 64) :
    share c f (ix4 b s h d) = f (ix4 b (half (side c) s) h d) := by
  refine congrArg f (funext fun k => Fin.ext ?_)
  match k with
  | ⟨0, _⟩ => show 0 * 4 + b.val = b.val; omega
  | ⟨1, _⟩ =>
    show Layout.meshLin [2, 2, 4] c.val [0] * 256 + s.val = 256 * (c.val / 8) + s.val
    rw [mesh_side, Nat.mul_comm]
  | ⟨2, _⟩ => show 0 * 16 + h.val = h.val; omega
  | ⟨3, _⟩ => show 0 * 64 + d.val = d.val; omega

/-- Every position is at a place of one of the halves, and a device holds that half. -/
theorem exists_half (j : Fin 512) : ∃ (c : Dev nD) (s : Fin 256), half (side c) s = j := by
  refine ⟨⟨8 * (j.val / 256), by have := j.isLt; simp only [nD]; omega⟩, ⟨j.val % 256, Nat.mod_lt _ (by decide)⟩, Fin.ext ?_⟩
  show 256 * (8 * (j.val / 256) / 8) + j.val % 256 = j.val
  omega

/-- An array whose blocks hold reals holds reals. -/
theorem real_of_shares (f : FVec Ideal ⟨4, ![4, 512, 16, 64]⟩ .f32) (hf : ∀ (c : Dev nD) x, ∃ r : ℝ, share c f x = (r : EReal))
    (b : Fin 4) (j : Fin 512) (h : Fin 16) (e : Fin 64) : ∃ r : ℝ, f (ix4 b j h e) = (r : EReal) := by
  obtain ⟨c, s, rfl⟩ := exists_half j
  rw [← share_apply c f b s h e]
  exact hf c _

/-! ## One head -/

theorem rowQ_apply (f : CQ Ideal) (h : Fin 16) (i : Fin 256) (e : Fin 64) : rowQ f h (ix3 0 i e) = f (ix3 h i e) := by
  refine congrArg f (funext fun k => Fin.ext ?_)
  match k with
  | ⟨0, _⟩ => show h.val + 1 * 0 = h.val; omega
  | ⟨1, _⟩ => show 0 + 1 * i.val = i.val; omega
  | ⟨2, _⟩ => show 0 + 1 * e.val = e.val; omega
theorem rowK_apply (f : CK Ideal) (h : Fin 16) (e : Fin 64) (j : Fin 256) : rowK f h (ix3 0 e j) = f (ix3 h e j) := by
  refine congrArg f (funext fun k => Fin.ext ?_)
  match k with
  | ⟨0, _⟩ => show h.val + 1 * 0 = h.val; omega
  | ⟨1, _⟩ => show 0 + 1 * e.val = e.val; omega
  | ⟨2, _⟩ => show 0 + 1 * j.val = j.val; omega

/-- Where the output holds a head: quarter `b` is its owner's. -/
theorem res_apply (X : Ins Ideal) (c : Dev nD) (b : Fin 4) (h : Fin 16) (d : Fin 64) (i : Fin 256) :
    res X c (ix3 (⟨16 * b.val + h.val, by omega⟩ : Fin 64) d i) = outv X (owner c b) h (ix3 0 d i) := by
  have eb : (⟨(16 * b.val + h.val) / 16, by omega⟩ : Fin 4) = b := Fin.ext (by show (16 * b.val + h.val) / 16 = b.val; omega)
  have eh : (⟨(16 * b.val + h.val) % 16, Nat.mod_lt _ (by decide)⟩ : Fin 16) = h :=
    Fin.ext (by show (16 * b.val + h.val) % 16 = h.val; omega)
  show outv X (owner c ⟨(16 * b.val + h.val) / 16, _⟩) ⟨(16 * b.val + h.val) % 16, _⟩ _ = _
  rw [eb, eh]
  refine congrArg _ (funext fun k => ?_)
  match k with
  | ⟨0, _⟩ => rfl
  | ⟨1, _⟩ => rfl
  | ⟨2, _⟩ => rfl

section Equal
variable (m : (ℓ : Loc nD τ sig) → Buf (Elt Ideal) ℓ) (Q K V : FVec Ideal ⟨4, ![4, 512, 16, 64]⟩ .f32)
variable (hQ : ∀ c, argQ m c = share c Q) (hK : ∀ c, argK m c = share c K) (hV : ∀ c, argV m c = share c V)
variable (fQ : ∀ b j h e, ∃ r : ℝ, Q (ix4 b j h e) = (r : EReal)) (fK : ∀ b j h e, ∃ r : ℝ, K (ix4 b j h e) = (r : EReal))
include hQ hK fQ fK

/-- The scores of device `a`'s queries against device `c`'s keys are the reference's. -/
theorem score_eq (a c : Dev nD) (hac : qi c = qi a) (h : Fin 16) (i j : Fin 256) :
    score (rowQ ((ins m).q a) h) (rowK ((ins m).k c) h) i j
      = ReferenceIdealProof.score Q K (qi a) h (half (side a) i) (half (side c) j) := by
  refine Eq.trans ?_ (scaled_score (fun e => Q (ix4 (qi a) (half (side a) i) h e)) (fun e => K (ix4 (qi a) (half (side c) j) h e)) (1 / 8)
    (fun e => fQ _ _ _ e) fun e => fK _ _ _ e).1
  refine Finset.sum_congr rfl fun e _ => ?_
  rw [rowQ_apply, rowK_apply, queries_apply, keys_apply, hQ, hK, share_apply, share_apply, hac]

include hV

/-- A head device `a` computes is the reference's, at its batch and its half of the sequence. -/
theorem head_eq (a : Dev nD) (h : Fin 16) (d : Fin 64) (i : Fin 256) :
    outv (ins m) a h (ix3 0 d i) = ReferenceIdealProof.result Q K V (ix4 (qi a) (half (side a) i) h d) := by
  have hv : ∀ c, qi c = qi a → ∀ j, rowK ((ins m).v c) h (ix3 0 d j) = V (ix4 (qi a) (half (side c) j) h d) := fun c hc j => by
    rw [rowK_apply, vals_apply, hV, share_apply, hc]
  rw [ReferenceIdealProof.result_apply]
  refine (rowv_apply _ _ _ _ _ d i).trans (Eq.trans ?_ (attend_halves (side a)
    (ReferenceIdealProof.score Q K (qi a) h (half (side a) i)) (fun j => V (ix4 (qi a) j h d)) fun j =>
      (scaled_score (fun e => Q (ix4 (qi a) (half (side a) i) h e)) (fun e => K (ix4 (qi a) j h e)) (1 / 8)
        (fun e => fQ _ _ _ e) fun e => fK _ _ _ e).2))
  rw [← side_px]
  have e1 : score (rowQ ((ins m).q a) h) (rowK ((ins m).k a) h) i = _ := funext fun j => score_eq m Q K hQ hK fQ fK a a rfl h i j
  have e2 : score (rowQ ((ins m).q a) h) (rowK ((ins m).k (px a)) h) i = _ :=
    funext fun j => score_eq m Q K hQ hK fQ fK a (px a) (qi_px a) h i j
  rw [e1, e2, funext (hv a rfl), funext (hv (px a) (qi_px a))]

/-- What device `c` ends holding is its block of the reference's result. -/
theorem output_eq (c : Dev nD) : (V5 m (outs m) c main_v38 : FVec Ideal S4x256x16x64 .f32) = share c (ReferenceIdealProof.result Q K V) := by
  have e (b : Fin 4) (i : Fin 256) (h : Fin 16) (d : Fin 64) : (V5 m (outs m) c main_v38 : FVec Ideal S4x256x16x64 .f32) (ix4 b i h d)
      = share c (ReferenceIdealProof.result Q K V) (ix4 b i h d) := by
    refine (output_apply (V4 m (outs m) c) (res (ins m) c) (V4_v35 m c) b i h d).trans ?_
    rw [share_apply, res_apply, head_eq m Q K V hQ hK hV fQ fK, qi_owner, side_owner]
  refine funext fun (x : S4x256x16x64.Idx) => ?_
  have hx : x = ix4 (x 0) (x 1) (x 2) (x 3) := funext fun k => by
    match k with
    | ⟨0, _⟩ => rfl
    | ⟨1, _⟩ => rfl
    | ⟨2, _⟩ => rfl
    | ⟨3, _⟩ => rfl
  rw [hx]
  exact e (x 0) (x 1) (x 2) (x 3)
end Equal

end Cert.KernelIdealProof

end
-- ==== Proof.Value.Finite.lean ====
/-
  What the precondition says of a device's blocks: the queries and the keys are reals.
-/
module

public import proofs.«01_k».proof.Pre_finite_queries_and_keys_KernelIdeal
public import Idealize.ShloMosaic.PureOps.Ideal.Laws

@[expose] public section

noncomputable section

namespace Cert.KernelIdealProof

open Idealize.ShloMosaic

/-- An extended real below infinity in absolute value is a real. -/
theorem real_of_abs_lt (a : EReal) (h : Ideal.cmp .olt (max a (-a)) (Ideal.ofBits .f32 0x7F800000#32) = 1#1) : ∃ r : ℝ, a = (r : EReal) := by
  have htop : Ideal.ofBits .f32 0x7F800000#32 = ⊤ := by simp [Ideal.ofBits, Ideal.ieee]
  rw [htop] at h
  unfold Ideal.cmp at h
  have hlt : max a (-a) < ⊤ := by
    by_contra hn
    simp [hn] at h
  induction a using EReal.rec with
  | bot => simp at hlt
  | coe r => exact ⟨r, rfl⟩
  | top => simp at hlt

/-- The precondition, read at an index. -/
theorem real_of_pre [Cert.Pre_finite_queries_and_keys_KernelIdeal.Facts] (q k v : FVec Ideal ⟨4, ![4, 256, 16, 64]⟩ .f32)
    (h : Cert.Pre_finite_queries_and_keys_KernelIdeal.fn (F := Ideal) q k v = fun _ => 1#1) (x : Shape.Idx ⟨4, ![4, 256, 16, 64]⟩) :
    (∃ r : ℝ, q x = (r : EReal)) ∧ ∃ r : ℝ, k x = (r : EReal) := by
  have split : ∀ a b : BitVec 1, a &&& b = 1#1 → a = 1#1 ∧ b = 1#1 := by decide
  obtain ⟨h1, h2⟩ := split _ _ (congrFun h x)
  exact ⟨real_of_abs_lt _ h1, real_of_abs_lt _ h2⟩

end Cert.KernelIdealProof

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Kernel.Launch
public import proofs.«01_k».proof.Proof.KernelIdeal.Launch
public import proofs.«01_k».proof.Proof.Value.Equal
public import proofs.«01_k».proof.Proof.Value.Finite
public import Idealize.ShloMosaic.Lib.Quiescent
public import Idealize.ShloMosaic.Adequacy
public import Idealize.ShloMosaic.Init

@[expose] public section

noncomputable section

namespace Cert.Proof

open Idealize.ShloMosaic Idealize.SL.Sem

/-- The kernel terminates with its arguments unchanged and every counter at zero. -/
theorem frame_kernel : Cert.quiescent_Kernel := fun m ρ _ =>
  (θ_run Cert.Kernel.defs _ _).mono (fun _ h => ⟨fun c => ⟨(h.1 c).1, (h.1 c).2.1, (h.1 c).2.2.1⟩, h.2⟩)
    (Cert.KernelProof.run (F := Bits) m ρ)

/-- The same of the kernel over the extended reals. -/
theorem frame_kernelIdeal : Cert.quiescent_KernelIdeal := fun m ρ _ =>
  (θ_run Cert.KernelIdeal.defs _ _).mono (fun _ h => ⟨fun c => ⟨(h.1 c).1, (h.1 c).2.1, (h.1 c).2.2.1⟩, h.2⟩)
    (Cert.KernelIdealProof.run (F := Ideal) m ρ)

/-- The same of the reference, which declares no counter. -/
theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The one shape relation the precondition's function takes, over a device's blocks and over the whole arrays. -/
theorem preFacts : Cert.Pre_finite_queries_and_keys_KernelIdeal.Facts := ⟨by decide⟩
theorem preFactsWhole : Cert.Pre_finite_queries_and_keys_ReferenceIdeal.Facts := ⟨by decide⟩

/-- On finite queries and keys each device of the kernel ends holding its block of what the reference computes. -/
theorem algebraic : Cert.algebraic_KernelIdeal_ReferenceIdeal_pre_finite_queries_and_keys_KernelIdeal
    (hPre_finite_queries_and_keys_KernelIdeal := preFacts) := fun m ρ m' ρ' hpre hin => by
  letI := preFacts
  have fin (c) (x) := Cert.KernelIdealProof.real_of_pre _ _ _ (hpre c) x
  have hQ (c) : Cert.KernelIdealProof.argQ m c = Cert.KernelIdealProof.share c _ := (hin c).1
  have hK (c) : Cert.KernelIdealProof.argK m c = Cert.KernelIdealProof.share c _ := (hin c).2.1
  have hV (c) : Cert.KernelIdealProof.argV m c = Cert.KernelIdealProof.share c _ := (hin c).2.2
  have fQ := Cert.KernelIdealProof.real_of_shares _ fun c x => by rw [← hQ c]; exact (fin c x).1
  have fK := Cert.KernelIdealProof.real_of_shares _ fun c x => by rw [← hK c]; exact (fin c x).2
  refine ⟨Cert.ReferenceIdealProof.result _ _ _, (θ_run Cert.KernelIdeal.defs _ _).mono (fun r h c => ?_)
    (Cert.KernelIdealProof.run (F := Ideal) m ρ), (θ_run Cert.ReferenceIdeal.defs _ _).mono (fun r h => h 0)
    (Cert.ReferenceIdeal.Value.run (F := Ideal) m' ρ')⟩
  exact ⟨(h.1 c).2.2.2.trans (Cert.KernelIdealProof.output_eq m _ _ _ hQ hK hV fQ fK c), (h.1 c).1, (h.1 c).2.1, (h.1 c).2.2.1⟩

theorem claim : Cert.Claim := ⟨Cert.Kernel.Gen.facts, Cert.KernelIdeal.Gen.facts, Cert.ReferenceIdeal.Gen.facts, preFacts, preFactsWhole,
  frame_kernel, frame_kernelIdeal, fun m ρ _ => frame_kernelIdeal m ρ trivial, frame_referenceIdeal,
  fun m ρ _ => frame_referenceIdeal m ρ trivial, trivial, algebraic⟩

end Cert.Proof

end
